-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Relayout (m : (ℓ : Loc Cert.Relayout.nD Cert.Relayout.τ Cert.Relayout.sig) → Buf (Elt Bits) ℓ) : Prop :=
  True

def Pre_RelayoutIdeal (m : (ℓ : Loc Cert.RelayoutIdeal.nD Cert.RelayoutIdeal.τ Cert.RelayoutIdeal.sig) → Buf (Elt Ideal) ℓ) : Prop :=
  True

def Pre_RelayoutRefIdeal (m : (ℓ : Loc Cert.RelayoutRefIdeal.nD Cert.RelayoutRefIdeal.τ Cert.RelayoutRefIdeal.sig) → Buf (Elt Ideal) ℓ) : Prop :=
  True

def Pre_Split (m : (ℓ : Loc Cert.Split.nD Cert.Split.τ Cert.Split.sig) → Buf (Elt Bits) ℓ) : Prop :=
  True

def Pre_SplitIdeal (m : (ℓ : Loc Cert.SplitIdeal.nD Cert.SplitIdeal.τ Cert.SplitIdeal.sig) → Buf (Elt Ideal) ℓ) : Prop :=
  True

def Pre_SplitRefIdeal (m : (ℓ : Loc Cert.SplitRefIdeal.nD Cert.SplitRefIdeal.τ Cert.SplitRefIdeal.sig) → Buf (Elt Ideal) ℓ) : Prop :=
  True

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleRefIdeal (m : (ℓ : Loc Cert.AssembleRefIdeal.nD Cert.AssembleRefIdeal.τ Cert.AssembleRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10))
      ∧ r.2.sem = fun _ => 0)

def quiescent_Relayout [hRelayout : Cert.Relayout.Facts] : Prop :=
  ∀ (m : (ℓ : Loc Cert.Relayout.nD Cert.Relayout.τ Cert.Relayout.sig) → Buf (Elt Bits) ℓ) (g : Dev Cert.Relayout.nD → PrngReg), Pre_Relayout m →
    θ_run (Cert.Relayout.defs (F := Bits)) (onTc (τ := Cert.Relayout.τ) (Cert.Relayout.main (F := Bits))) ⟨m, fun _ => 0, g⟩ (fun r => (∀ c : Dev Cert.Relayout.nD,
      r.2.mem ((c.tc : Thread Cert.Relayout.nD Cert.Relayout.τ).loc Cert.Relayout.main_arg0) = m ((c.tc : Thread Cert.Relayout.nD Cert.Relayout.τ).loc Cert.Relayout.main_arg0))
      ∧ r.2.sem = fun _ => 0)

def quiescent_RelayoutIdeal [hRelayoutIdeal : Cert.RelayoutIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg), Pre_RelayoutIdeal m →
    θ_run (Cert.RelayoutIdeal.defs (F := Ideal)) (onTc (τ := Cert.RelayoutIdeal.τ) (Cert.RelayoutIdeal.main (F := Ideal))) ⟨m, fun _ => 0, g⟩ (fun r => (∀ c : Dev Cert.RelayoutIdeal.nD,
      r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ r.2.sem = fun _ => 0)

def quiescent_RelayoutRefIdeal [hRelayoutRefIdeal : Cert.RelayoutRefIdeal.Facts] : Prop :=
  ∀ (m : (ℓ : Loc Cert.RelayoutRefIdeal.nD Cert.RelayoutRefIdeal.τ Cert.RelayoutRefIdeal.sig) → Buf (Elt Ideal) ℓ) (g : Dev Cert.RelayoutRefIdeal.nD → PrngReg), Pre_RelayoutRefIdeal m →
    θ_run (Cert.RelayoutRefIdeal.defs (F := Ideal)) (onTc (τ := Cert.RelayoutRefIdeal.τ) (Cert.RelayoutRefIdeal.main (F := Ideal))) ⟨m, fun _ => 0, g⟩ (fun r => (∀ c : Dev Cert.RelayoutRefIdeal.nD,
      r.2.mem ((c.tc : Thread Cert.RelayoutRefIdeal.nD Cert.RelayoutRefIdeal.τ).loc Cert.RelayoutRefIdeal.main_arg0) = m ((c.tc : Thread Cert.RelayoutRefIdeal.nD Cert.RelayoutRefIdeal.τ).loc Cert.RelayoutRefIdeal.main_arg0))
      ∧ r.2.sem = fun _ => 0)

def quiescent_Split [hSplit : Cert.Split.Facts] : Prop :=
  ∀ (m : (ℓ : Loc Cert.Split.nD Cert.Split.τ Cert.Split.sig) → Buf (Elt Bits) ℓ) (g : Dev Cert.Split.nD → PrngReg), Pre_Split m →
    θ_run (Cert.Split.defs (F := Bits)) (onTc (τ := Cert.Split.τ) (Cert.Split.main (F := Bits))) ⟨m, fun _ => 0, g⟩ (fun r => (∀ c : Dev Cert.Split.nD,
      r.2.mem ((c.tc : Thread Cert.Split.nD Cert.Split.τ).loc Cert.Split.main_arg0) = m ((c.tc : Thread Cert.Split.nD Cert.Split.τ).loc Cert.Split.main_arg0))
      ∧ r.2.sem = fun _ => 0)

def quiescent_SplitIdeal [hSplitIdeal : Cert.SplitIdeal.Facts] : Prop :=
  ∀ (m : (ℓ : Loc Cert.SplitIdeal.nD Cert.SplitIdeal.τ Cert.SplitIdeal.sig) → Buf (Elt Ideal) ℓ) (g : Dev Cert.SplitIdeal.nD → PrngReg), Pre_SplitIdeal m →
    θ_run (Cert.SplitIdeal.defs (F := Ideal)) (onTc (τ := Cert.SplitIdeal.τ) (Cert.SplitIdeal.main (F := Ideal))) ⟨m, fun _ => 0, g⟩ (fun r => (∀ c : Dev Cert.SplitIdeal.nD,
      r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ r.2.sem = fun _ => 0)

def quiescent_SplitRefIdeal [hSplitRefIdeal : Cert.SplitRefIdeal.Facts] : Prop :=
  ∀ (m : (ℓ : Loc Cert.SplitRefIdeal.nD Cert.SplitRefIdeal.τ Cert.SplitRefIdeal.sig) → Buf (Elt Ideal) ℓ) (g : Dev Cert.SplitRefIdeal.nD → PrngReg), Pre_SplitRefIdeal m →
    θ_run (Cert.SplitRefIdeal.defs (F := Ideal)) (onTc (τ := Cert.SplitRefIdeal.τ) (Cert.SplitRefIdeal.main (F := Ideal))) ⟨m, fun _ => 0, g⟩ (fun r => (∀ c : Dev Cert.SplitRefIdeal.nD,
      r.2.mem ((c.tc : Thread Cert.SplitRefIdeal.nD Cert.SplitRefIdeal.τ).loc Cert.SplitRefIdeal.main_arg0) = m ((c.tc : Thread Cert.SplitRefIdeal.nD Cert.SplitRefIdeal.τ).loc Cert.SplitRefIdeal.main_arg0))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1))
      ∧ r.2.sem = fun _ => 0)

def quiescent_AssembleRefIdeal [hAssembleRefIdeal : Cert.AssembleRefIdeal.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def preserves_Kernel_KernelIdeal : Prop :=
  True

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v9)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v9) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v61) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v189) = v0 c
          ∧ r.2.mem ((c.tc : Thread Cert.InprojRefIdeal.nD Cert.InprojRefIdeal.τ).loc Cert.InprojRefIdeal.main_v193) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v16)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v16) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v118) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10))

def preserves_Relayout_RelayoutIdeal : Prop :=
  True

def algebraic_RelayoutIdeal_RelayoutRefIdeal [hRelayoutIdeal : Cert.RelayoutIdeal.Facts] [hRelayoutRefIdeal : Cert.RelayoutRefIdeal.Facts] : Prop :=
  ∀ (m : (ℓ : Loc Cert.RelayoutIdeal.nD Cert.RelayoutIdeal.τ Cert.RelayoutIdeal.sig) → Buf (Elt Ideal) ℓ) (g : Dev Cert.RelayoutIdeal.nD → PrngReg)
    (m' : (ℓ : Loc Cert.RelayoutRefIdeal.nD Cert.RelayoutRefIdeal.τ Cert.RelayoutRefIdeal.sig) → Buf (Elt Ideal) ℓ) (g' : Dev Cert.RelayoutRefIdeal.nD → PrngReg), Pre_RelayoutIdeal m →
    (∀ c : Dev Cert.RelayoutIdeal.nD,
      m' ((c.tc : Thread Cert.RelayoutRefIdeal.nD Cert.RelayoutRefIdeal.τ).loc Cert.RelayoutRefIdeal.main_arg0) = m ((c.tc : Thread Cert.RelayoutIdeal.nD Cert.RelayoutIdeal.τ).loc Cert.RelayoutIdeal.main_arg0)) →
    ∃ (v0 : (c : Dev Cert.RelayoutIdeal.nD) → Buf (Elt Ideal) ((c.tc : Thread Cert.RelayoutIdeal.nD Cert.RelayoutIdeal.τ).loc Cert.RelayoutIdeal.main_v0_0)) (v1 : (c : Dev Cert.RelayoutIdeal.nD) → Buf (Elt Ideal) ((c.tc : Thread Cert.RelayoutIdeal.nD Cert.RelayoutIdeal.τ).loc Cert.RelayoutIdeal.main_v0_1)),
      θ_run (Cert.RelayoutIdeal.defs (F := Ideal)) (onTc (τ := Cert.RelayoutIdeal.τ) (Cert.RelayoutIdeal.main (F := Ideal))) ⟨m, fun _ => 0, g⟩ (fun r => ∀ c : Dev Cert.RelayoutIdeal.nD,
          r.2.mem ((c.tc : Thread Cert.RelayoutIdeal.nD Cert.RelayoutIdeal.τ).loc Cert.RelayoutIdeal.main_v0_0) = v0 c
          ∧ r.2.mem ((c.tc : Thread Cert.RelayoutIdeal.nD Cert.RelayoutIdeal.τ).loc Cert.RelayoutIdeal.main_v0_1) = v1 c
          ∧ r.2.mem ((c.tc : Thread Cert.RelayoutIdeal.nD Cert.RelayoutIdeal.τ).loc Cert.RelayoutIdeal.main_arg0) = m ((c.tc : Thread Cert.RelayoutIdeal.nD Cert.RelayoutIdeal.τ).loc Cert.RelayoutIdeal.main_arg0))
      ∧ θ_run (Cert.RelayoutRefIdeal.defs (F := Ideal)) (onTc (τ := Cert.RelayoutRefIdeal.τ) (Cert.RelayoutRefIdeal.main (F := Ideal))) ⟨m', fun _ => 0, g'⟩ (fun r => ∀ c : Dev Cert.RelayoutRefIdeal.nD,
          r.2.mem ((c.tc : Thread Cert.RelayoutRefIdeal.nD Cert.RelayoutRefIdeal.τ).loc Cert.RelayoutRefIdeal.main_v12) = v0 c
          ∧ r.2.mem ((c.tc : Thread Cert.RelayoutRefIdeal.nD Cert.RelayoutRefIdeal.τ).loc Cert.RelayoutRefIdeal.main_v13) = v1 c
          ∧ r.2.mem ((c.tc : Thread Cert.RelayoutRefIdeal.nD Cert.RelayoutRefIdeal.τ).loc Cert.RelayoutRefIdeal.main_arg0) = m' ((c.tc : Thread Cert.RelayoutRefIdeal.nD Cert.RelayoutRefIdeal.τ).loc Cert.RelayoutRefIdeal.main_arg0))

def preserves_Split_SplitIdeal : Prop :=
  True

def algebraic_SplitIdeal_SplitRefIdeal [hSplitIdeal : Cert.SplitIdeal.Facts] [hSplitRefIdeal : Cert.SplitRefIdeal.Facts] : Prop :=
  ∀ (m : (ℓ : Loc Cert.SplitIdeal.nD Cert.SplitIdeal.τ Cert.SplitIdeal.sig) → Buf (Elt Ideal) ℓ) (g : Dev Cert.SplitIdeal.nD → PrngReg)
    (m' : (ℓ : Loc Cert.SplitRefIdeal.nD Cert.SplitRefIdeal.τ Cert.SplitRefIdeal.sig) → Buf (Elt Ideal) ℓ) (g' : Dev Cert.SplitRefIdeal.nD → PrngReg), Pre_SplitIdeal m →
    (∀ c : Dev Cert.SplitIdeal.nD,
      m' ((c.tc : Thread Cert.SplitRefIdeal.nD Cert.SplitRefIdeal.τ).loc Cert.SplitRefIdeal.main_arg0) = m ((c.tc : Thread Cert.SplitIdeal.nD Cert.SplitIdeal.τ).loc Cert.SplitIdeal.main_arg0)) →
    ∃ (v0 : (c : Dev Cert.SplitIdeal.nD) → Buf (Elt Ideal) ((c.tc : Thread Cert.SplitIdeal.nD Cert.SplitIdeal.τ).loc Cert.SplitIdeal.main_v0_0)) (v1 : (c : Dev Cert.SplitIdeal.nD) → Buf (Elt Ideal) ((c.tc : Thread Cert.SplitIdeal.nD Cert.SplitIdeal.τ).loc Cert.SplitIdeal.main_v0_1)),
      θ_run (Cert.SplitIdeal.defs (F := Ideal)) (onTc (τ := Cert.SplitIdeal.τ) (Cert.SplitIdeal.main (F := Ideal))) ⟨m, fun _ => 0, g⟩ (fun r => ∀ c : Dev Cert.SplitIdeal.nD,
          r.2.mem ((c.tc : Thread Cert.SplitIdeal.nD Cert.SplitIdeal.τ).loc Cert.SplitIdeal.main_v0_0) = v0 c
          ∧ r.2.mem ((c.tc : Thread Cert.SplitIdeal.nD Cert.SplitIdeal.τ).loc Cert.SplitIdeal.main_v0_1) = v1 c
          ∧ r.2.mem ((c.tc : Thread Cert.SplitIdeal.nD Cert.SplitIdeal.τ).loc Cert.SplitIdeal.main_arg0) = m ((c.tc : Thread Cert.SplitIdeal.nD Cert.SplitIdeal.τ).loc Cert.SplitIdeal.main_arg0))
      ∧ θ_run (Cert.SplitRefIdeal.defs (F := Ideal)) (onTc (τ := Cert.SplitRefIdeal.τ) (Cert.SplitRefIdeal.main (F := Ideal))) ⟨m', fun _ => 0, g'⟩ (fun r => ∀ c : Dev Cert.SplitRefIdeal.nD,
          r.2.mem ((c.tc : Thread Cert.SplitRefIdeal.nD Cert.SplitRefIdeal.τ).loc Cert.SplitRefIdeal.main_v0) = v0 c
          ∧ r.2.mem ((c.tc : Thread Cert.SplitRefIdeal.nD Cert.SplitRefIdeal.τ).loc Cert.SplitRefIdeal.main_v7) = v1 c
          ∧ r.2.mem ((c.tc : Thread Cert.SplitRefIdeal.nD Cert.SplitRefIdeal.τ).loc Cert.SplitRefIdeal.main_arg0) = m' ((c.tc : Thread Cert.SplitRefIdeal.nD Cert.SplitRefIdeal.τ).loc Cert.SplitRefIdeal.main_arg0))

def preserves_Assemble_AssembleIdeal : Prop :=
  True

def algebraic_AssembleIdeal_AssembleRefIdeal [hAssembleIdeal : Cert.AssembleIdeal.Facts] [hAssembleRefIdeal : Cert.AssembleRefIdeal.Facts] : Prop :=
  ∀ (m : (ℓ : Loc Cert.AssembleIdeal.nD Cert.AssembleIdeal.τ Cert.AssembleIdeal.sig) → Buf (Elt Ideal) ℓ) (g : Dev Cert.AssembleIdeal.nD → PrngReg)
    (m' : (ℓ : Loc Cert.AssembleRefIdeal.nD Cert.AssembleRefIdeal.τ Cert.AssembleRefIdeal.sig) → Buf (Elt Ideal) ℓ) (g' : Dev Cert.AssembleRefIdeal.nD → PrngReg), Pre_AssembleIdeal m →
    (∀ c : Dev Cert.AssembleIdeal.nD,
      m' ((c.tc : Thread Cert.AssembleRefIdeal.nD Cert.AssembleRefIdeal.τ).loc Cert.AssembleRefIdeal.main_arg0) = m ((c.tc : Thread Cert.AssembleIdeal.nD Cert.AssembleIdeal.τ).loc Cert.AssembleIdeal.main_arg0)
      ∧ m' ((c.tc : Thread Cert.AssembleRefIdeal.nD Cert.AssembleRefIdeal.τ).loc Cert.AssembleRefIdeal.main_arg1) = m ((c.tc : Thread Cert.AssembleIdeal.nD Cert.AssembleIdeal.τ).loc Cert.AssembleIdeal.main_arg1)) →
    ∃ (v0 : (c : Dev Cert.AssembleIdeal.nD) → Buf (Elt Ideal) ((c.tc : Thread Cert.AssembleIdeal.nD Cert.AssembleIdeal.τ).loc Cert.AssembleIdeal.main_v0)),
      θ_run (Cert.AssembleIdeal.defs (F := Ideal)) (onTc (τ := Cert.AssembleIdeal.τ) (Cert.AssembleIdeal.main (F := Ideal))) ⟨m, fun _ => 0, g⟩ (fun r => ∀ c : Dev Cert.AssembleIdeal.nD,
          r.2.mem ((c.tc : Thread Cert.AssembleIdeal.nD Cert.AssembleIdeal.τ).loc Cert.AssembleIdeal.main_v0) = v0 c
          ∧ r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
          ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1))
      ∧ θ_run (Cert.AssembleRefIdeal.defs (F := Ideal)) (onTc (τ := Cert.AssembleRefIdeal.τ) (Cert.AssembleRefIdeal.main (F := Ideal))) ⟨m', fun _ => 0, g'⟩ (fun r => ∀ c : Dev Cert.AssembleRefIdeal.nD,
          r.2.mem ((c.tc : Thread Cert.AssembleRefIdeal.nD Cert.AssembleRefIdeal.τ).loc Cert.AssembleRefIdeal.main_v6) = v0 c
          ∧ r.2.mem ((c.tc : Thread Cert.AssembleRefIdeal.nD Cert.AssembleRefIdeal.τ).loc Cert.AssembleRefIdeal.main_arg0) = m' ((c.tc : Thread Cert.AssembleRefIdeal.nD Cert.AssembleRefIdeal.τ).loc Cert.AssembleRefIdeal.main_arg0)
          ∧ r.2.mem ((c.tc : Thread Cert.AssembleRefIdeal.nD Cert.AssembleRefIdeal.τ).loc Cert.AssembleRefIdeal.main_arg1) = m' ((c.tc : Thread Cert.AssembleRefIdeal.nD Cert.AssembleRefIdeal.τ).loc Cert.AssembleRefIdeal.main_arg1))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v25) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v9)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v9) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v48) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def Claim : Prop :=
  ∃ (hKernel : Cert.Kernel.Facts) (hKernelIdeal : Cert.KernelIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hPost : Cert.Post.Facts) (hPostIdeal : Cert.PostIdeal.Facts) (hPostRefIdeal : Cert.PostRefIdeal.Facts) (hRelayout : Cert.Relayout.Facts) (hRelayoutIdeal : Cert.RelayoutIdeal.Facts) (hRelayoutRefIdeal : Cert.RelayoutRefIdeal.Facts) (hSplit : Cert.Split.Facts) (hSplitIdeal : Cert.SplitIdeal.Facts) (hSplitRefIdeal : Cert.SplitRefIdeal.Facts) (hAssemble : Cert.Assemble.Facts) (hAssembleIdeal : Cert.AssembleIdeal.Facts) (hAssembleRefIdeal : Cert.AssembleRefIdeal.Facts) (hModulation : Cert.Modulation.Facts) (hModulationIdeal : Cert.ModulationIdeal.Facts) (hModulationRefIdeal : Cert.ModulationRefIdeal.Facts) (hFfnFirst : Cert.FfnFirst.Facts) (hFfnFirstIdeal : Cert.FfnFirstIdeal.Facts) (hFfnFirstRefIdeal : Cert.FfnFirstRefIdeal.Facts),
    quiescent_Kernel (hKernel := hKernel)
    ∧ quiescent_KernelIdeal (hKernelIdeal := hKernelIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Post (hPost := hPost)
    ∧ quiescent_PostIdeal (hPostIdeal := hPostIdeal)
    ∧ quiescent_PostRefIdeal (hPostRefIdeal := hPostRefIdeal)
    ∧ quiescent_Relayout (hRelayout := hRelayout)
    ∧ quiescent_RelayoutIdeal (hRelayoutIdeal := hRelayoutIdeal)
    ∧ quiescent_RelayoutRefIdeal (hRelayoutRefIdeal := hRelayoutRefIdeal)
    ∧ quiescent_Split (hSplit := hSplit)
    ∧ quiescent_SplitIdeal (hSplitIdeal := hSplitIdeal)
    ∧ quiescent_SplitRefIdeal (hSplitRefIdeal := hSplitRefIdeal)
    ∧ quiescent_Assemble (hAssemble := hAssemble)
    ∧ quiescent_AssembleIdeal (hAssembleIdeal := hAssembleIdeal)
    ∧ quiescent_AssembleRefIdeal (hAssembleRefIdeal := hAssembleRefIdeal)
    ∧ quiescent_Modulation (hModulation := hModulation)
    ∧ quiescent_ModulationIdeal (hModulationIdeal := hModulationIdeal)
    ∧ quiescent_ModulationRefIdeal (hModulationRefIdeal := hModulationRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ preserves_Kernel_KernelIdeal
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Post_PostIdeal
    ∧ algebraic_PostIdeal_PostRefIdeal (hPostIdeal := hPostIdeal) (hPostRefIdeal := hPostRefIdeal)
    ∧ preserves_Relayout_RelayoutIdeal
    ∧ algebraic_RelayoutIdeal_RelayoutRefIdeal (hRelayoutIdeal := hRelayoutIdeal) (hRelayoutRefIdeal := hRelayoutRefIdeal)
    ∧ preserves_Split_SplitIdeal
    ∧ algebraic_SplitIdeal_SplitRefIdeal (hSplitIdeal := hSplitIdeal) (hSplitRefIdeal := hSplitRefIdeal)
    ∧ preserves_Assemble_AssembleIdeal
    ∧ algebraic_AssembleIdeal_AssembleRefIdeal (hAssembleIdeal := hAssembleIdeal) (hAssembleRefIdeal := hAssembleRefIdeal)
    ∧ preserves_Modulation_ModulationIdeal
    ∧ algebraic_ModulationIdeal_ModulationRefIdeal (hModulationIdeal := hModulationIdeal) (hModulationRefIdeal := hModulationRefIdeal)
    ∧ preserves_FfnFirst_FfnFirstIdeal
    ∧ algebraic_FfnFirstIdeal_FfnFirstRefIdeal (hFfnFirstIdeal := hFfnFirstIdeal) (hFfnFirstRefIdeal := hFfnFirstRefIdeal)
-- ==== Kernel.lean ====
abbrev S16384x4736 : Shape := ⟨2, ![16384, 4736]⟩
abbrev S4x256x512 : Shape := ⟨3, ![4, 256, 512]⟩
abbrev S1x1024 : Shape := ⟨2, ![1, 1024]⟩
abbrev S1x128 : Shape := ⟨2, ![1, 128]⟩
abbrev S128x512 : Shape := ⟨2, ![128, 512]⟩
abbrev S1x512 : Shape := ⟨2, ![1, 512]⟩
abbrev S16384x3072 : Shape := ⟨2, ![16384, 3072]⟩
abbrev S32x2x2x1x1024 : Shape := ⟨5, ![32, 2, 2, 1, 1024]⟩
abbrev S32x2x2x16x64x64 : Shape := ⟨6, ![32, 2, 2, 16, 64, 64]⟩
abbrev S32x2x2x512x256 : Shape := ⟨5, ![32, 2, 2, 512, 256]⟩
abbrev S256x4736 : Shape := ⟨2, ![256, 4736]⟩
abbrev S256x3072 : Shape := ⟨2, ![256, 3072]⟩
abbrev S1x1x2x1x1024 : Shape := ⟨5, ![1, 1, 2, 1, 1024]⟩
abbrev S1x1x2x16x64x64 : Shape := ⟨6, ![1, 1, 2, 16, 64, 64]⟩
abbrev S1x1x2x512x256 : Shape := ⟨5, ![1, 1, 2, 512, 256]⟩
abbrev S8x1024 : Shape := ⟨2, ![8, 1024]⟩
abbrev S256x256 : Shape := ⟨2, ![256, 256]⟩
abbrev S512x256 : Shape := ⟨2, ![512, 256]⟩
abbrev S8x256x128 : Shape := ⟨3, ![8, 256, 128]⟩
abbrev S256x128 : Shape := ⟨2, ![256, 128]⟩
abbrev S32x8x128 : Shape := ⟨3, ![32, 8, 128]⟩
abbrev S1x8x128 : Shape := ⟨3, ![1, 8, 128]⟩
abbrev S8x128 : Shape := ⟨2, ![8, 128]⟩
abbrev S128x256 : Shape := ⟨2, ![128, 256]⟩
abbrev S128x128 : Shape := ⟨2, ![128, 128]⟩
abbrev S1x256 : Shape := ⟨2, ![1, 256]⟩
abbrev S256x1 : Shape := ⟨2, ![256, 1]⟩
abbrev S1x256x512 : Shape := ⟨3, ![1, 256, 512]⟩
abbrev S256x512 : Shape := ⟨2, ![256, 512]⟩
abbrev S128x1 : Shape := ⟨2, ![128, 1]⟩
abbrev S64x128 : Shape := ⟨2, ![64, 128]⟩
abbrev S64x256 : Shape := ⟨2, ![64, 256]⟩
abbrev S1x1 : Shape := ⟨2, ![1, 1]⟩
abbrev S16x128 : Shape := ⟨2, ![16, 128]⟩
abbrev S16x16 : Shape := ⟨2, ![16, 16]⟩
abbrev S16x256 : Shape := ⟨2, ![16, 256]⟩
abbrev S1x256x128 : Shape := ⟨3, ![1, 256, 128]⟩
abbrev S32x128 : Shape := ⟨2, ![32, 128]⟩
abbrev S16x32 : Shape := ⟨2, ![16, 32]⟩
abbrev S1x64x128 : Shape := ⟨3, ![1, 64, 128]⟩
abbrev S32x256 : Shape := ⟨2, ![32, 256]⟩
abbrev S8x8x256 : Shape := ⟨3, ![8, 8, 256]⟩
abbrev S1x8x256 : Shape := ⟨3, ![1, 8, 256]⟩
abbrev S48x128 : Shape := ⟨2, ![48, 128]⟩
abbrev S16x48 : Shape := ⟨2, ![16, 48]⟩
abbrev S48x256 : Shape := ⟨2, ![48, 256]⟩
abbrev S16x64 : Shape := ⟨2, ![16, 64]⟩
abbrev S8x256 : Shape := ⟨2, ![8, 256]⟩
abbrev S1x1x1x1x1024 : Shape := ⟨5, ![1, 1, 1, 1, 1024]⟩
abbrev S64x64 : Shape := ⟨2, ![64, 64]⟩
abbrev S1x1x1x1x64x64 : Shape := ⟨6, ![1, 1, 1, 1, 64, 64]⟩
abbrev S1x1x1x512x256 : Shape := ⟨5, ![1, 1, 1, 512, 256]⟩

abbrev nBuf : Space → Nat
  | .hbm => 23
  | .vmem => 43
  | .smem => 0
  | _ => 0

abbrev bufTy : (tb : Table) → Fin (tcTables nBuf tb) → BufTy
  | .hbm, ⟨0, _⟩ => ⟨S16384x4736, .f32⟩
  | .hbm, ⟨1, _⟩ => ⟨S4x256x512, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x128, .f32⟩
  | .hbm, ⟨6, _⟩ => ⟨S1x128, .f32⟩
  | .hbm, ⟨7, _⟩ => ⟨S128x512, .bf16⟩
  | .hbm, ⟨8, _⟩ => ⟨S1x512, .f32⟩
  | .hbm, ⟨9, _⟩ => ⟨S4x256x512, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x128, .f32⟩
  | .hbm, ⟨14, _⟩ => ⟨S1x128, .f32⟩
  | .hbm, ⟨15, _⟩ => ⟨S128x512, .bf16⟩
  | .hbm, ⟨16, _⟩ => ⟨S1x512, .f32⟩
  | .hbm, ⟨17, _⟩ => ⟨S1x1024, .f32⟩
  | .hbm, ⟨18, _⟩ => ⟨S16384x3072, .bf16⟩
  | .hbm, ⟨19, _⟩ => ⟨S16384x3072, .bf16⟩
  | .hbm, ⟨20, _⟩ => ⟨S32x2x2x1x1024, .f32⟩
  | .hbm, ⟨21, _⟩ => ⟨S32x2x2x16x64x64, .f32⟩
  | .hbm, ⟨22, _⟩ => ⟨S32x2x2x512x256, .f32⟩
  | .local _ .vmem, ⟨0, _⟩ => ⟨S256x4736, .f32⟩
  | .local _ .vmem, ⟨1, _⟩ => ⟨S256x4736, .f32⟩
  | .local _ .vmem, ⟨2, _⟩ => ⟨S4x256x512, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S128x512, .bf16⟩
  | .local _ .vmem, ⟨9, _⟩ => ⟨S1x512, .f32⟩
  | .local _ .vmem, ⟨10, _⟩ => ⟨S256x4736, .f32⟩
  | .local _ .vmem, ⟨11, _⟩ => ⟨S256x4736, .f32⟩
  | .local _ .vmem, ⟨12, _⟩ => ⟨S4x256x512, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | .local _ .vmem, ⟨17, _⟩ => ⟨S1x128, .f32⟩
  | .local _ .vmem, ⟨18, _⟩ => ⟨S128x512, .bf16⟩
  | .local _ .vmem, ⟨19, _⟩ => ⟨S1x512, .f32⟩
  | .local _ .vmem, ⟨20, _⟩ => ⟨S1x1024, .f32⟩
  | .local _ .vmem, ⟨21, _⟩ => ⟨S256x3072, .bf16⟩
  | .local _ .vmem, ⟨22, _⟩ => ⟨S256x3072, .bf16⟩
  | .local _ .vmem, ⟨23, _⟩ => ⟨S256x3072, .bf16⟩
  | .local _ .vmem, ⟨24, _⟩ => ⟨S256x3072, .bf16⟩
  | .local _ .vmem, ⟨25, _⟩ => ⟨S1x1x2x1x1024, .f32⟩
  | .local _ .vmem, ⟨26, _⟩ => ⟨S1x1x2x1x1024, .f32⟩
  | .local _ .vmem, ⟨27, _⟩ => ⟨S1x1x2x16x64x64, .f32⟩
  | .local _ .vmem, ⟨28, _⟩ => ⟨S1x1x2x16x64x64, .f32⟩
  | .local _ .vmem, ⟨29, _⟩ => ⟨S1x1x2x512x256, .f32⟩
  | .local _ .vmem, ⟨30, _⟩ => ⟨S1x1x2x512x256, .f32⟩
  | .local _ .vmem, ⟨31, _⟩ => ⟨S8x1024, .f32⟩
  | .local _ .vmem, ⟨32, _⟩ => ⟨S256x256, .f32⟩
  | .local _ .vmem, ⟨33, _⟩ => ⟨S512x256, .f32⟩
  | .local _ .vmem, ⟨34, _⟩ => ⟨S8x256x128, .f32⟩
  | .local _ .vmem, ⟨35, _⟩ => ⟨S8x256x128, .f32⟩
  | .local _ .vmem, ⟨36, _⟩ => ⟨S8x256x128, .f32⟩
  | .local _ .vmem, ⟨37, _⟩ => ⟨S8x1024, .f32⟩
  | .local _ .vmem, ⟨38, _⟩ => ⟨S256x256, .f32⟩
  | .local _ .vmem, ⟨39, _⟩ => ⟨S512x256, .f32⟩
  | .local _ .vmem, ⟨40, _⟩ => ⟨S8x256x128, .f32⟩
  | .local _ .vmem, ⟨41, _⟩ => ⟨S8x256x128, .f32⟩
  | .local _ .vmem, ⟨42, _⟩ => ⟨S8x256x128, .f32⟩
  | _, _ => ⟨S16384x4736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0_0 : Ref sig .tc := ⟨.hbm, 18, rfl⟩
abbrev main_v0_1 : Ref sig .tc := ⟨.hbm, 19, rfl⟩
abbrev main_v0_2 : Ref sig .tc := ⟨.hbm, 20, rfl⟩
abbrev main_v0_3 : Ref sig .tc := ⟨.hbm, 21, rfl⟩
abbrev main_v0_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_scratch9 : Ref sig .tc := ⟨.vmem, 40, rfl⟩
abbrev cc0_scratch10 : Ref sig .tc := ⟨.vmem, 41, rfl⟩
abbrev cc0_scratch11 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22
abbrev cc0_sem20_0 : DmaSem sig := 23
abbrev cc0_sem20_1 : DmaSem sig := 24
abbrev cc0_sem21_0 : DmaSem sig := 25
abbrev cc0_sem21_1 : DmaSem sig := 26
abbrev cc0_sem22_0 : DmaSem sig := 27
abbrev cc0_sem22_1 : DmaSem sig := 28
abbrev cc0_sem23_0 : DmaSem sig := 29
abbrev cc0_sem23_1 : DmaSem sig := 30

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_2395 : BitVec 32 := 0#32
  let v11289 : BitVec 1 := Scalar.cmpi .eq arg1 c0_i32_2395
  let v11290 : BitVec 32 := Scalar.extui v11289
  let c0_i32_2396 : BitVec 32 := 0#32
  let v11291 : BitVec 1 := Scalar.cmpi .ne v11290 c0_i32_2396
  v11291

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let v2 : BitVec 32 := Scalar.subi c0_i32_0 arg1
  let v3 : BitVec 32 := Scalar.addi v1 v2
  let c0_i32_1 : BitVec 32 := 0#32
  let c0_i32_2 : BitVec 32 := 0#32
  ![v3.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_20 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let c0_i32_0 : BitVec 32 := 0#32
  let v2 : BitVec 32 := Scalar.subi c0_i32_0 arg1
  let v3 : BitVec 32 := Scalar.addi v1 v2
  let c0_i32_1 : BitVec 32 := 0#32
  let c0_i32_2 : BitVec 32 := 0#32
  ![v3.toNat, c0_i32_1.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_22 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![arg0.toNat, c0_i32.toNat, c0_i32_0.toNat, c0_i32_1.toNat, c0_i32_2.toNat, c0_i32_3.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S256x4736 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x4736 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S4x256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S256x3072 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x2x1x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x1x2x16x64x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S1x1x2x512x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]
-- ==== Ffn.lean ====
abbrev S16384x1024 : Shape := ⟨2, ![16384, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x8x6144 : Shape := ⟨3, ![1, 8, 6144]⟩
abbrev S8x6144 : Shape := ⟨2, ![8, 6144]⟩
abbrev S8x1x6144 : Shape := ⟨3, ![8, 1, 6144]⟩
abbrev S512x1024 : Shape := ⟨2, ![512, 1024]⟩
abbrev S1x1x6144 : Shape := ⟨3, ![1, 1, 6144]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x5632, .bf16⟩
  | .hbm, ⟨10, _⟩ => ⟨S2x2816x1024, .bf16⟩
  | .hbm, ⟨11, _⟩ => ⟨S1x8x6144, .f32⟩
  | .hbm, ⟨12, _⟩ => ⟨S8x6144, .f32⟩
  | .hbm, ⟨13, _⟩ => ⟨S8x1x6144, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x8x6144 : Shape := ⟨3, ![1, 8, 6144]⟩
abbrev S8x6144 : Shape := ⟨2, ![8, 6144]⟩
abbrev S1x6144 : Shape := ⟨2, ![1, 6144]⟩
abbrev S8192x6144 : Shape := ⟨2, ![8192, 6144]⟩
abbrev S4x6144 : Shape := ⟨2, ![4, 6144]⟩
abbrev S4x1x6144 : Shape := ⟨3, ![4, 1, 6144]⟩
abbrev S4x2048x6144 : Shape := ⟨3, ![4, 2048, 6144]⟩
abbrev S16384x6144 : Shape := ⟨2, ![16384, 6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 77
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x8x6144, .f32⟩
  | .hbm, ⟨7, _⟩ => ⟨S8x6144, .f32⟩
  | .hbm, ⟨8, _⟩ => ⟨S1x6144, .f32⟩
  | .hbm, ⟨9, _⟩ => ⟨S8192x6144, .f32⟩
  | .hbm, ⟨10, _⟩ => ⟨S4x6144, .f32⟩
  | .hbm, ⟨11, _⟩ => ⟨S4x1x6144, .f32⟩
  | .hbm, ⟨12, _⟩ => ⟨S4x2048x6144, .f32⟩
  | .hbm, ⟨13, _⟩ => ⟨S8192x6144, .f32⟩
  | .hbm, ⟨14, _⟩ => ⟨S16384x6144, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x1024x5632, .f32⟩
  | .hbm, ⟨42, _⟩ => ⟨S1024x5632, .f32⟩
  | .hbm, ⟨43, _⟩ => ⟨S16384x5632, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S1x2816x1024, .f32⟩
  | .hbm, ⟨57, _⟩ => ⟨S2816x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1024, .f32⟩
  | .hbm, ⟨73, _⟩ => ⟨S16384x1024, .f32⟩
  | .hbm, ⟨74, _⟩ => ⟨S1x1024, .f32⟩
  | .hbm, ⟨75, _⟩ => ⟨S16384x1024, .f32⟩
  | .hbm, ⟨76, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Inproj.lean ====
abbrev S16384x1024 : Shape := ⟨2, ![16384, 1024]⟩
abbrev S2x8x6144 : Shape := ⟨3, ![2, 8, 6144]⟩
abbrev S2x1024 : Shape := ⟨2, ![2, 1024]⟩
abbrev S2x1024x4736 : Shape := ⟨3, ![2, 1024, 4736]⟩
abbrev S2x1024x6144 : Shape := ⟨3, ![2, 1024, 6144]⟩
abbrev S2x4x1024 : Shape := ⟨3, ![2, 4, 1024]⟩
abbrev S2x4x1536 : Shape := ⟨3, ![2, 4, 1536]⟩
abbrev S2x1536 : Shape := ⟨2, ![2, 1536]⟩
abbrev S1x1024 : Shape := ⟨2, ![1, 1024]⟩
abbrev S1024 : Shape := ⟨1, ![1024]⟩
abbrev S1x4x1024 : Shape := ⟨3, ![1, 4, 1024]⟩
abbrev S4x1024 : Shape := ⟨2, ![4, 1024]⟩
abbrev S1x4x1536 : Shape := ⟨3, ![1, 4, 1536]⟩
abbrev S4x1536 : Shape := ⟨2, ![4, 1536]⟩
abbrev S4x2560 : Shape := ⟨2, ![4, 2560]⟩
abbrev S1x1536 : Shape := ⟨2, ![1, 1536]⟩
abbrev S1536 : Shape := ⟨1, ![1536]⟩
abbrev S2560 : Shape := ⟨1, ![2560]⟩
abbrev S1x2560 : Shape := ⟨2, ![1, 2560]⟩
abbrev S1x8x6144 : Shape := ⟨3, ![1, 8, 6144]⟩
abbrev S8x6144 : Shape := ⟨2, ![8, 6144]⟩
abbrev S8x1x6144 : Shape := ⟨3, ![8, 1, 6144]⟩
abbrev S16384x4736 : Shape := ⟨2, ![16384, 4736]⟩
abbrev S16384x6144 : Shape := ⟨2, ![16384, 6144]⟩
abbrev S256x1024 : Shape := ⟨2, ![256, 1024]⟩
abbrev S8x1024 : Shape := ⟨2, ![8, 1024]⟩
abbrev S1x1x6144 : Shape := ⟨3, ![1, 1, 6144]⟩
abbrev S1x1024x4736 : Shape := ⟨3, ![1, 1024, 4736]⟩
abbrev S1x1024x6144 : Shape := ⟨3, ![1, 1024, 6144]⟩
abbrev S256x4736 : Shape := ⟨2, ![256, 4736]⟩
abbrev S256x6144 : Shape := ⟨2, ![256, 6144]⟩
abbrev S272x1024 : Shape := ⟨2, ![272, 1024]⟩
abbrev S20x272x128 : Shape := ⟨3, ![20, 272, 128]⟩
abbrev S20x256x128 : Shape := ⟨3, ![20, 256, 128]⟩
abbrev S1x1x1024 : Shape := ⟨3, ![1, 1, 1024]⟩
abbrev S256 : Shape := ⟨1, ![256]⟩
abbrev S256x1 : Shape := ⟨2, ![256, 1]⟩
abbrev S8 : Shape := ⟨1, ![8]⟩
abbrev S8x1 : Shape := ⟨2, ![8, 1]⟩
abbrev S1x1024x256 : Shape := ⟨3, ![1, 1024, 256]⟩
abbrev S1024x256 : Shape := ⟨2, ![1024, 256]⟩
abbrev S272x256 : Shape := ⟨2, ![272, 256]⟩
abbrev S272x128 : Shape := ⟨2, ![272, 128]⟩
abbrev S1x272x128 : Shape := ⟨3, ![1, 272, 128]⟩
abbrev S256x256 : Shape := ⟨2, ![256, 256]⟩
abbrev S1x128 : Shape := ⟨2, ![1, 128]⟩
abbrev S1x128x128 : Shape := ⟨3, ![1, 128, 128]⟩
abbrev S128x128 : Shape := ⟨2, ![128, 128]⟩
abbrev S1x256x128 : Shape := ⟨3, ![1, 256, 128]⟩
abbrev S256x128 : Shape := ⟨2, ![256, 128]⟩
abbrev S1x1024x128 : Shape := ⟨3, ![1, 1024, 128]⟩
abbrev S1024x128 : Shape := ⟨2, ![1024, 128]⟩

abbrev nBuf : Space → Nat
  | .hbm => 30
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S2x8x6144, .f32⟩
  | .hbm, ⟨2, _⟩ => ⟨S2x1024, .f32⟩
  | .hbm, ⟨3, _⟩ => ⟨S2x1024x4736, .f32⟩
  | .hbm, ⟨4, _⟩ => ⟨S2x1024x6144, .f32⟩
  | .hbm, ⟨5, _⟩ => ⟨S2x4x1024, .f32⟩
  | .hbm, ⟨6, _⟩ => ⟨S2x1024, .f32⟩
  | .hbm, ⟨7, _⟩ => ⟨S2x4x1536, .f32⟩
  | .hbm, ⟨8, _⟩ => ⟨S2x1536, .f32⟩
  | .hbm, ⟨9, _⟩ => ⟨S2x1024x4736, .bf16⟩
  | .hbm, ⟨10, _⟩ => ⟨S2x1024x6144, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x4x1024, .f32⟩
  | .hbm, ⟨15, _⟩ => ⟨S4x1024, .f32⟩
  | .hbm, ⟨16, _⟩ => ⟨S1x4x1536, .f32⟩
  | .hbm, ⟨17, _⟩ => ⟨S4x1536, .f32⟩
  | .hbm, ⟨18, _⟩ => ⟨S4x2560, .f32⟩
  | .hbm, ⟨19, _⟩ => ⟨S1x1024, .f32⟩
  | .hbm, ⟨20, _⟩ => ⟨S1024, .f32⟩
  | .hbm, ⟨21, _⟩ => ⟨S1x1536, .f32⟩
  | .hbm, ⟨22, _⟩ => ⟨S1536, .f32⟩
  | .hbm, ⟨23, _⟩ => ⟨S2560, .f32⟩
  | .hbm, ⟨24, _⟩ => ⟨S1x2560, .f32⟩
  | .hbm, ⟨25, _⟩ => ⟨S1x8x6144, .f32⟩
  | .hbm, ⟨26, _⟩ => ⟨S8x6144, .f32⟩
  | .hbm, ⟨27, _⟩ => ⟨S8x1x6144, .f32⟩
  | .hbm, ⟨28, _⟩ => ⟨S16384x4736, .f32⟩
  | .hbm, ⟨29, _⟩ => ⟨S16384x6144, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1x1024x4736, .bf16⟩
  | .local _ .vmem, ⟨10, _⟩ => ⟨S1x1024x6144, .bf16⟩
  | .local _ .vmem, ⟨11, _⟩ => ⟨S4x2560, .f32⟩
  | .local _ .vmem, ⟨12, _⟩ => ⟨S1x2560, .f32⟩
  | .local _ .vmem, ⟨13, _⟩ => ⟨S256x4736, .f32⟩
  | .local _ .vmem, ⟨14, _⟩ => ⟨S256x4736, .f32⟩
  | .local _ .vmem, ⟨15, _⟩ => ⟨S256x6144, .bf16⟩
  | .local _ .vmem, ⟨16, _⟩ => ⟨S256x6144, .bf16⟩
  | .local _ .vmem, ⟨17, _⟩ => ⟨S272x1024, .f32⟩
  | .local _ .vmem, ⟨18, _⟩ => ⟨S20x272x128, .f32⟩
  | .local _ .vmem, ⟨19, _⟩ => ⟨S20x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4736 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4736 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S16384x1024 : Shape := ⟨2, ![16384, 1024]⟩
abbrev S2x8x6144 : Shape := ⟨3, ![2, 8, 6144]⟩
abbrev S2x1024 : Shape := ⟨2, ![2, 1024]⟩
abbrev S2x1024x4736 : Shape := ⟨3, ![2, 1024, 4736]⟩
abbrev S2x1024x6144 : Shape := ⟨3, ![2, 1024, 6144]⟩
abbrev S2x4x1024 : Shape := ⟨3, ![2, 4, 1024]⟩
abbrev S2x4x1536 : Shape := ⟨3, ![2, 4, 1536]⟩
abbrev S2x1536 : Shape := ⟨2, ![2, 1536]⟩
abbrev S1x8x6144 : Shape := ⟨3, ![1, 8, 6144]⟩
abbrev S8x6144 : Shape := ⟨2, ![8, 6144]⟩
abbrev S1x6144 : Shape := ⟨2, ![1, 6144]⟩
abbrev S8192x6144 : Shape := ⟨2, ![8192, 6144]⟩
abbrev S4x6144 : Shape := ⟨2, ![4, 6144]⟩
abbrev S4x1x6144 : Shape := ⟨3, ![4, 1, 6144]⟩
abbrev S4x2048x6144 : Shape := ⟨3, ![4, 2048, 6144]⟩
abbrev S16384x6144 : Shape := ⟨2, ![16384, 6144]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x4736 : Shape := ⟨3, ![1, 1024, 4736]⟩
abbrev S1024x4736 : Shape := ⟨2, ![1024, 4736]⟩
abbrev S16384x4736 : Shape := ⟨2, ![16384, 4736]⟩
abbrev S16384x1536 : Shape := ⟨2, ![16384, 1536]⟩
abbrev S16384x2176 : Shape := ⟨2, ![16384, 2176]⟩
abbrev S1x4x1024 : Shape := ⟨3, ![1, 4, 1024]⟩
abbrev S4x1024 : Shape := ⟨2, ![4, 1024]⟩
abbrev S8192x1024 : Shape := ⟨2, ![8192, 1024]⟩
abbrev S32x256x1024 : Shape := ⟨3, ![32, 256, 1024]⟩
abbrev S32x259x1024 : Shape := ⟨3, ![32, 259, 1024]⟩
abbrev S1x1x1024 : Shape := ⟨3, ![1, 1, 1024]⟩
abbrev S4x2048x1024 : Shape := ⟨3, ![4, 2048, 1024]⟩
abbrev S4x2051x1024 : Shape := ⟨3, ![4, 2051, 1024]⟩
abbrev S1x4x1536 : Shape := ⟨3, ![1, 4, 1536]⟩
abbrev S4x1536 : Shape := ⟨2, ![4, 1536]⟩
abbrev S1x1536 : Shape := ⟨2, ![1, 1536]⟩
abbrev S1536 : Shape := ⟨1, ![1536]⟩
abbrev S8192x1536 : Shape := ⟨2, ![8192, 1536]⟩
abbrev S32x256x1536 : Shape := ⟨3, ![32, 256, 1536]⟩
abbrev S32x259x1536 : Shape := ⟨3, ![32, 259, 1536]⟩
abbrev S1x1x1536 : Shape := ⟨3, ![1, 1, 1536]⟩
abbrev S4x2048x1536 : Shape := ⟨3, ![4, 2048, 1536]⟩
abbrev S4x2051x1536 : Shape := ⟨3, ![4, 2051, 1536]⟩
abbrev S1x1024x6144 : Shape := ⟨3, ![1, 1024, 6144]⟩
abbrev S1024x6144 : Shape := ⟨2, ![1024, 6144]⟩

abbrev nBuf : Space → Nat
  | .hbm => 217
  | .vmem => 0
  | .smem => 0
  | _ => 0

abbrev hbmTy0_0 (i : Nat) : BufTy := match i % 128 with
  | 0 => ⟨S16384x1024, .f32⟩
  | 1 => ⟨S2x8x6144, .f32⟩
  | 2 => ⟨S2x1024, .f32⟩
  | 3 => ⟨S2x1024x4736, .f32⟩
  | 4 => ⟨S2x1024x6144, .f32⟩
  | 5 => ⟨S2x4x1024, .f32⟩
  | 6 => ⟨S2x1024, .f32⟩
  | 7 => ⟨S2x4x1536, .f32⟩
  | 8 => ⟨S2x1536, .f32⟩
  | 9 => ⟨S1x8x6144, .f32⟩
  | 10 => ⟨S8x6144, .f32⟩
  | 11 => ⟨S1x6144, .f32⟩
  | 12 => ⟨S8192x6144, .f32⟩
  | 13 => ⟨S4x6144, .f32⟩
  | 14 => ⟨S4x1x6144, .f32⟩
  | 15 => ⟨S4x2048x6144, .f32⟩
  | 16 => ⟨S8192x6144, .f32⟩
  | 17 => ⟨S16384x6144, .f32⟩
  | 18 => ⟨S16384x1024, .f32⟩
  | 19 => ⟨S16384x1024, .f32⟩
  | 20 => ⟨S1x1024, .f32⟩
  | 21 => ⟨S1024, .f32⟩
  | 22 => ⟨S16384x1024, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S_, .f32⟩
  | 30 => ⟨S16384x1, .f32⟩
  | 31 => ⟨S16384x1, .f32⟩
  | 32 => ⟨S16384x1, .f32⟩
  | 33 => ⟨S16384x1024, .f32⟩
  | 34 => ⟨S16384x1024, .f32⟩
  | 35 => ⟨S1x1024, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S1x1024x4736, .f32⟩
  | 44 => ⟨S1024x4736, .f32⟩
  | 45 => ⟨S16384x4736, .f32⟩
  | 46 => ⟨S16384x1024, .f32⟩
  | 47 => ⟨S16384x1536, .f32⟩
  | 48 => ⟨S16384x2176, .f32⟩
  | 49 => ⟨S1x4x1024, .f32⟩
  | 50 => ⟨S4x1024, .f32⟩
  | 51 => ⟨S1x1024, .f32⟩
  | 52 => ⟨S1024, .f32⟩
  | 53 => ⟨S8192x1024, .f32⟩
  | 54 => ⟨S32x256x1024, .f32⟩
  | 55 => ⟨S_, .i32⟩
  | 56 => ⟨S_, .f32⟩
  | 57 => ⟨S32x259x1024, .f32⟩
  | 58 => ⟨S32x256x1024, .f32⟩
  | 59 => ⟨S1x1024, .f32⟩
  | 60 => ⟨S1024, .f32⟩
  | 61 => ⟨S1x1x1024, .f32⟩
  | 62 => ⟨S32x256x1024, .f32⟩
  | 63 => ⟨S32x256x1024, .f32⟩
  | 64 => ⟨S32x256x1024, .f32⟩
  | 65 => ⟨S1x1024, .f32⟩
  | 66 => ⟨S1024, .f32⟩
  | 67 => ⟨S1x1x1024, .f32⟩
  | 68 => ⟨S32x256x1024, .f32⟩
  | 69 => ⟨S32x256x1024, .f32⟩
  | 70 => ⟨S32x256x1024, .f32⟩
  | 71 => ⟨S32x256x1024, .f32⟩
  | 72 => ⟨S1x1024, .f32⟩
  | 73 => ⟨S1024, .f32⟩
  | 74 => ⟨S1x1x1024, .f32⟩
  | 75 => ⟨S32x256x1024, .f32⟩
  | 76 => ⟨S32x256x1024, .f32⟩
  | 77 => ⟨S32x256x1024, .f32⟩
  | 78 => ⟨S32x256x1024, .f32⟩
  | 79 => ⟨S1x1024, .f32⟩
  | 80 => ⟨S1024, .f32⟩
  | 81 => ⟨S1x1x1024, .f32⟩
  | 82 => ⟨S32x256x1024, .f32⟩
  | 83 => ⟨S32x256x1024, .f32⟩
  | 84 => ⟨S32x256x1024, .f32⟩
  | 85 => ⟨S1x1x1024, .f32⟩
  | 86 => ⟨S32x256x1024, .f32⟩
  | 87 => ⟨S32x256x1024, .f32⟩
  | 88 => ⟨S8192x1024, .f32⟩
  | 89 => ⟨S8192x1024, .f32⟩
  | 90 => ⟨S4x2048x1024, .f32⟩
  | 91 => ⟨S_, .i32⟩
  | 92 => ⟨S_, .f32⟩
  | 93 => ⟨S4x2051x1024, .f32⟩
  | 94 => ⟨S4x2048x1024, .f32⟩
  | 95 => ⟨S1x1024, .f32⟩
  | 96 => ⟨S1024, .f32⟩
  | 97 => ⟨S1x1x1024, .f32⟩
  | 98 => ⟨S4x2048x1024, .f32⟩
  | 99 => ⟨S4x2048x1024, .f32⟩
  | 100 => ⟨S4x2048x1024, .f32⟩
  | 101 => ⟨S1x1024, .f32⟩
  | 102 => ⟨S1024, .f32⟩
  | 103 => ⟨S1x1x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S1x1024, .f32⟩
  | 109 => ⟨S1024, .f32⟩
  | 110 => ⟨S1x1x1024, .f32⟩
  | 111 => ⟨S4x2048x1024, .f32⟩
  | 112 => ⟨S4x2048x1024, .f32⟩
  | 113 => ⟨S4x2048x1024, .f32⟩
  | 114 => ⟨S4x2048x1024, .f32⟩
  | 115 => ⟨S1x1024, .f32⟩
  | 116 => ⟨S1024, .f32⟩
  | 117 => ⟨S1x1x1024, .f32⟩
  | 118 => ⟨S4x2048x1024, .f32⟩
  | 119 => ⟨S4x2048x1024, .f32⟩
  | 120 => ⟨S4x2048x1024, .f32⟩
  | 121 => ⟨S1x1x1024, .f32⟩
  | 122 => ⟨S4x2048x1024, .f32⟩
  | 123 => ⟨S4x2048x1024, .f32⟩
  | 124 => ⟨S8192x1024, .f32⟩
  | 125 => ⟨S16384x1024, .f32⟩
  | 126 => ⟨S1x4x1536, .f32⟩
  | 127 => ⟨S4x1536, .f32⟩
  | _ => ⟨S16384x1024, .f32⟩

abbrev hbmTy0_1 (i : Nat) : BufTy := match i % 128 with
  | 0 => ⟨S1x1536, .f32⟩
  | 1 => ⟨S1536, .f32⟩
  | 2 => ⟨S8192x1536, .f32⟩
  | 3 => ⟨S32x256x1536, .f32⟩
  | 4 => ⟨S_, .i32⟩
  | 5 => ⟨S_, .f32⟩
  | 6 => ⟨S32x259x1536, .f32⟩
  | 7 => ⟨S32x256x1536, .f32⟩
  | 8 => ⟨S1x1536, .f32⟩
  | 9 => ⟨S1536, .f32⟩
  | 10 => ⟨S1x1x1536, .f32⟩
  | 11 => ⟨S32x256x1536, .f32⟩
  | 12 => ⟨S32x256x1536, .f32⟩
  | 13 => ⟨S32x256x1536, .f32⟩
  | 14 => ⟨S1x1536, .f32⟩
  | 15 => ⟨S1536, .f32⟩
  | 16 => ⟨S1x1x1536, .f32⟩
  | 17 => ⟨S32x256x1536, .f32⟩
  | 18 => ⟨S32x256x1536, .f32⟩
  | 19 => ⟨S32x256x1536, .f32⟩
  | 20 => ⟨S32x256x1536, .f32⟩
  | 21 => ⟨S1x1536, .f32⟩
  | 22 => ⟨S1536, .f32⟩
  | 23 => ⟨S1x1x1536, .f32⟩
  | 24 => ⟨S32x256x1536, .f32⟩
  | 25 => ⟨S32x256x1536, .f32⟩
  | 26 => ⟨S32x256x1536, .f32⟩
  | 27 => ⟨S32x256x1536, .f32⟩
  | 28 => ⟨S1x1536, .f32⟩
  | 29 => ⟨S1536, .f32⟩
  | 30 => ⟨S1x1x1536, .f32⟩
  | 31 => ⟨S32x256x1536, .f32⟩
  | 32 => ⟨S32x256x1536, .f32⟩
  | 33 => ⟨S32x256x1536, .f32⟩
  | 34 => ⟨S1x1x1536, .f32⟩
  | 35 => ⟨S32x256x1536, .f32⟩
  | 36 => ⟨S32x256x1536, .f32⟩
  | 37 => ⟨S8192x1536, .f32⟩
  | 38 => ⟨S8192x1536, .f32⟩
  | 39 => ⟨S4x2048x1536, .f32⟩
  | 40 => ⟨S_, .i32⟩
  | 41 => ⟨S_, .f32⟩
  | 42 => ⟨S4x2051x1536, .f32⟩
  | 43 => ⟨S4x2048x1536, .f32⟩
  | 44 => ⟨S1x1536, .f32⟩
  | 45 => ⟨S1536, .f32⟩
  | 46 => ⟨S1x1x1536, .f32⟩
  | 47 => ⟨S4x2048x1536, .f32⟩
  | 48 => ⟨S4x2048x1536, .f32⟩
  | 49 => ⟨S4x2048x1536, .f32⟩
  | 50 => ⟨S1x1536, .f32⟩
  | 51 => ⟨S1536, .f32⟩
  | 52 => ⟨S1x1x1536, .f32⟩
  | 53 => ⟨S4x2048x1536, .f32⟩
  | 54 => ⟨S4x2048x1536, .f32⟩
  | 55 => ⟨S4x2048x1536, .f32⟩
  | 56 => ⟨S4x2048x1536, .f32⟩
  | 57 => ⟨S1x1536, .f32⟩
  | 58 => ⟨S1536, .f32⟩
  | 59 => ⟨S1x1x1536, .f32⟩
  | 60 => ⟨S4x2048x1536, .f32⟩
  | 61 => ⟨S4x2048x1536, .f32⟩
  | 62 => ⟨S4x2048x1536, .f32⟩
  | 63 => ⟨S4x2048x1536, .f32⟩
  | 64 => ⟨S1x1536, .f32⟩
  | 65 => ⟨S1536, .f32⟩
  | 66 => ⟨S1x1x1536, .f32⟩
  | 67 => ⟨S4x2048x1536, .f32⟩
  | 68 => ⟨S4x2048x1536, .f32⟩
  | 69 => ⟨S4x2048x1536, .f32⟩
  | 70 => ⟨S1x1x1536, .f32⟩
  | 71 => ⟨S4x2048x1536, .f32⟩
  | 72 => ⟨S4x2048x1536, .f32⟩
  | 73 => ⟨S8192x1536, .f32⟩
  | 74 => ⟨S16384x1536, .f32⟩
  | 75 => ⟨S16384x1536, .f32⟩
  | 76 => ⟨S16384x1536, .f32⟩
  | 77 => ⟨S_, .f32⟩
  | 78 => ⟨S16384x1536, .f32⟩
  | 79 => ⟨S16384x1536, .f32⟩
  | 80 => ⟨S_, .f32⟩
  | 81 => ⟨S16384x1536, .f32⟩
  | 82 => ⟨S16384x1536, .f32⟩
  | 83 => ⟨S16384x1536, .f32⟩
  | 84 => ⟨S16384x4736, .f32⟩
  | 85 => ⟨S1x1024x6144, .f32⟩
  | 86 => ⟨S1024x6144, .f32⟩
  | 87 => ⟨S16384x6144, .f32⟩
  | 88 => ⟨S16384x6144, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_c_3 : Ref sig .tc := ⟨.hbm, 91, rfl⟩
abbrev main_call1_v0 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_c_4 : Ref sig .tc := ⟨.hbm, 132, rfl⟩
abbrev main_call2_v0 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_c_5 : Ref sig .tc := ⟨.hbm, 168, rfl⟩
abbrev main_call3_v0 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_cst_6 : Ref sig .tc := ⟨.hbm, 205, rfl⟩
abbrev main_v184 : Ref sig .tc := ⟨.hbm, 206, rfl⟩
abbrev main_v185 : Ref sig .tc := ⟨.hbm, 207, rfl⟩
abbrev main_cst_7 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩

abbrev nD : Nat := 1
abbrev τ : Topo := Topo.v7x

variable {F : FTy → Type} [FloatOps F]
-- ==== Post.lean ====
abbrev S16384x1024 : Shape := ⟨2, ![16384, 1024]⟩
abbrev S16384x3072 : Shape := ⟨2, ![16384, 3072]⟩
abbrev S16384x6144 : Shape := ⟨2, ![16384, 6144]⟩
abbrev S2x8x6144 : Shape := ⟨3, ![2, 8, 6144]⟩
abbrev S2x1024 : Shape := ⟨2, ![2, 1024]⟩
abbrev S2x256 : Shape := ⟨2, ![2, 256]⟩
abbrev S2x1024x1024 : Shape := ⟨3, ![2, 1024, 1024]⟩
abbrev S1x1024 : Shape := ⟨2, ![1, 1024]⟩
abbrev S1024 : Shape := ⟨1, ![1024]⟩
abbrev S1x256 : Shape := ⟨2, ![1, 256]⟩
abbrev S256 : Shape := ⟨1, ![256]⟩
abbrev S1x8x6144 : Shape := ⟨3, ![1, 8, 6144]⟩
abbrev S8x6144 : Shape := ⟨2, ![8, 6144]⟩
abbrev S8x1x6144 : Shape := ⟨3, ![8, 1, 6144]⟩
abbrev S512x1024 : Shape := ⟨2, ![512, 1024]⟩
abbrev S512x3072 : Shape := ⟨2, ![512, 3072]⟩
abbrev S512x6144 : Shape := ⟨2, ![512, 6144]⟩
abbrev S1x1x6144 : Shape := ⟨3, ![1, 1, 6144]⟩
abbrev S1x1024x1024 : Shape := ⟨3, ![1, 1024, 1024]⟩
abbrev S512 : Shape := ⟨1, ![512]⟩
abbrev S512x1 : Shape := ⟨2, ![512, 1]⟩
abbrev S512x256 : Shape := ⟨2, ![512, 256]⟩
abbrev S1024x1024 : Shape := ⟨2, ![1024, 1024]⟩
abbrev S1x1x1024 : Shape := ⟨3, ![1, 1, 1024]⟩

abbrev nBuf : Space → Nat
  | .hbm => 28
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x3072, .f32⟩
  | .hbm, ⟨2, _⟩ => ⟨S16384x3072, .f32⟩
  | .hbm, ⟨3, _⟩ => ⟨S16384x6144, .f32⟩
  | .hbm, ⟨4, _⟩ => ⟨S2x8x6144, .f32⟩
  | .hbm, ⟨5, _⟩ => ⟨S2x1024, .f32⟩
  | .hbm, ⟨6, _⟩ => ⟨S2x256, .f32⟩
  | .hbm, ⟨7, _⟩ => ⟨S2x1024x1024, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S2x1024x1024, .bf16⟩
  | .hbm, ⟨18, _⟩ => ⟨S2x1024x1024, .bf16⟩
  | .hbm, ⟨19, _⟩ => ⟨S2x1024x1024, .bf16⟩
  | .hbm, ⟨20, _⟩ => ⟨S2x1024x1024, .bf16⟩
  | .hbm, ⟨21, _⟩ => ⟨S16384x3072, .bf16⟩
  | .hbm, ⟨22, _⟩ => ⟨S16384x3072, .bf16⟩
  | .hbm, ⟨23, _⟩ => ⟨S16384x6144, .bf16⟩
  | .hbm, ⟨24, _⟩ => ⟨S1x8x6144, .f32⟩
  | .hbm, ⟨25, _⟩ => ⟨S8x6144, .f32⟩
  | .hbm, ⟨26, _⟩ => ⟨S8x1x6144, .f32⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .bf16⟩
  | .local _ .vmem, ⟨3, _⟩ => ⟨S512x3072, .bf16⟩
  | .local _ .vmem, ⟨4, _⟩ => ⟨S512x3072, .bf16⟩
  | .local _ .vmem, ⟨5, _⟩ => ⟨S512x3072, .bf16⟩
  | .local _ .vmem, ⟨6, _⟩ => ⟨S512x6144, .bf16⟩
  | .local _ .vmem, ⟨7, _⟩ => ⟨S512x6144, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1x256, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== PostRefIdeal.lean ====
abbrev S16384x1024 : Shape := ⟨2, ![16384, 1024]⟩
abbrev S16384x3072 : Shape := ⟨2, ![16384, 3072]⟩
abbrev S16384x6144 : Shape := ⟨2, ![16384, 6144]⟩
abbrev S2x8x6144 : Shape := ⟨3, ![2, 8, 6144]⟩
abbrev S2x1024 : Shape := ⟨2, ![2, 1024]⟩
abbrev S2x256 : Shape := ⟨2, ![2, 256]⟩
abbrev S2x1024x1024 : Shape := ⟨3, ![2, 1024, 1024]⟩
abbrev S_ : Shape := ⟨0, ![]⟩
abbrev S1x1024 : Shape := ⟨2, ![1, 1024]⟩
abbrev S1024 : Shape := ⟨1, ![1024]⟩
abbrev S16384 : Shape := ⟨1, ![16384]⟩
abbrev S16384x1 : Shape := ⟨2, ![16384, 1]⟩
abbrev S16384x4x256 : Shape := ⟨3, ![16384, 4, 256]⟩
abbrev S1x256 : Shape := ⟨2, ![1, 256]⟩
abbrev S256 : Shape := ⟨1, ![256]⟩
abbrev S16384x4 : Shape := ⟨2, ![16384, 4]⟩
abbrev S16384x4x1 : Shape := ⟨3, ![16384, 4, 1]⟩
abbrev S1x1x256 : Shape := ⟨3, ![1, 1, 256]⟩
abbrev S1x1024x1024 : Shape := ⟨3, ![1, 1024, 1024]⟩
abbrev S1024x1024 : Shape := ⟨2, ![1024, 1024]⟩
abbrev S1x8x6144 : Shape := ⟨3, ![1, 8, 6144]⟩
abbrev S8x6144 : Shape := ⟨2, ![8, 6144]⟩
abbrev S1x6144 : Shape := ⟨2, ![1, 6144]⟩
abbrev S8192x6144 : Shape := ⟨2, ![8192, 6144]⟩
abbrev S4x6144 : Shape := ⟨2, ![4, 6144]⟩
abbrev S4x1x6144 : Shape := ⟨3, ![4, 1, 6144]⟩
abbrev S4x2048x6144 : Shape := ⟨3, ![4, 2048, 6144]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S16384x3072, .f32⟩
  | 2 => ⟨S16384x3072, .f32⟩
  | 3 => ⟨S16384x6144, .f32⟩
  | 4 => ⟨S2x8x6144, .f32⟩
  | 5 => ⟨S2x1024, .f32⟩
  | 6 => ⟨S2x256, .f32⟩
  | 7 => ⟨S2x1024x1024, .f32⟩
  | 8 => ⟨S2x1024x1024, .f32⟩
  | 9 => ⟨S2x1024x1024, .f32⟩
  | 10 => ⟨S2x1024x1024, .f32⟩
  | 11 => ⟨S16384x3072, .f32⟩
  | 12 => ⟨S16384x1024, .f32⟩
  | 13 => ⟨S16384x1024, .f32⟩
  | 14 => ⟨S16384x1024, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384x1024, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S_, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S_, .f32⟩
  | 45 => ⟨S16384x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x1, .f32⟩
  | 62 => ⟨S16384x1024, .f32⟩
  | 63 => ⟨S16384x1024, .f32⟩
  | 64 => ⟨S1x1024, .f32⟩
  | 65 => ⟨S16384x1024, .f32⟩
  | 66 => ⟨S16384x1024, .f32⟩
  | 67 => ⟨S16384x4x256, .f32⟩
  | 68 => ⟨S1x256, .f32⟩
  | 69 => ⟨S256, .f32⟩
  | 70 => ⟨S16384x4x256, .f32⟩
  | 71 => ⟨S_, .f32⟩
  | 72 => ⟨S16384x4, .f32⟩
  | 73 => ⟨S16384x4x1, .f32⟩
  | 74 => ⟨S_, .f32⟩
  | 75 => ⟨S16384x4x1, .f32⟩
  | 76 => ⟨S16384x4x1, .f32⟩
  | 77 => ⟨S_, .f32⟩
  | 78 => ⟨S16384x4x1, .f32⟩
  | 79 => ⟨S16384x4x1, .f32⟩
  | 80 => ⟨S16384x4x1, .f32⟩
  | 81 => ⟨S16384x4x256, .f32⟩
  | 82 => ⟨S16384x4x256, .f32⟩
  | 83 => ⟨S1x1x256, .f32⟩
  | 84 => ⟨S16384x4x256, .f32⟩
  | 85 => ⟨S16384x4x256, .f32⟩
  | 86 => ⟨S16384x1024, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S_, .f32⟩
  | 103 => ⟨S16384x1024, .f32⟩
  | 104 => ⟨S16384x1024, .f32⟩
  | 105 => ⟨S1x1024x1024, .f32⟩
  | 106 => ⟨S1024x1024, .f32⟩
  | 107 => ⟨S16384x1024, .f32⟩
  | 108 => ⟨S16384x1024, .f32⟩
  | 109 => ⟨S16384x1024, .f32⟩
  | 110 => ⟨S16384x1024, .f32⟩
  | 111 => ⟨S_, .f32⟩
  | 112 => ⟨S16384x1024, .f32⟩
  | 113 => ⟨S16384x1024, .f32⟩
  | 114 => ⟨S_, .f32⟩
  | 115 => ⟨S16384x1024, .f32⟩
  | 116 => ⟨S16384x1024, .f32⟩
  | 117 => ⟨S1x1024x1024, .f32⟩
  | 118 => ⟨S1024x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S_, .f32⟩
  | 125 => ⟨S16384x1024, .f32⟩
  | 126 => ⟨S16384x1024, .f32⟩
  | 127 => ⟨S_, .f32⟩
  | _ => ⟨S16384x1024, .f32⟩

abbrev hbmTy0_1 (i : Nat) : BufTy := match i % 128 with
  | 0 => ⟨S16384x1024, .f32⟩
  | 1 => ⟨S16384x1024, .f32⟩
  | 2 => ⟨S1x1024x1024, .f32⟩
  | 3 => ⟨S1024x1024, .f32⟩
  | 4 => ⟨S16384x1024, .f32⟩
  | 5 => ⟨S16384x1024, .f32⟩
  | 6 => ⟨S16384x1024, .f32⟩
  | 7 => ⟨S1x8x6144, .f32⟩
  | 8 => ⟨S8x6144, .f32⟩
  | 9 => ⟨S1x6144, .f32⟩
  | 10 => ⟨S8192x6144, .f32⟩
  | 11 => ⟨S4x6144, .f32⟩
  | 12 => ⟨S4x1x6144, .f32⟩
  | 13 => ⟨S4x2048x6144, .f32⟩
  | 14 => ⟨S8192x6144, .f32⟩
  | 15 => ⟨S16384x6144, .f32⟩
  | 16 => ⟨S16384x1024, .f32⟩
  | 17 => ⟨S1x1024x1024, .f32⟩
  | 18 => ⟨S1024x1024, .f32⟩
  | 19 => ⟨S16384x1024, .f32⟩
  | 20 => ⟨S16384x1024, .f32⟩
  | 21 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_cst_16 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_cst_18 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩

abbrev nD : Nat := 1
abbrev τ : Topo := Topo.v7x

variable {F : FTy → Type} [FloatOps F]
-- ==== Relayout.lean ====
abbrev S2x1024x10816 : Shape := ⟨3, ![2, 1024, 10816]⟩
abbrev S2x1024x4736 : Shape := ⟨3, ![2, 1024, 4736]⟩
abbrev S2x1024x6144 : Shape := ⟨3, ![2, 1024, 6144]⟩
abbrev S1x128x10816 : Shape := ⟨3, ![1, 128, 10816]⟩
abbrev S1x128x4736 : Shape := ⟨3, ![1, 128, 4736]⟩
abbrev S1x128x6144 : Shape := ⟨3, ![1, 128, 6144]⟩
abbrev S1x128x1024 : Shape := ⟨3, ![1, 128, 1024]⟩
abbrev S128x1024 : Shape := ⟨2, ![128, 1024]⟩
abbrev S1x128x1536 : Shape := ⟨3, ![1, 128, 1536]⟩
abbrev S128x1536 : Shape := ⟨2, ![128, 1536]⟩
abbrev S1x128x2048 : Shape := ⟨3, ![1, 128, 2048]⟩
abbrev S128x2048 : Shape := ⟨2, ![128, 2048]⟩
abbrev S128x128 : Shape := ⟨2, ![128, 128]⟩
abbrev S1x128x128 : Shape := ⟨3, ![1, 128, 128]⟩
abbrev S1x128x3072 : Shape := ⟨3, ![1, 128, 3072]⟩
abbrev S128x3072 : Shape := ⟨2, ![128, 3072]⟩

abbrev nBuf : Space → Nat
  | .hbm => 3
  | .vmem => 6
  | .smem => 0
  | _ => 0

abbrev bufTy : (tb : Table) → Fin (tcTables nBuf tb) → BufTy
  | .hbm, ⟨0, _⟩ => ⟨S2x1024x10816, .f32⟩
  | .hbm, ⟨1, _⟩ => ⟨S2x1024x4736, .bf16⟩
  | .hbm, ⟨2, _⟩ => ⟨S2x1024x6144, .bf16⟩
  | .local _ .vmem, ⟨0, _⟩ => ⟨S1x128x10816, .f32⟩
  | .local _ .vmem, ⟨1, _⟩ => ⟨S1x128x10816, .f32⟩
  | .local _ .vmem, ⟨2, _⟩ => ⟨S1x128x4736, .bf16⟩
  | .local _ .vmem, ⟨3, _⟩ => ⟨S1x128x4736, .bf16⟩
  | .local _ .vmem, ⟨4, _⟩ => ⟨S1x128x6144, .bf16⟩
  | .local _ .vmem, ⟨5, _⟩ => ⟨S1x128x6144, .bf16⟩
  | _, _ => ⟨S2x1024x10816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x10816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RelayoutRefIdeal.lean ====
abbrev S2x1024x10816 : Shape := ⟨3, ![2, 1024, 10816]⟩
abbrev S2x1024x1024 : Shape := ⟨3, ![2, 1024, 1024]⟩
abbrev S2x1024x1536 : Shape := ⟨3, ![2, 1024, 1536]⟩
abbrev S2x1024x32 : Shape := ⟨3, ![2, 1024, 32]⟩
abbrev S2x1024x2048 : Shape := ⟨3, ![2, 1024, 2048]⟩
abbrev S2x1024x3072 : Shape := ⟨3, ![2, 1024, 3072]⟩
abbrev S_ : Shape := ⟨0, ![]⟩
abbrev S2x1024x64 : Shape := ⟨3, ![2, 1024, 64]⟩
abbrev S2x1024x4736 : Shape := ⟨3, ![2, 1024, 4736]⟩
abbrev S2x1024x6144 : Shape := ⟨3, ![2, 1024, 6144]⟩

abbrev nBuf : Space → Nat
  | .hbm => 16
  | .vmem => 0
  | .smem => 0
  | _ => 0

abbrev bufTy : (tb : Table) → Fin (tcTables nBuf tb) → BufTy
  | .hbm, ⟨0, _⟩ => ⟨S2x1024x10816, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1536, .f32⟩
  | .hbm, ⟨5, _⟩ => ⟨S2x1024x32, .f32⟩
  | .hbm, ⟨6, _⟩ => ⟨S2x1024x2048, .f32⟩
  | .hbm, ⟨7, _⟩ => ⟨S2x1024x1024, .f32⟩
  | .hbm, ⟨8, _⟩ => ⟨S2x1024x32, .f32⟩
  | .hbm, ⟨9, _⟩ => ⟨S2x1024x3072, .f32⟩
  | .hbm, ⟨10, _⟩ => ⟨S_, .f32⟩
  | .hbm, ⟨11, _⟩ => ⟨S2x1024x64, .f32⟩
  | .hbm, ⟨12, _⟩ => ⟨S2x1024x4736, .f32⟩
  | .hbm, ⟨13, _⟩ => ⟨S2x1024x6144, .f32⟩
  | .hbm, ⟨14, _⟩ => ⟨S2x1024x4736, .bf16⟩
  | .hbm, ⟨15, _⟩ => ⟨S2x1024x6144, .bf16⟩
  | _, _ => ⟨S2x1024x10816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Split.lean ====
abbrev S16384x1024 : Shape := ⟨2, ![16384, 1024]⟩
abbrev S8192x1024 : Shape := ⟨2, ![8192, 1024]⟩
abbrev S1024x1024 : Shape := ⟨2, ![1024, 1024]⟩
abbrev S64x1024 : Shape := ⟨2, ![64, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SplitRefIdeal.lean ====
abbrev S16384x1024 : Shape := ⟨2, ![16384, 1024]⟩
abbrev S8192x1024 : Shape := ⟨2, ![8192, 1024]⟩
abbrev S64x2x64x1024 : Shape := ⟨4, ![64, 2, 64, 1024]⟩
abbrev S64x1x64x1024 : Shape := ⟨4, ![64, 1, 64, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8192x1024, .f32⟩
  | .hbm, ⟨2, _⟩ => ⟨S8192x1024, .f32⟩
  | .hbm, ⟨3, _⟩ => ⟨S64x2x64x1024, .f32⟩
  | .hbm, ⟨4, _⟩ => ⟨S64x1x64x1024, .f32⟩
  | .hbm, ⟨5, _⟩ => ⟨S64x1x64x1024, .f32⟩
  | .hbm, ⟨6, _⟩ => ⟨S64x1x64x1024, .f32⟩
  | .hbm, ⟨7, _⟩ => ⟨S64x2x64x1024, .f32⟩
  | .hbm, ⟨8, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Assemble.lean ====
abbrev S8192x1024 : Shape := ⟨2, ![8192, 1024]⟩
abbrev S16384x1024 : Shape := ⟨2, ![16384, 1024]⟩
abbrev S1024x1024 : Shape := ⟨2, ![1024, 1024]⟩
abbrev S64x1024 : Shape := ⟨2, ![64, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AssembleRefIdeal.lean ====
abbrev S8192x1024 : Shape := ⟨2, ![8192, 1024]⟩
abbrev S64x2x64x1024 : Shape := ⟨4, ![64, 2, 64, 1024]⟩
abbrev S64x1x64x1024 : Shape := ⟨4, ![64, 1, 64, 1024]⟩
abbrev S16384x1024 : Shape := ⟨2, ![16384, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S64x2x64x1024, .f32⟩
  | .hbm, ⟨3, _⟩ => ⟨S64x1x64x1024, .f32⟩
  | .hbm, ⟨4, _⟩ => ⟨S64x1x64x1024, .f32⟩
  | .hbm, ⟨5, _⟩ => ⟨S64x1x64x1024, .f32⟩
  | .hbm, ⟨6, _⟩ => ⟨S64x2x64x1024, .f32⟩
  | .hbm, ⟨7, _⟩ => ⟨S8192x1024, .f32⟩
  | .hbm, ⟨8, _⟩ => ⟨S16384x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Modulation.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationRefIdeal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x6144, .f32⟩
  | .hbm, ⟨13, _⟩ => ⟨S1024x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x1024x6144, .f32⟩
  | .hbm, ⟨21, _⟩ => ⟨S1024x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== FfnFirst.lean ====
abbrev S16384x1024 : Shape := ⟨2, ![16384, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S1x8x6144 : Shape := ⟨3, ![1, 8, 6144]⟩
abbrev S8x6144 : Shape := ⟨2, ![8, 6144]⟩
abbrev S8x1x6144 : Shape := ⟨3, ![8, 1, 6144]⟩
abbrev S512x1024 : Shape := ⟨2, ![512, 1024]⟩
abbrev S1x1x6144 : Shape := ⟨3, ![1, 1, 6144]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S2x1024x5632, .bf16⟩
  | .hbm, ⟨10, _⟩ => ⟨S2x2816x1024, .bf16⟩
  | .hbm, ⟨11, _⟩ => ⟨S1x8x6144, .f32⟩
  | .hbm, ⟨12, _⟩ => ⟨S8x6144, .f32⟩
  | .hbm, ⟨13, _⟩ => ⟨S8x1x6144, .f32⟩
  | .hbm, ⟨14, _⟩ => ⟨S1x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1x1024x5632, .bf16⟩
  | .local _ .vmem, ⟨6, _⟩ => ⟨S1x2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstRefIdeal.lean ====
abbrev S16384x1024 : Shape := ⟨2, ![16384, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x8x6144 : Shape := ⟨3, ![1, 8, 6144]⟩
abbrev S8x6144 : Shape := ⟨2, ![8, 6144]⟩
abbrev S1x6144 : Shape := ⟨2, ![1, 6144]⟩
abbrev S8192x6144 : Shape := ⟨2, ![8192, 6144]⟩
abbrev S4x6144 : Shape := ⟨2, ![4, 6144]⟩
abbrev S4x1x6144 : Shape := ⟨3, ![4, 1, 6144]⟩
abbrev S4x2048x6144 : Shape := ⟨3, ![4, 2048, 6144]⟩
abbrev S16384x6144 : Shape := ⟨2, ![16384, 6144]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x2816x1024, .f32⟩
  | .hbm, ⟨5, _⟩ => ⟨S1024, .f32⟩
  | .hbm, ⟨6, _⟩ => ⟨S1x8x6144, .f32⟩
  | .hbm, ⟨7, _⟩ => ⟨S8x6144, .f32⟩
  | .hbm, ⟨8, _⟩ => ⟨S1x6144, .f32⟩
  | .hbm, ⟨9, _⟩ => ⟨S8192x6144, .f32⟩
  | .hbm, ⟨10, _⟩ => ⟨S4x6144, .f32⟩
  | .hbm, ⟨11, _⟩ => ⟨S4x1x6144, .f32⟩
  | .hbm, ⟨12, _⟩ => ⟨S4x2048x6144, .f32⟩
  | .hbm, ⟨13, _⟩ => ⟨S8192x6144, .f32⟩
  | .hbm, ⟨14, _⟩ => ⟨S16384x6144, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S1x1024x5632, .f32⟩
  | .hbm, ⟨42, _⟩ => ⟨S1024x5632, .f32⟩
  | .hbm, ⟨43, _⟩ => ⟨S16384x5632, .f32⟩
  | .hbm, ⟨44, _⟩ => ⟨S16384x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S_, .f32⟩
  | .hbm, ⟨49, _⟩ => ⟨S16384x2816, .f32⟩
  | .hbm, ⟨50, _⟩ => ⟨S16384x2816, .f32⟩
  | .hbm, ⟨51, _⟩ => ⟨S_, .f32⟩
  | .hbm, ⟨52, _⟩ => ⟨S16384x2816, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S1x2816x1024, .f32⟩
  | .hbm, ⟨57, _⟩ => ⟨S2816x1024, .f32⟩
  | .hbm, ⟨58, _⟩ => ⟨S16384x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== Proof.FfnMath.lean ====
/- The feed-forward layer of one token, as a function of the token's row: the scalar mathematics both
   programs compute, and the identity between the two ways of writing the logistic function. -/
module

public import Idealize.ShloMosaic.PureOps.Ideal
public import Idealize.ShloMosaic.Lib.Pointwise
public import Idealize.ShloMosaic.Lib.IdealHost

@[expose] public section

set_option maxRecDepth 16384

noncomputable section

open Idealize.ShloMosaic

namespace Cert.Layer

/-- The root-mean-square factor of a row: `1 / sqrt (mean of squares + ε)`. -/
def rmsFactor (x : Fin 1024 → EReal) : EReal :=
  Ideal.rsqrt (Ideal.div (∑ l, x l * x l) (Ideal.ofBits .f32 0x44800000#32) + Ideal.ofBits .f32 0x358637BD#32)

/-- A normalised and modulated row: `rms_norm(x) · (1 + scale) + shift`. -/
def modulated (x g sc sh : Fin 1024 → EReal) (k : Fin 1024) : EReal :=
  x k * rmsFactor x * g k * (1 + sc k) + sh k

/-- `silu(a) · b`, the logistic function written as `1 / (1 + exp(-a))`. -/
def swiglu (a b : EReal) : EReal := a * Ideal.div 1 (1 + Ideal.exp (-a)) * b

/-- The hidden layer of width 2816 applied to a row `h`, column `n` of the output. -/
def ffnRow (h : Fin 1024 → EReal) (w1 : Fin 1024 → Fin 5632 → EReal) (w2 : Fin 2816 → Fin 1024 → EReal) (n : Fin 1024) : EReal :=
  ∑ f : Fin 2816, swiglu (∑ k, h k * w1 k ⟨f, by omega⟩) (∑ k, h k * w1 k ⟨2816 + f, by omega⟩) * w2 f n

/-- The residual stream after the feed-forward layer. -/
def ffnResidual (x g sc sh g2 : Fin 1024 → EReal) (w1 : Fin 1024 → Fin 5632 → EReal) (w2 : Fin 2816 → Fin 1024 → EReal)
    (n : Fin 1024) : EReal :=
  x n + g2 n * ffnRow (modulated x g sc sh) w1 w2 n

/-- The residual stream under the final norm. -/
def ffnOut (x g sc sh g2 : Fin 1024 → EReal) (w1 : Fin 1024 → Fin 5632 → EReal) (w2 : Fin 2816 → Fin 1024 → EReal)
    (gf : Fin 1024 → EReal) (n : Fin 1024) : EReal :=
  ffnResidual x g sc sh g2 w1 w2 n * rmsFactor (ffnResidual x g sc sh g2 w1 w2) * gf n

/-- The word of `0.5` is one half. -/
theorem half_word : Ideal.ofBits .f32 0x3F000000#32 = (((1 : ℝ) / 2 : ℝ) : EReal) := by
  simp [Ideal.ofBits, Ideal.ieee, -EReal.coe_mul]; norm_num

/-- `½ (1 + tanh (a/2))` is the logistic function, at the infinities too. -/
theorem half_tanh (a : EReal) :
    Ideal.ofBits .f32 0x3F000000#32 * (1 + Ideal.tanh (Ideal.ofBits .f32 0x3F000000#32 * a))
      = Ideal.div 1 (1 + Ideal.exp (-a)) := by
  show _ = Ideal.logistic a
  rw [half_word]
  induction a using EReal.rec with
  | bot =>
    rw [EReal.coe_mul_bot_of_pos (by norm_num), Ideal.tanh_bot, Ideal.logistic_bot]
    have : (1 : EReal) + -1 = 0 := by rw [← EReal.coe_one, ← EReal.coe_neg, ← EReal.coe_add]; simp
    rw [this, mul_zero]
  | top =>
    rw [EReal.coe_mul_top_of_pos (by norm_num), Ideal.tanh_top, Ideal.logistic_top]
    rw [← EReal.coe_one, ← EReal.coe_add, ← EReal.coe_mul]; norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have hp := Real.exp_pos (1 / 2 * r)
    have hq := Real.exp_pos (-(1 / 2 * r))
    rw [h1]
    generalize Real.exp (1 / 2 * r) = p at *
    generalize Real.exp (-(1 / 2 * r)) = q at *
    have : p = 1 / q := by field_simp; linarith
    subst this
    field_simp
    ring

end Cert.Layer

end
-- ==== Proof.FfnKernel.lean ====
/- What the feed-forward kernel's body stores, read at a row and a column of the block: the layer of that row. -/
module

public import proofs.«01_k».proof.Proof.Gen.FfnIdeal.Frame
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open scoped BigOperators

namespace Cert.FfnIdeal.Value

open Cert.FfnIdeal Cert.FfnIdeal.Gen Cert.Layer

/-- One of the products of the normalised rows with 256 columns of the first weights. -/
def columns (h : FVec Ideal S512x1024 .bf16) (w : Vec Ideal S1x1024x256 .bf16) : FVec Ideal S512x256 .f32 :=
  matmul dot_S512x1024_S1024x256_S512x256_1_0_0_1_n_n none h
    (shapeCast S1024x256 w shapeCasts_S1x1024x256_S1024x256 : FVec Ideal S1024x256 .bf16)
    (constant S512x256 .f32 0x00000000#32)

/-- The gated product of two such blocks of columns. -/
def gated (a b : FVec Ideal S512x256 .f32) : FVec Ideal S512x256 .bf16 :=
  truncf .bf16 (mulf (mulf a (mulf (broadcast S512x256 (Scalar.ofBits .f32 0x3F000000#32))
    (addf (broadcast S512x256 (Scalar.ofBits .f32 0x3F800000#32))
      (tanh (mulf (broadcast S512x256 (Scalar.ofBits .f32 0x3F000000#32)) a))))) b) bitsLt_bf16_f32

/-- The contribution of 256 hidden columns to the output. -/
def chunk (h : FVec Ideal S512x1024 .bf16) (wg wu : Vec Ideal S1x1024x256 .bf16) (wo : Vec Ideal S1x256x1024 .bf16) :
    FVec Ideal S512x1024 .f32 :=
  matmul dot_S512x256_S256x1024_S512x1024_1_0_0_1_n_n none (gated (columns h wg) (columns h wu))
    (shapeCast S256x1024 wo shapeCasts_S1x256x1024_S256x1024 : FVec Ideal S256x1024 .bf16) (constant S512x1024 .f32 0x00000000#32)

/-- The eleven contributions, added one after another to zero. -/
def accumulated (h : FVec Ideal S512x1024 .bf16) (x3 : Vec Ideal S1x1024x5632 .bf16) (x4 : Vec Ideal S1x2816x1024 .bf16) :
    FVec Ideal S512x1024 .f32 :=
  (addf (addf (addf (addf (addf (addf (addf (addf (addf (addf (addf (broadcast S512x1024 (Scalar.ofBits .f32 0x00000000#32))
    (chunk h (View.ld x3 r0_4) (View.ld x3 r0_5) (View.ld x4 r0_6)))
    (chunk h (View.ld x3 r0_7) (View.ld x3 r0_8) (View.ld x4 r0_9)))
    (chunk h (View.ld x3 r0_10) (View.ld x3 r0_11) (View.ld x4 r0_12)))
    (chunk h (View.ld x3 r0_13) (View.ld x3 r0_14) (View.ld x4 r0_15)))
    (chunk h (View.ld x3 r0_16) (View.ld x3 r0_17) (View.ld x4 r0_18)))
    (chunk h (View.ld x3 r0_19) (View.ld x3 r0_20) (View.ld x4 r0_21)))
    (chunk h (View.ld x3 r0_22) (View.ld x3 r0_23) (View.ld x4 r0_24)))
    (chunk h (View.ld x3 r0_25) (View.ld x3 r0_26) (View.ld x4 r0_27)))
    (chunk h (View.ld x3 r0_28) (View.ld x3 r0_29) (View.ld x4 r0_30)))
    (chunk h (View.ld x3 r0_31) (View.ld x3 r0_32) (View.ld x4 r0_33)))
    (chunk h (View.ld x3 r0_34) (View.ld x3 r0_35) (View.ld x4 r0_36)))

/-- The residual stream after the layer, of the block's 512 rows. -/
def added (x0 : Vec Ideal S512x1024 .f32) (x1 : Vec Ideal S1x1x6144 .f32) (acc : FVec Ideal S512x1024 .f32) : FVec Ideal S512x1024 .f32 :=
  addf x0 (mulf (broadcastTo S512x1024 (shapeCast S1x1024 (View.ld x1 r0_37) shapeCasts_S1x1x1024_S1x1024) broadcasts_S1x1024_S512x1024) acc)

/-- The final norm of the block's rows. -/
def normed (y : FVec Ideal S512x1024 .f32) (x5 : Vec Ideal S1x1024 .f32) : FVec Ideal S512x1024 .f32 :=
  mulf (mulf y (broadcastTo S512x1024 (rsqrt (addf (divf (shapeCast S512x1
      (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32))))
      broadcasts_S512x1_S512x1024))
    (broadcastTo S512x1024 (shapeCast S1x1024 x5 shapeCasts_S1x1024_S1x1024) broadcasts_S1x1024_S512x1024)

/-- The block the body stores, of the blocks it reads. -/
def stored (x0 : Vec Ideal S512x1024 .f32) (x1 : Vec Ideal S1x1x6144 .f32) (x2 : Vec Ideal S1x1024 .f32)
    (x3 : Vec Ideal S1x1024x5632 .bf16) (x4 : Vec Ideal S1x2816x1024 .bf16) (x5 : Vec Ideal S1x1024 .f32) : FVec Ideal S512x1024 .f32 :=
  normed (added x0 x1 (accumulated (k0_pay2 x0 x2 (View.ld x1 r0_2) (View.ld x1 r0_3)) x3 x4)) x5

variable (x0 : Vec Ideal S512x1024 .f32) (x1 : Vec Ideal S1x1x6144 .f32) (x2 : Vec Ideal S1x1024 .f32)
variable (x3 : Vec Ideal S1x1024x5632 .bf16) (x4 : Vec Ideal S1x2816x1024 .bf16) (x5 : Vec Ideal S1x1024 .f32)

/-- The normalised rows at a row and a column. -/
theorem hidden_at (r : Fin 512) (k : Fin 1024) :
    k0_pay2 x0 x2 (View.ld x1 r0_2) (View.ld x1 r0_3) (ix2 r k)
      = modulated (fun l => x0 (ix2 r l)) (fun l => x2 (ix2 0 l))
          (fun l => x1 (ix3 0 0 ⟨4096 + l, by omega⟩)) (fun l => x1 (ix3 0 0 ⟨3072 + l, by omega⟩)) k := by
  pointwise [k0_pay2, modulated, rmsFactor]

theorem columns_at (h : FVec Ideal S512x1024 .bf16) (w : Vec Ideal S1x1024x256 .bf16) (r : Fin 512) (f : Fin 256) :
    columns h w (ix2 r f) = ∑ k : Fin 1024, h (ix2 r k) * w (ix3 0 k f) := by
  pointwise! [columns]

theorem chunk_at (h : FVec Ideal S512x1024 .bf16) (wg wu : Vec Ideal S1x1024x256 .bf16) (wo : Vec Ideal S1x256x1024 .bf16)
    (r : Fin 512) (n : Fin 1024) :
    chunk h wg wu wo (ix2 r n) = ∑ f : Fin 256, swiglu (∑ k : Fin 1024, h (ix2 r k) * wg (ix3 0 k f))
      (∑ k : Fin 1024, h (ix2 r k) * wu (ix3 0 k f)) * wo (ix3 0 f n) := by
  pointwise [chunk, gated, swiglu, columns_at, half_tanh]

/-- Eleven terms added one after another to zero are their sum. -/
theorem sum_eleven (T : Fin 11 → EReal) :
    ∑ j, T j = 0 + T 0 + T 1 + T 2 + T 3 + T 4 + T 5 + T 6 + T 7 + T 8 + T 9 + T 10 := by
  rw [Fin.sum_univ_castSucc, Fin.sum_univ_castSucc, Fin.sum_univ_castSucc, Fin.sum_univ_eight, zero_add]
  rfl

theorem accumulated_at (h : FVec Ideal S512x1024 .bf16) (r : Fin 512) (n : Fin 1024) :
    accumulated h x3 x4 (ix2 r n) = ffnRow (fun k => h (ix2 r k)) (fun k f => x3 (ix3 0 k f)) (fun f n => x4 (ix3 0 f n)) n := by
  rw [ffnRow, Fin.sum_univ_tiles 11 256 rfl, sum_eleven]
  pointwise [accumulated, chunk_at]
  simp only [← Nat.add_assoc, Nat.reduceAdd]

/-- WHAT THE BODY STORES at a row and a column is the layer of that row. -/
theorem stored_at (r : Fin 512) (n : Fin 1024) :
    stored x0 x1 x2 x3 x4 x5 (ix2 r n)
      = ffnOut (fun l => x0 (ix2 r l)) (fun l => x2 (ix2 0 l)) (fun l => x1 (ix3 0 0 ⟨4096 + l, by omega⟩))
          (fun l => x1 (ix3 0 0 ⟨3072 + l, by omega⟩)) (fun l => x1 (ix3 0 0 ⟨5120 + l, by omega⟩))
          (fun k f => x3 (ix3 0 k f)) (fun f n => x4 (ix3 0 f n)) (fun l => x5 (ix2 0 l)) n := by
  have hh : (fun k => k0_pay2 x0 x2 (View.ld x1 r0_2) (View.ld x1 r0_3) (ix2 r k)) = _ := funext fun k => hidden_at x0 x1 x2 r k
  have hy : ∀ n, added x0 x1 (accumulated (k0_pay2 x0 x2 (View.ld x1 r0_2) (View.ld x1 r0_3)) x3 x4) (ix2 r n)
      = ffnResidual (fun l => x0 (ix2 r l)) (fun l => x2 (ix2 0 l)) (fun l => x1 (ix3 0 0 ⟨4096 + l, by omega⟩))
          (fun l => x1 (ix3 0 0 ⟨3072 + l, by omega⟩)) (fun l => x1 (ix3 0 0 ⟨5120 + l, by omega⟩))
          (fun k f => x3 (ix3 0 k f)) (fun f n => x4 (ix3 0 f n)) n := by
    intro n
    pointwise [added, ffnResidual, accumulated_at, hh]
  rw [stored, ffnOut]
  pointwise [normed, hy, rmsFactor]

/-- The body's result, as printed, is `stored` of the blocks. -/
theorem out_eq (r : Fin 512) (n : Fin 1024) : out0_6 x0 x1 x2 x3 x4 x5 (ix2 r n) = stored x0 x1 x2 x3 x4 x5 (ix2 r n) := by
  have h22 : k0_pay22 x0 x1 x2 x3 x4 x5 = k0_pay2 x0 x2 (View.ld x1 r0_2) (View.ld x1 r0_3) := by
    unfold k0_pay22
    simp (disch := decide) only [View.ld_unit_lit']
  have h4 : ∀ v0 v1 v15 v21 w, k0_pay4 (F := Ideal) v0 v1 v15 v21 w = columns (k0_pay2 v0 v1 v15 v21) w := fun _ _ _ _ _ => rfl
  have h5 : ∀ v0 v1 v15 v21 w, k0_pay5 (F := Ideal) v0 v1 v15 v21 w = columns (k0_pay2 v0 v1 v15 v21) w := fun _ _ _ _ _ => rfl
  have h6 : ∀ v0 v1 v15 v21 w, k0_pay6 (F := Ideal) v0 v1 v15 v21 w
      = mulf (broadcast S512x256 (Scalar.ofBits .f32 0x3F000000#32)) (columns (k0_pay2 v0 v1 v15 v21) w) := fun _ _ _ _ _ => rfl
  unfold out0_6
  frame_out
  rw [h22, h4, h5, h6, stored, accumulated]
  generalize k0_pay2 x0 x2 (View.ld x1 r0_2) (View.ld x1 r0_3) = h
  rfl

end Cert.FfnIdeal.Value

end
-- ==== Proof.FfnReference.lean ====
/- The reference of the feed-forward layer, read at a token and a column: the layer of that token's row. -/
module

public import proofs.«01_k».proof.Proof.Gen.FfnRefIdeal.Run
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open scoped BigOperators

namespace Cert.Layer

/-- The modulation row of a token: the context's tokens have row 0, the latent tokens of batch `b` have row `1 + b`. -/
def rowOf (R : Fin 16384) : Fin 8 := if h : R.val < 8192 then 0 else ⟨1 + (R.val - 8192) / 2048, by omega⟩

end Cert.Layer

namespace Cert.FfnRefIdeal.Value

open Cert.FfnRefIdeal Cert.FfnRefIdeal.Gen Cert.Layer

variable (a0 : FVec Ideal S16384x1024 .f32) (a1 : FVec Ideal S2x8x6144 .f32) (a2 : FVec Ideal S2x1024 .f32)
variable (a3 : FVec Ideal S2x1024x5632 .f32) (a4 : FVec Ideal S2x2816x1024 .f32) (a5 : FVec Ideal S1024 .f32)

/-- Every token's modulation row. -/
def modRows : FVec Ideal S16384x6144 .f32 :=
  concatenate S16384x6144 0 [⟨S8192x6144, (broadcastInDim S8192x6144 ![0, 1] bcast_S1x6144_S8192x6144_0_1 (extractStridedSlice S1x6144 ![0, 0] (shapeCast _ (extractStridedSlice S1x8x6144 ![1, 0, 0] a1 slices_S2x8x6144_S1x8x6144_1_0_0) shapeCasts_S1x8x6144_S8x6144) slices_S8x6144_S1x6144_0_0))⟩, ⟨S8192x6144, (shapeCast _ (broadcastInDim S4x2048x6144 ![0, 1, 2] bcast_S4x1x6144_S4x2048x6144_0_1_2 (broadcastInDim S4x1x6144 ![0, 2] bcast_S4x6144_S4x1x6144_0_2 (extractStridedSlice S4x6144 ![1, 0] (shapeCast _ (extractStridedSlice S1x8x6144 ![1, 0, 0] a1 slices_S2x8x6144_S1x8x6144_1_0_0) shapeCasts_S1x8x6144_S8x6144) slices_S8x6144_S4x6144_1_0))) shapeCasts_S4x2048x6144_S8192x6144)⟩] concatenates_S8192x6144_S8192x6144_S16384x6144_d0

/-- A row times its root-mean-square factor. -/
def scaled (x : FVec Ideal S16384x1024 .f32) : FVec Ideal S16384x1024 .f32 :=
  mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))

/-- The normalised and modulated rows. -/
def hidden : FVec Ideal S16384x1024 .f32 :=
  addf (mulf (mulf (scaled a0) (broadcastInDim S16384x1024 ![0, 1] bcast_S1x1024_S16384x1024_0_1 (broadcastInDim S1x1024 ![1] bcast_S1024_S1x1024_1 (shapeCast _ (extractStridedSlice S1x1024 ![1, 0] a2 slices_S2x1024_S1x1024_1_0) shapeCasts_S1x1024_S1024)))) (addf (broadcastInDim S16384x1024 ![] bcast_S_S16384x1024 (constant S_ .f32 0x3F800000#32)) (extractStridedSlice S16384x1024 ![0, 4096] (modRows a1) slices_S16384x6144_S16384x1024_0_4096))) (extractStridedSlice S16384x1024 ![0, 3072] (modRows a1) slices_S16384x6144_S16384x1024_0_3072)

/-- Both halves of the hidden layer. -/
def halves (h : FVec Ideal S16384x1024 .f32) : FVec Ideal S16384x5632 .f32 :=
  Host.dotGeneral dot_S16384x1024_S1024x5632_S16384x5632_1_0_0_1_n_n none h (shapeCast _ (extractStridedSlice S1x1024x5632 ![1, 0, 0] a3 slices_S2x1024x5632_S1x1024x5632_1_0_0) shapeCasts_S1x1024x5632_S1024x5632 : FVec Ideal S1024x5632 .f32)

/-- The gated hidden layer. -/
def gated (gu : FVec Ideal S16384x5632 .f32) : FVec Ideal S16384x2816 .f32 :=
  mulf (mulf (extractStridedSlice S16384x2816 ![0, 0] gu slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] gu slices_S16384x5632_S16384x2816_0_0)))))) (extractStridedSlice S16384x2816 ![0, 2816] gu slices_S16384x5632_S16384x2816_0_2816)

/-- The residual stream after the layer. -/
def added (act : FVec Ideal S16384x2816 .f32) : FVec Ideal S16384x1024 .f32 :=
  addf a0 (mulf (extractStridedSlice S16384x1024 ![0, 5120] (modRows a1) slices_S16384x6144_S16384x1024_0_5120) (Host.dotGeneral dot_S16384x2816_S2816x1024_S16384x1024_1_0_0_1_n_n none act (shapeCast _ (extractStridedSlice S1x2816x1024 ![1, 0, 0] a4 slices_S2x2816x1024_S1x2816x1024_1_0_0) shapeCasts_S1x2816x1024_S2816x1024 : FVec Ideal S2816x1024 .f32)))

/-- The reference's result. -/
def result : FVec Ideal S16384x1024 .f32 :=
  mulf (scaled (added a0 a1 a4 (gated (halves a3 (hidden a0 a1 a2))))) (broadcastInDim S16384x1024 ![0, 1] bcast_S1x1024_S16384x1024_0_1 (broadcastInDim S1x1024 ![1] bcast_S1024_S1x1024_1 a5))

/-- The run's result is `result` of the argument arrays. -/
theorem res_eq (m : (ℓ : Loc nD τ sig) → Buf (Elt Ideal) ℓ) (c : Dev nD) :
    res_main_v61 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- A token's modulation row is the row `rowOf` says. -/
theorem modRows_at (R : Fin 16384) (k : Fin 6144) : modRows a1 (ix2 R k) = a1 (ix3 1 (rowOf R) k) := by
  by_cases h : R.val < 8192
  · pointwise [modRows, rowOf, h]
  · pointwise [modRows, rowOf, h]

theorem scaled_at (x : FVec Ideal S16384x1024 .f32) (R : Fin 16384) (k : Fin 1024) :
    scaled x (ix2 R k) = x (ix2 R k) * rmsFactor (fun l => x (ix2 R l)) := by
  pointwise [scaled, rmsFactor]

theorem hidden_at (R : Fin 16384) (k : Fin 1024) :
    hidden a0 a1 a2 (ix2 R k) = modulated (fun l => a0 (ix2 R l)) (fun l => a2 (ix2 1 l))
      (fun l => a1 (ix3 1 (rowOf R) ⟨4096 + l, by omega⟩)) (fun l => a1 (ix3 1 (rowOf R) ⟨3072 + l, by omega⟩)) k := by
  pointwise [hidden, modulated, scaled_at, modRows_at]

theorem halves_at (h : FVec Ideal S16384x1024 .f32) (R : Fin 16384) (f : Fin 5632) :
    halves a3 h (ix2 R f) = ∑ k : Fin 1024, h (ix2 R k) * a3 (ix3 1 k f) := by
  pointwise [halves]

theorem added_at (gu : FVec Ideal S16384x5632 .f32) (R : Fin 16384) (n : Fin 1024) :
    added a0 a1 a4 (gated gu) (ix2 R n) = a0 (ix2 R n) + a1 (ix3 1 (rowOf R) ⟨5120 + n, by omega⟩)
      * ∑ f : Fin 2816, swiglu (gu (ix2 R ⟨f, by omega⟩)) (gu (ix2 R ⟨2816 + f, by omega⟩)) * a4 (ix3 1 f n) := by
  pointwise [added, gated, swiglu, modRows_at]

/-- THE REFERENCE'S RESULT at a token and a column is the layer of that token's row. -/
theorem result_at (R : Fin 16384) (n : Fin 1024) :
    result a0 a1 a2 a3 a4 a5 (ix2 R n)
      = ffnOut (fun l => a0 (ix2 R l)) (fun l => a2 (ix2 1 l)) (fun l => a1 (ix3 1 (rowOf R) ⟨4096 + l, by omega⟩))
          (fun l => a1 (ix3 1 (rowOf R) ⟨3072 + l, by omega⟩)) (fun l => a1 (ix3 1 (rowOf R) ⟨5120 + l, by omega⟩))
          (fun k f => a3 (ix3 1 k f)) (fun f n => a4 (ix3 1 f n)) (fun l => a5 (ix1 l)) n := by
  have hy : ∀ n, added a0 a1 a4 (gated (halves a3 (hidden a0 a1 a2))) (ix2 R n)
      = ffnResidual (fun l => a0 (ix2 R l)) (fun l => a2 (ix2 1 l)) (fun l => a1 (ix3 1 (rowOf R) ⟨4096 + l, by omega⟩))
          (fun l => a1 (ix3 1 (rowOf R) ⟨3072 + l, by omega⟩)) (fun l => a1 (ix3 1 (rowOf R) ⟨5120 + l, by omega⟩))
          (fun k f => a3 (ix3 1 k f)) (fun f n => a4 (ix3 1 f n)) n := by
    intro n
    rw [added_at, ffnResidual, ffnRow]
    simp only [halves_at, hidden_at]
  rw [ffnOut]
  pointwise [result, scaled_at, hy]

end Cert.FfnRefIdeal.Value

end
-- ==== Proof.FfnFinal.lean ====
/- The feed-forward kernel's result array after the run is the reference's result. -/
module

public import proofs.«01_k».proof.Proof.FfnKernel
public import proofs.«01_k».proof.Proof.FfnReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.Layer

variable (m : (ℓ : Loc nD τ sig) → Buf (Elt Ideal) ℓ)

/-- The reference's result over the kernel's argument arrays. -/
abbrev REF (c : Dev nD) : FVec Ideal S16384x1024 .f32 :=
  Cert.FfnRefIdeal.Value.result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Every window's block index at every grid point (decided). -/
theorem idx : ∀ t : Fin cfg0.N, win0_0.index t = ![t.val, 0]
    ∧ win0_1.index t = ![if t.val < 16 then 0 else 1 + (t.val - 16) / 4, 0, 0]
    ∧ win0_2.index t = ![0, 0]
    ∧ win0_3.index t = ![1, 0, 0]
    ∧ win0_4.index t = ![1, 0, 0]
    ∧ win0_5.index t = ![0, 0]
    ∧ win0_6.index t = ![t.val, 0] :=
  (by decide +kernel : ∀ t : Fin grid0.N, _)

/-- The token of row `r` of block `t`. -/
def token (t : Fin cfg0.N) (r : Fin 512) : Fin 16384 := ⟨t.val * 512 + r.val, by have h : t.val < 32 := t.isLt; omega⟩

theorem block0 (c : Dev nD) (t : Fin cfg0.N) (r : Fin 512) (l : Fin 1024) :
    iblk m c 0 t (ix2 r l) = m ((c : Thread nD τ).loc main_arg0) (ix2 (token t r) l) := by
  obtain ⟨e0, e1, e2, e3, e4, e5, e6⟩ := idx t
  blk_ext [iblk, V, e0, token]

/-- The arrays the host code prepares, read at an index. -/
theorem entry1 (c : Dev nD) (b : Fin 8) (l : Fin 6144) :
    V m c main_v7 (ix3 b 0 l) = m ((c : Thread nD τ).loc main_arg1) (ix3 1 b l) := by
  entry_read
  pointwise

theorem entry2 (c : Dev nD) (l : Fin 1024) :
    V m c main_v2 (ix2 0 l) = m ((c : Thread nD τ).loc main_arg2) (ix2 1 l) := by
  entry_read
  pointwise

theorem entry3 (c : Dev nD) (k : Fin 1024) (f : Fin 5632) :
    V m c main_v3 (ix3 1 k f) = m ((c : Thread nD τ).loc main_arg3) (ix3 1 k f) := by
  entry_read
  pointwise

theorem entry4 (c : Dev nD) (k : Fin 2816) (f : Fin 1024) :
    V m c main_v4 (ix3 1 k f) = m ((c : Thread nD τ).loc main_arg4) (ix3 1 k f) := by
  entry_read
  pointwise

theorem entry5 (c : Dev nD) (l : Fin 1024) :
    V m c main_v8 (ix2 0 l) = m ((c : Thread nD τ).loc main_arg5) (ix1 l) := by
  entry_read
  pointwise

theorem block1 (c : Dev nD) (t : Fin cfg0.N) (r : Fin 512) (l : Fin 6144) :
    iblk m c 1 t (ix3 0 0 l) = m ((c : Thread nD τ).loc main_arg1) (ix3 1 (rowOf (token t r)) l) := by
  obtain ⟨e0, e1, e2, e3, e4, e5, e6⟩ := idx t
  have h32 : t.val < 32 := t.isLt
  refine (congrArg (V m c main_v7) (?_ : ((cfg0.win 1).blk t).view.emb (ix3 0 0 l) = ix3 (rowOf (token t r)) 0 l)).trans (entry1 m c _ l)
  by_cases h : t.val < 16
  · have : rowOf (token t r) = 0 := by rw [rowOf, dif_pos (by simp only [token]; omega)]
    rw [this]
    rw [if_pos h] at e1
    blk_ext [e1]
  · have : (rowOf (token t r)).val = 1 + (t.val - 16) / 4 := by
      rw [rowOf, dif_neg (by simp only [token]; omega)]; simp only [token]; omega
    rw [if_neg h] at e1
    blk_ext [e1]

theorem block2 (c : Dev nD) (t : Fin cfg0.N) (l : Fin 1024) :
    iblk m c 2 t (ix2 0 l) = m ((c : Thread nD τ).loc main_arg2) (ix2 1 l) := by
  obtain ⟨e0, e1, e2, e3, e4, e5, e6⟩ := idx t
  exact (congrArg (V m c main_v2) (by blk_ext [e2] : ((cfg0.win 2).blk t).view.emb (ix2 0 l) = ix2 0 l)).trans (entry2 m c l)

theorem block3 (c : Dev nD) (t : Fin cfg0.N) (k : Fin 1024) (f : Fin 5632) :
    iblk m c 3 t (ix3 0 k f) = m ((c : Thread nD τ).loc main_arg3) (ix3 1 k f) := by
  obtain ⟨e0, e1, e2, e3, e4, e5, e6⟩ := idx t
  exact (congrArg (V m c main_v3) (by blk_ext [e3] : ((cfg0.win 3).blk t).view.emb (ix3 0 k f) = ix3 1 k f)).trans (entry3 m c k f)

theorem block4 (c : Dev nD) (t : Fin cfg0.N) (k : Fin 2816) (f : Fin 1024) :
    iblk m c 4 t (ix3 0 k f) = m ((c : Thread nD τ).loc main_arg4) (ix3 1 k f) := by
  obtain ⟨e0, e1, e2, e3, e4, e5, e6⟩ := idx t
  exact (congrArg (V m c main_v4) (by blk_ext [e4] : ((cfg0.win 4).blk t).view.emb (ix3 0 k f) = ix3 1 k f)).trans (entry4 m c k f)

theorem block5 (c : Dev nD) (t : Fin cfg0.N) (l : Fin 1024) :
    iblk m c 5 t (ix2 0 l) = m ((c : Thread nD τ).loc main_arg5) (ix1 l) := by
  obtain ⟨e0, e1, e2, e3, e4, e5, e6⟩ := idx t
  exact (congrArg (V m c main_v8) (by blk_ext [e5] : ((cfg0.win 5).blk t).view.emb (ix2 0 l) = ix2 0 l)).trans (entry5 m c l)

/-- POINT: what the body stores at a row and a column of block `t` is the reference there. -/
theorem point (c : Dev nD) (t : Fin cfg0.N) (r : Fin 512) (n : Fin 1024) :
    out0_6 (iblk m c 0 t) (iblk m c 1 t) (iblk m c 2 t) (iblk m c 3 t) (iblk m c 4 t) (iblk m c 5 t) (ix2 r n)
      = REF m c (ix2 (token t r) n) := by
  rw [out_eq, stored_at, REF, Cert.FfnRefIdeal.Value.result_at]
  simp only [block0, block1 m c t r, block2, block3, block4, block5]

/-- THE RESULT ARRAY after the run: the blocks tile it. -/
theorem final (c : Dev nD) : (dats m 0 c).arrAt 6 (cfgs 0).N = REF m c := by
  refine (dats m 0 c).arrAt_eq_of_covers 6 _ (by decide +kernel) fun t hf y => ?_
  idx_vars y
  obtain ⟨e0, e1, e2, e3, e4, e5, e6⟩ := idx t
  have he : ((cfg0.win 6).blk t).view.emb (ix2 y0 y1) = ix2 (token t y0) y1 := by
    blk_ext [e6, token]
  rw [he]
  blk_simp; rw [after0_6]
  exact point m c t y0 y1

end Cert.FfnIdeal.Value

end
-- ==== Proof.PostMath.lean ====
/- The gates, the branch norms and the merge of one token, as functions of the token's rows. -/
module

public import proofs.«01_k».proof.Proof.FfnMath

@[expose] public section

set_option maxRecDepth 16384

noncomputable section

open Idealize.ShloMosaic
open scoped BigOperators

namespace Cert.Layer

/-- The logistic function. -/
def gate (a : EReal) : EReal := Ideal.div 1 (1 + Ideal.exp (-a))

/-- The activation `a · logistic(a)`. -/
def silu (a : EReal) : EReal := a * gate a

/-- The tanh form of the Gaussian activation. -/
def gelu (a : EReal) : EReal :=
  Ideal.ofBits .f32 0x3F000000#32 * a * (1 + Ideal.tanh (Ideal.ofBits .f32 0x3F4C422A#32
    * (a + Ideal.ofBits .f32 0x3D372713#32 * (a * a * a))))

/-- The root-mean-square factor of one head of 256 columns. -/
def headFactor (x : Fin 256 → EReal) : EReal :=
  Ideal.rsqrt (Ideal.div (∑ l, x l * x l) (Ideal.ofBits .f32 0x43800000#32) + Ideal.ofBits .f32 0x358637BD#32)

/-- The first branch: the scan's output gated by the Gaussian activation. -/
def lruBranch (o g : Fin 1024 → EReal) (k : Fin 1024) : EReal := o k * gelu (g k)

/-- The second branch: the gated output, normalised over the row. -/
def ssdBranch (o z g : Fin 1024 → EReal) (k : Fin 1024) : EReal :=
  o k * silu (z k) * rmsFactor (fun l => o l * silu (z l)) * g k

/-- The third branch: the output normalised over each of four heads, then gated. -/
def glaBranch (o z : Fin 1024 → EReal) (g : Fin 256 → EReal) (k : Fin 1024) : EReal :=
  o k * headFactor (fun j => o ⟨k.val / 256 * 256 + j.val, by omega⟩) * g ⟨k.val % 256, by omega⟩ * silu (z k)

/-- The three branches' projections, each under its own gate, added up. -/
def merged (yl ys yg ml ms mg : Fin 1024 → EReal) (wl ws wg : Fin 1024 → Fin 1024 → EReal) (n : Fin 1024) : EReal :=
  gate (ml n) * (∑ k, yl k * wl k n) + gate (ms n) * (∑ k, ys k * ws k n) + gate (mg n) * (∑ k, yg k * wg k n)

/-- The residual stream after the mixer: `o` is the scan's output, `p` the gates, `g1` the residual's gate. -/
def postOut (x g1 : Fin 1024 → EReal) (o : Fin 3072 → EReal) (p : Fin 6144 → EReal) (gs : Fin 1024 → EReal) (gg : Fin 256 → EReal)
    (wl ws wg wo : Fin 1024 → Fin 1024 → EReal) (n : Fin 1024) : EReal :=
  x n + g1 n * ∑ k, merged (lruBranch (fun l => o ⟨l, by omega⟩) (fun l => p ⟨l, by omega⟩))
      (ssdBranch (fun l => o ⟨1024 + l, by omega⟩) (fun l => p ⟨1024 + l, by omega⟩) gs)
      (glaBranch (fun l => o ⟨2048 + l, by omega⟩) (fun l => p ⟨2048 + l, by omega⟩) gg)
      (fun l => p ⟨3072 + l, by omega⟩) (fun l => p ⟨4096 + l, by omega⟩) (fun l => p ⟨5120 + l, by omega⟩) wl ws wg k * wo k n

/-- The printed form of the gate. -/
theorem gate_tanh (a : EReal) :
    Ideal.ofBits .f32 0x3F000000#32 * (1 + Ideal.tanh (Ideal.ofBits .f32 0x3F000000#32 * a)) = gate a := half_tanh a

end Cert.Layer

end
-- ==== Proof.InprojMath.lean ====
/- The input projection of one token: the products with the sorted weights, and the centred convolution over a sequence. -/
module

public import proofs.«01_k».proof.Proof.PostMath

@[expose] public section

set_option maxRecDepth 16384

noncomputable section

open Idealize.ShloMosaic
open scoped BigOperators

namespace Cert.Layer

/-- A row times one column of the weights. -/
def product (h w : Fin 1024 → EReal) : EReal := ∑ k, h k * w k

theorem product_congr {h h' w w' : Fin 1024 → EReal} (hh : ∀ k, h k = h' k) (hw : ∀ k, w k = w' k) : product h w = product h' w' := by
  rw [funext hh, funext hw]

/-- Four taps of the centred convolution and its bias. -/
def conv (b : EReal) (w x : Fin 4 → EReal) : EReal := x 0 * w 0 + x 1 * w 1 + x 2 * w 2 + x 3 * w 3 + b

/-- The same, added up from the bias. -/
theorem conv_from_bias (b w0 w1 w2 w3 x0 x1 x2 x3 : EReal) :
    b + w0 * x0 + w1 * x1 + w2 * x2 + w3 * x3 = conv b ![w0, w1, w2, w3] ![x0, x1, x2, x3] := by
  simp only [conv, Matrix.cons_val_zero, Matrix.cons_val_one, Matrix.cons_val]
  rw [mul_comm w0, mul_comm w1, mul_comm w2, mul_comm w3]
  ac_rfl

/-- The activation of the convolved columns: none on the first 1024, `silu` on the others. -/
def act (c : ℕ) (a : EReal) : EReal := if c < 1024 then a else silu a

/-- A product with a row of zeros is zero. -/
theorem product_zero (h w : Fin 1024 → EReal) (hz : ∀ k, h k = 0) : product h w = 0 := by
  unfold product
  exact Finset.sum_eq_zero fun k _ => by rw [hz k, zero_mul]

end Cert.Layer
-- ==== Proof.InprojPieces.lean ====
/- What one store of the input-projection body puts into its scratch buffers and its outputs, wherever it stands:
   a slab of 128 columns of the product, the convolution of a slab at every second row, a block of plain columns. -/
module

public import proofs.«01_k».proof.Proof.Gen.InprojIdeal.Frame
public import proofs.«01_k».proof.Proof.InprojMath
public import Idealize.ShloMosaic.Lib.Pipeline.ValueKit

@[expose] public section

set_option maxRecDepth 16384

noncomputable section

open Idealize.ShloMosaic Idealize.ShloMosaic.TcCoe Idealize.SL.Sem
open scoped BigOperators

namespace Cert.InprojIdeal.Value

open Cert.InprojIdeal Cert.InprojIdeal.Gen Cert.Layer

/-- Every piece of the list holds `G` where it lies. -/
def Agree {S : Shape} {e : EltTy} (L : List (View.Piece (Elt Ideal) S e)) (G : S.Idx → Elt Ideal e) : Prop :=
  ∀ p ∈ L, ∀ x : p.1.shape.Idx, p.2 x = G (p.1.emb x)

theorem Agree.cons {S : Shape} {e : EltTy} {L : List (View.Piece (Elt Ideal) S e)} {G : S.Idx → Elt Ideal e}
    (r : Rect S) (w : r.shape.Idx → Elt Ideal e) (h : ∀ x, w x = G (r.emb x)) (hL : Agree L G) :
    Agree (⟨r, w⟩ :: L) G := by
  intro p hp
  rcases List.mem_cons.mp hp with rfl | hp
  · exact h
  · exact hL p hp

theorem Agree.nil {S : Shape} {e : EltTy} {G : S.Idx → Elt Ideal e} : Agree [] G := fun p hp => absurd hp List.not_mem_nil

/-- So the list leaves `G` wherever a piece lies. -/
theorem Agree.canon {S : Shape} {e : EltTy} {L : List (View.Piece (Elt Ideal) S e)} {G : S.Idx → Elt Ideal e} (hL : Agree L G) (y : S.Idx)
    (hy : ∃ p ∈ L, y ∈ p.1.set) : View.canon L y = G y := View.canon_apply_of_pieces (Val := Elt Ideal) G L hL y hy

/-! ## The slabs of the product -/

/-- The product of the rows with 256 columns. -/
def wide (h : FVec Ideal S272x1024 .bf16) (w : Vec Ideal S1x1024x256 .bf16) : FVec Ideal S272x256 .f32 :=
  matmul dot_S272x1024_S1024x256_S272x256_1_0_0_1_n_n none h
    (shapeCast S1024x256 w shapeCasts_S1x1024x256_S1024x256 : FVec Ideal S1024x256 .bf16) (constant S272x256 .f32 0x00000000#32)

/-- Its first 128 columns, -/
def slabLo (h : FVec Ideal S272x1024 .bf16) (w : Vec Ideal S1x1024x256 .bf16) : FVec Ideal S1x272x128 .f32 :=
  shapeCast S1x272x128 (extractStridedSlice S272x128 ![0, 0] (wide h w) slices_S272x256_o0_0_S272x128) shapeCasts_S272x128_S1x272x128

/-- and its last. -/
def slabHi (h : FVec Ideal S272x1024 .bf16) (w : Vec Ideal S1x1024x256 .bf16) : FVec Ideal S1x272x128 .f32 :=
  shapeCast S1x272x128 (extractStridedSlice S272x128 ![0, 128] (wide h w) slices_S272x256_o0_128_S272x128) shapeCasts_S272x128_S1x272x128

/-- The product at slab `s`, row `r` and column `j` of the slab. -/
def G1 (h : FVec Ideal S272x1024 .bf16) (x5 : Vec Ideal S1x1024x4736 .bf16) (s : Fin 20) (r : Fin 272) (j : Fin 128) : EReal :=
  product (fun k => h (ix2 r k)) (fun k => x5 (ix3 0 k ⟨128 * s + j, by omega⟩))

/-- As contents of the scratch buffer. -/
def H1 (h : FVec Ideal S272x1024 .bf16) (x5 : Vec Ideal S1x1024x4736 .bf16) (i : S20x272x128.Idx) : EReal := G1 h x5 (i 0) (i 1) (i 2)

variable (h : FVec Ideal S272x1024 .bf16) (x5 : Vec Ideal S1x1024x4736 .bf16)

theorem slabLo_at (w : Vec Ideal S1x1024x256 .bf16) (a : Fin 1) (r : Fin 272) (j : Fin 128) :
    slabLo h w (ix3 a r j) = product (fun k => h (ix2 r k)) (fun k => w (ix3 0 k ⟨j, by omega⟩)) := by
  pointwise [slabLo, wide, product]

theorem slabHi_at (w : Vec Ideal S1x1024x256 .bf16) (a : Fin 1) (r : Fin 272) (j : Fin 128) :
    slabHi h w (ix3 a r j) = product (fun k => h (ix2 r k)) (fun k => w (ix3 0 k ⟨128 + j, by omega⟩)) := by
  pointwise [slabHi, wide, product]

variable {arg6 : Memref sig .tc .vmem S1x1024x4736 .bf16} (harg6 : arg6.IsWhole)

/-- The rectangle of slab `s`, -/
abbrev slabRect (s : ℕ) (inb : ∀ a, ![s, 0, 0] a + S1x272x128.size a ≤ S20x272x128.size a) : Rect S20x272x128 :=
  Rect.unit (s := S20x272x128) ![s, 0, 0] S1x272x128.size inb

/-- and of the 256 columns of weights at column `c`. -/
abbrev weightRect (c : ℕ) (inb : ∀ a, ![0, 0, c] a + S1x1024x256.size a ≤ S1x1024x4736.size a) : Rect S1x1024x4736 :=
  Rect.unit (s := S1x1024x4736) ![0, 0, c] S1x1024x256.size inb

/-- An even slab holds the product, -/
theorem slabLo_piece (q : ℕ) (inb : ∀ a, ![2 * q, 0, 0] a + S1x272x128.size a ≤ S20x272x128.size a)
    (inb' : ∀ a, ![0, 0, 256 * q] a + S1x1024x256.size a ≤ S1x1024x4736.size a) (x : (slabRect (2 * q) inb).shape.Idx) :
    slabLo h (View.readAt (Elt Ideal) arg6.view (weightRect (256 * q) inb').toLoadRect (harg6.unread x5)) x
      = H1 h x5 ((slabRect (2 * q) inb).emb x) := by
  rw [View.readAt_eq_ld, harg6.read_unread]
  have hq : 2 * q + 1 ≤ 20 := inb 0
  idx_vars x
  rw [slabLo_at]
  have e : (slabRect (2 * q) inb).emb (ix3 x0 x1 x2) = ix3 ⟨2 * q, by omega⟩ x1 x2 := by blk_ext
  rw [e]
  show _ = G1 h x5 ⟨2 * q, _⟩ x1 x2
  refine product_congr (fun _ => rfl) fun k => ?_
  show x5 ((weightRect (256 * q) inb').emb _) = x5 _
  blk_ext

/-- and so does an odd one. -/
theorem slabHi_piece (q : ℕ) (inb : ∀ a, ![2 * q + 1, 0, 0] a + S1x272x128.size a ≤ S20x272x128.size a)
    (inb' : ∀ a, ![0, 0, 256 * q] a + S1x1024x256.size a ≤ S1x1024x4736.size a) (x : (slabRect (2 * q + 1) inb).shape.Idx) :
    slabHi h (View.readAt (Elt Ideal) arg6.view (weightRect (256 * q) inb').toLoadRect (harg6.unread x5)) x
      = H1 h x5 ((slabRect (2 * q + 1) inb).emb x) := by
  rw [View.readAt_eq_ld, harg6.read_unread]
  have hq : 2 * q + 1 + 1 ≤ 20 := inb 0
  idx_vars x
  rw [slabHi_at]
  have e : (slabRect (2 * q + 1) inb).emb (ix3 x0 x1 x2) = ix3 ⟨2 * q + 1, by omega⟩ x1 x2 := by blk_ext
  rw [e]
  show _ = G1 h x5 ⟨2 * q + 1, _⟩ x1 x2
  refine product_congr (fun _ => rfl) fun k => ?_
  show x5 ((weightRect (256 * q) inb').emb _) = x5 _
  blk_ext

/-! ## The convolution of a slab -/

/-- The four taps of 128 rows, added up from the bias. -/
def taps (b w0 : Vec Ideal S1x128 .f32) (v0 : Vec Ideal S1x128x128 .f32) (w1 : Vec Ideal S1x128 .f32) (v1 : Vec Ideal S1x128x128 .f32)
    (w2 : Vec Ideal S1x128 .f32) (v2 : Vec Ideal S1x128x128 .f32) (w3 : Vec Ideal S1x128 .f32) (v3 : Vec Ideal S1x128x128 .f32) :
    FVec Ideal S128x128 .f32 :=
  addf (addf (addf (addf (broadcastTo S128x128 (shapeCast S1x128 b shapeCasts_S1x128_S1x128) broadcasts_S1x128_S128x128)
    (mulf (broadcastTo S128x128 (shapeCast S1x128 w0 shapeCasts_S1x128_S1x128) broadcasts_S1x128_S128x128) (shapeCast S128x128 v0 shapeCasts_S1x128x128_S128x128)))
    (mulf (broadcastTo S128x128 (shapeCast S1x128 w1 shapeCasts_S1x128_S1x128) broadcasts_S1x128_S128x128) (shapeCast S128x128 v1 shapeCasts_S1x128x128_S128x128)))
    (mulf (broadcastTo S128x128 (shapeCast S1x128 w2 shapeCasts_S1x128_S1x128) broadcasts_S1x128_S128x128) (shapeCast S128x128 v2 shapeCasts_S1x128x128_S128x128)))
    (mulf (broadcastTo S128x128 (shapeCast S1x128 w3 shapeCasts_S1x128_S1x128) broadcasts_S1x128_S128x128) (shapeCast S128x128 v3 shapeCasts_S1x128x128_S128x128))

/-- As the first columns store them, -/
def convStage (b w0 : Vec Ideal S1x128 .f32) (v0 : Vec Ideal S1x128x128 .f32) (w1 : Vec Ideal S1x128 .f32) (v1 : Vec Ideal S1x128x128 .f32)
    (w2 : Vec Ideal S1x128 .f32) (v2 : Vec Ideal S1x128x128 .f32) (w3 : Vec Ideal S1x128 .f32) (v3 : Vec Ideal S1x128x128 .f32) :
    FVec Ideal S1x128x128 .f32 :=
  shapeCast S1x128x128 (taps b w0 v0 w1 v1 w2 v2 w3 v3) shapeCasts_S128x128_S1x128x128

/-- and under the activation, as the others do. -/
def siluStage (b w0 : Vec Ideal S1x128 .f32) (v0 : Vec Ideal S1x128x128 .f32) (w1 : Vec Ideal S1x128 .f32) (v1 : Vec Ideal S1x128x128 .f32)
    (w2 : Vec Ideal S1x128 .f32) (v2 : Vec Ideal S1x128x128 .f32) (w3 : Vec Ideal S1x128 .f32) (v3 : Vec Ideal S1x128x128 .f32) :
    FVec Ideal S1x128x128 .f32 :=
  shapeCast S1x128x128 (mulf (taps b w0 v0 w1 v1 w2 v2 w3 v3) (mulf (broadcast S128x128 (Scalar.ofBits .f32 0x3F000000#32))
    (addf (broadcast S128x128 (Scalar.ofBits .f32 0x3F800000#32))
      (tanh (mulf (broadcast S128x128 (Scalar.ofBits .f32 0x3F000000#32)) (taps b w0 v0 w1 v1 w2 v2 w3 v3)))))) shapeCasts_S128x128_S1x128x128

section
variable (b w0 : Vec Ideal S1x128 .f32) (v0 : Vec Ideal S1x128x128 .f32) (w1 : Vec Ideal S1x128 .f32) (v1 : Vec Ideal S1x128x128 .f32)
variable (w2 : Vec Ideal S1x128 .f32) (v2 : Vec Ideal S1x128x128 .f32) (w3 : Vec Ideal S1x128 .f32) (v3 : Vec Ideal S1x128x128 .f32)

theorem taps_at (r j : Fin 128) : taps b w0 v0 w1 v1 w2 v2 w3 v3 (ix2 r j)
    = conv (b (ix2 0 j)) ![w0 (ix2 0 j), w1 (ix2 0 j), w2 (ix2 0 j), w3 (ix2 0 j)]
        ![v0 (ix3 0 r j), v1 (ix3 0 r j), v2 (ix3 0 r j), v3 (ix3 0 r j)] := by
  rw [← conv_from_bias]
  pointwise [taps]

theorem convStage_at (a : Fin 1) (r j : Fin 128) : convStage b w0 v0 w1 v1 w2 v2 w3 v3 (ix3 a r j)
    = conv (b (ix2 0 j)) ![w0 (ix2 0 j), w1 (ix2 0 j), w2 (ix2 0 j), w3 (ix2 0 j)]
        ![v0 (ix3 0 r j), v1 (ix3 0 r j), v2 (ix3 0 r j), v3 (ix3 0 r j)] := by
  rw [← taps_at]
  pointwise [convStage]

theorem siluStage_at (a : Fin 1) (r j : Fin 128) : siluStage b w0 v0 w1 v1 w2 v2 w3 v3 (ix3 a r j)
    = silu (conv (b (ix2 0 j)) ![w0 (ix2 0 j), w1 (ix2 0 j), w2 (ix2 0 j), w3 (ix2 0 j)]
        ![v0 (ix3 0 r j), v1 (ix3 0 r j), v2 (ix3 0 r j), v3 (ix3 0 r j)]) := by
  rw [← taps_at, silu, ← gate_tanh]
  pointwise [siluStage]
end

/-- The convolution at slab `s`, row `r` and column `j` of the slab. -/
def G2 (h : FVec Ideal S272x1024 .bf16) (x5 : Vec Ideal S1x1024x4736 .bf16) (x7 : Vec Ideal S4x2560 .f32) (x8 : Vec Ideal S1x2560 .f32)
    (s : Fin 20) (r : Fin 256) (j : Fin 128) : EReal :=
  conv (x8 (ix2 0 ⟨128 * s + j, by omega⟩))
    ![x7 (ix2 0 ⟨128 * s + j, by omega⟩), x7 (ix2 1 ⟨128 * s + j, by omega⟩), x7 (ix2 2 ⟨128 * s + j, by omega⟩), x7 (ix2 3 ⟨128 * s + j, by omega⟩)]
    ![G1 h x5 s ⟨6 + r, by omega⟩ j, G1 h x5 s ⟨7 + r, by omega⟩ j, G1 h x5 s ⟨8 + r, by omega⟩ j, G1 h x5 s ⟨9 + r, by omega⟩ j]

/-- As contents of the scratch buffer, under the activation of its columns. -/
def H2 (h : FVec Ideal S272x1024 .bf16) (x5 : Vec Ideal S1x1024x4736 .bf16) (x7 : Vec Ideal S4x2560 .f32) (x8 : Vec Ideal S1x2560 .f32)
    (i : S20x256x128.Idx) : EReal := act (128 * (i 0).val) (G2 h x5 x7 x8 (i 0) (i 1) (i 2))

/-- Every second row of slab `s` from row `o`, as the taps are read, -/
abbrev tapRect (s o : ℕ) (inb : ∀ a, S1x128x128.size a = 0 ∨ ![s, o, 0] a + ![1, 2, 1] a * (S1x128x128.size a - 1) < S20x272x128.size a) :
    LoadRect S20x272x128 := { off := ![s, o, 0], size := S1x128x128.size, stride := ![1, 2, 1], inb := inb }

/-- and as the convolved rows are stored. -/
abbrev convRect (s o : ℕ) (inb : ∀ a, S1x128x128.size a = 0 ∨ ![s, o, 0] a + ![1, 2, 1] a * (S1x128x128.size a - 1) < S20x256x128.size a) :
    Rect S20x256x128 := { off := ![s, o, 0], size := S1x128x128.size, stride := ![1, 2, 1], inb := inb, stride_pos := spos_1_2_1 }

theorem tapRect_idx (s o : ℕ) (hs : s < 20) (ho : o ≤ 17) (inb) (a : Fin 1) (r j : Fin 128) :
    (tapRect s o inb).idx (ix3 a r j) = ix3 ⟨s, hs⟩ ⟨o + 2 * r, by omega⟩ j := by
  funext d
  apply Fin.ext
  have ha : a.val = 0 := by omega
  fin_cases d
  · show s + 1 * a.val = s; omega
  · show o + 2 * r.val = o + 2 * r.val; rfl
  · show 0 + 1 * j.val = j.val; omega

theorem convRect_idx (s o : ℕ) (hs : s < 20) (ho : o ≤ 1) (inb) (a : Fin 1) (r j : Fin 128) :
    (convRect s o inb).idx (ix3 a r j) = ix3 ⟨s, hs⟩ ⟨o + 2 * r, by omega⟩ j := by
  funext d
  apply Fin.ext
  have ha : a.val = 0 := by omega
  fin_cases d
  · show s + 1 * a.val = s; omega
  · show o + 2 * r.val = o + 2 * r.val; rfl
  · show 0 + 1 * j.val = j.val; omega

/-- What a tap reads, where the slab has been stored. -/
theorem tap_read {arg13 : Memref sig .tc .vmem S20x272x128 .f32} {L : List (View.Piece (Elt Ideal) S20x272x128 .f32)} (hL : Agree L (H1 h x5))
    (s o : ℕ) (hs : s < 20) (ho : o ≤ 17) (inb) (inb') (w) (hm : (⟨slabRect s inb', w⟩ : View.Piece (Elt Ideal) S20x272x128 .f32) ∈ L)
    (a : Fin 1) (r j : Fin 128) :
    arg13.view.readCov L (tapRect s o inb) (ix3 a r j) = G1 h x5 ⟨s, hs⟩ ⟨o + 2 * r, by omega⟩ j := by
  rw [View.readCov_eq_canon']
  have e := tapRect_idx s o hs ho inb a r j
  have e' : (slabRect s inb').emb (ix3 0 ⟨o + 2 * r, by omega⟩ j) = ix3 ⟨s, hs⟩ ⟨o + 2 * r, by omega⟩ j := by blk_ext
  have hc : View.canon L (ix3 ⟨s, hs⟩ ⟨o + 2 * r, by omega⟩ j : S20x272x128.Idx) = H1 h x5 (ix3 ⟨s, hs⟩ ⟨o + 2 * r, by omega⟩ j) :=
    hL.canon _ ⟨_, hm, e' ▸ LoadRect.idx_mem _ _⟩
  exact (congrArg (View.canon L) e).trans hc

section
variable (x7 : Vec Ideal S4x2560 .f32) (x8 : Vec Ideal S1x2560 .f32)
variable {arg8 : Memref sig .tc .vmem S4x2560 .f32} (harg8 : arg8.IsWhole) {arg9 : Memref sig .tc .vmem S1x2560 .f32} (harg9 : arg9.IsWhole)
variable {arg13 : Memref sig .tc .vmem S20x272x128 .f32} {L : List (View.Piece (Elt Ideal) S20x272x128 .f32)}

/-- A tap's weights for the columns from `c`, -/
abbrev tapWeights (t c : ℕ) (inb : ∀ a, ![t, c] a + S1x128.size a ≤ S4x2560.size a) : Vec Ideal S1x128 .f32 :=
  View.readAt (Elt Ideal) arg8.view (Rect.unit (s := S4x2560) ![t, c] S1x128.size inb).toLoadRect (harg8.unread x7)

/-- and their bias. -/
abbrev biasRow (c : ℕ) (inb : ∀ a, ![0, c] a + S1x128.size a ≤ S1x2560.size a) : Vec Ideal S1x128 .f32 :=
  View.readAt (Elt Ideal) arg9.view (Rect.unit (s := S1x2560) ![0, c] S1x128.size inb).toLoadRect (harg9.unread x8)

theorem tapWeights_at (t s : ℕ) (ht : t < 4) (hs : s < 20) (inb) (j : Fin 128) :
    tapWeights x7 harg8 t (128 * s) inb (ix2 0 j) = x7 (ix2 ⟨t, ht⟩ ⟨128 * s + j, by omega⟩) := by
  unfold tapWeights
  rw [View.readAt_eq_ld, harg8.read_unread]
  show x7 ((Rect.unit (s := S4x2560) ![t, 128 * s] S1x128.size inb).emb _) = x7 _
  blk_ext

theorem biasRow_at (s : ℕ) (hs : s < 20) (inb) (j : Fin 128) :
    biasRow x8 harg9 (128 * s) inb (ix2 0 j) = x8 (ix2 0 ⟨128 * s + j, by omega⟩) := by
  unfold biasRow
  rw [View.readAt_eq_ld, harg9.read_unread]
  show x8 ((Rect.unit (s := S1x2560) ![0, 128 * s] S1x128.size inb).emb _) = x8 _
  blk_ext

/-- The convolution of slab `s` at the rows of parity `p`, of the taps the body reads, -/
theorem conv_value (s p : ℕ) (hs : s < 20) (hp : p ≤ 1) (hL : Agree L (H1 h x5)) (inbS) (wS)
    (hm : (⟨slabRect s inbS, wS⟩ : View.Piece (Elt Ideal) S20x272x128 .f32) ∈ L) (i0 i1 i2 i3 j0 j1 j2 j3 ib) (j r : Fin 128) :
    conv (biasRow x8 harg9 (128 * s) ib (ix2 0 j)) ![tapWeights x7 harg8 0 (128 * s) i0 (ix2 0 j), tapWeights x7 harg8 1 (128 * s) i1 (ix2 0 j),
        tapWeights x7 harg8 2 (128 * s) i2 (ix2 0 j), tapWeights x7 harg8 3 (128 * s) i3 (ix2 0 j)]
      ![arg13.view.readCov L (tapRect s (6 + p) j0) (ix3 0 r j), arg13.view.readCov L (tapRect s (7 + p) j1) (ix3 0 r j),
        arg13.view.readCov L (tapRect s (8 + p) j2) (ix3 0 r j), arg13.view.readCov L (tapRect s (9 + p) j3) (ix3 0 r j)]
      = G2 h x5 x7 x8 ⟨s, hs⟩ ⟨p + 2 * r, by omega⟩ j := by
  rw [tap_read h x5 hL s (6 + p) hs (by omega) j0 inbS wS hm, tap_read h x5 hL s (7 + p) hs (by omega) j1 inbS wS hm,
    tap_read h x5 hL s (8 + p) hs (by omega) j2 inbS wS hm, tap_read h x5 hL s (9 + p) hs (by omega) j3 inbS wS hm,
    tapWeights_at x7 harg8 0 s (by omega) hs, tapWeights_at x7 harg8 1 s (by omega) hs, tapWeights_at x7 harg8 2 s (by omega) hs,
    tapWeights_at x7 harg8 3 s (by omega) hs, biasRow_at x8 harg9 s hs]
  simp only [G2, Nat.add_assoc]
  rfl

/-- without the activation, the first eight slabs, -/
theorem conv_piece (s p : ℕ) (hs : s < 8) (hp : p ≤ 1) (hL : Agree L (H1 h x5)) {inbS} {wS}
    (hm : (⟨slabRect s inbS, wS⟩ : View.Piece (Elt Ideal) S20x272x128 .f32) ∈ L) {i0 i1 i2 i3 j0 j1 j2 j3 ib io} (x : (convRect s p io).shape.Idx) :
    convStage (biasRow x8 harg9 (128 * s) ib) (tapWeights x7 harg8 0 (128 * s) i0) (arg13.view.readCov L (tapRect s (6 + p) j0))
        (tapWeights x7 harg8 1 (128 * s) i1) (arg13.view.readCov L (tapRect s (7 + p) j1))
        (tapWeights x7 harg8 2 (128 * s) i2) (arg13.view.readCov L (tapRect s (8 + p) j2))
        (tapWeights x7 harg8 3 (128 * s) i3) (arg13.view.readCov L (tapRect s (9 + p) j3)) x
      = H2 h x5 x7 x8 ((convRect s p io).emb x) := by
  idx_vars x
  rw [convStage_at, conv_value h x5 x7 x8 harg8 harg9 s p (by omega) hp hL inbS wS hm]
  have e : (convRect s p io).emb (ix3 x0 x1 x2) = ix3 ⟨s, by omega⟩ ⟨p + 2 * x1, by omega⟩ x2 := convRect_idx s p _ hp io x0 x1 x2
  rw [e]
  show _ = act (128 * s) (G2 h x5 x7 x8 ⟨s, _⟩ ⟨p + 2 * x1, _⟩ x2)
  rw [act, if_pos (by omega)]

/-- with it, the others. -/
theorem silu_piece (s p : ℕ) (hs : 8 ≤ s) (hs' : s < 20) (hp : p ≤ 1) (hL : Agree L (H1 h x5)) {inbS} {wS}
    (hm : (⟨slabRect s inbS, wS⟩ : View.Piece (Elt Ideal) S20x272x128 .f32) ∈ L) {i0 i1 i2 i3 j0 j1 j2 j3 ib io} (x : (convRect s p io).shape.Idx) :
    siluStage (biasRow x8 harg9 (128 * s) ib) (tapWeights x7 harg8 0 (128 * s) i0) (arg13.view.readCov L (tapRect s (6 + p) j0))
        (tapWeights x7 harg8 1 (128 * s) i1) (arg13.view.readCov L (tapRect s (7 + p) j1))
        (tapWeights x7 harg8 2 (128 * s) i2) (arg13.view.readCov L (tapRect s (8 + p) j2))
        (tapWeights x7 harg8 3 (128 * s) i3) (arg13.view.readCov L (tapRect s (9 + p) j3)) x
      = H2 h x5 x7 x8 ((convRect s p io).emb x) := by
  idx_vars x
  rw [siluStage_at, conv_value h x5 x7 x8 harg8 harg9 s p (by omega) hp hL inbS wS hm]
  have e : (convRect s p io).emb (ix3 x0 x1 x2) = ix3 ⟨s, by omega⟩ ⟨p + 2 * x1, by omega⟩ x2 := convRect_idx s p _ hp io x0 x1 x2
  rw [e]
  show _ = act (128 * s) (G2 h x5 x7 x8 ⟨s, _⟩ ⟨p + 2 * x1, _⟩ x2)
  rw [act, if_neg (by omega)]
end

/-! ## The outputs -/

/-- What the first output's block holds at a row and a column: the convolved columns, then the plain ones. -/
def O1 (h : FVec Ideal S272x1024 .bf16) (hm : FVec Ideal S256x1024 .bf16) (x5 : Vec Ideal S1x1024x4736 .bf16) (x7 : Vec Ideal S4x2560 .f32)
    (x8 : Vec Ideal S1x2560 .f32) (r : Fin 256) (n : Fin 4736) : EReal :=
  if hn : n.val < 2560 then act (128 * (n.val / 128)) (G2 h x5 x7 x8 ⟨n / 128, by omega⟩ r ⟨n % 128, by omega⟩)
  else product (fun k => hm (ix2 r k)) (fun k => x5 (ix3 0 k n))

def B1 (h : FVec Ideal S272x1024 .bf16) (hm : FVec Ideal S256x1024 .bf16) (x5 : Vec Ideal S1x1024x4736 .bf16) (x7 : Vec Ideal S4x2560 .f32)
    (x8 : Vec Ideal S1x2560 .f32) (i : S256x4736.Idx) : EReal := O1 h hm x5 x7 x8 (i 0) (i 1)

/-- What the second's holds. -/
def B2 (hm : FVec Ideal S256x1024 .bf16) (x6 : Vec Ideal S1x1024x6144 .bf16) (i : S256x6144.Idx) : EReal :=
  product (fun k => hm (ix2 (i 0 : Fin 256) k)) (fun k => x6 (ix3 0 k (i 1 : Fin 6144)))

section
variable (hm : FVec Ideal S256x1024 .bf16) (x7 : Vec Ideal S4x2560 .f32) (x8 : Vec Ideal S1x2560 .f32)

/-- Slab `s`, read back when both parities have been stored. -/
theorem convolved_read {arg14 : Memref sig .tc .vmem S20x256x128 .f32} {L : List (View.Piece (Elt Ideal) S20x256x128 .f32)}
    (hL : Agree L (H2 h x5 x7 x8)) (s : ℕ) (hs : s < 20) {i0 i1 w0 w1} (h0 : (⟨convRect s 0 i0, w0⟩ : View.Piece (Elt Ideal) S20x256x128 .f32) ∈ L)
    (h1 : (⟨convRect s 1 i1, w1⟩ : View.Piece (Elt Ideal) S20x256x128 .f32) ∈ L)
    (ir : ∀ a, ![s, 0, 0] a + S1x256x128.size a ≤ S20x256x128.size a) (r : Fin 256) (j : Fin 128) :
    arg14.view.readCov L (Rect.unit (s := S20x256x128) ![s, 0, 0] S1x256x128.size ir).toLoadRect (ix3 0 r j)
      = act (128 * s) (G2 h x5 x7 x8 ⟨s, hs⟩ r j) := by
  have hr : (Rect.unit (s := S20x256x128) ![s, 0, 0] S1x256x128.size ir).emb (ix3 0 r j) = ix3 ⟨s, hs⟩ r j := by blk_ext
  have hc : ∃ p ∈ L, (ix3 ⟨s, hs⟩ r j : S20x256x128.Idx) ∈ p.1.set := by
    rcases Nat.mod_two_eq_zero_or_one r with hx | hx
    · have e' : (convRect s 0 i0).idx (ix3 0 ⟨r / 2, by omega⟩ j) = ix3 ⟨s, hs⟩ r j :=
        (convRect_idx s 0 hs (by omega) i0 0 _ j).trans (congrArg (ix3 _ · j) (Fin.ext (by show 0 + 2 * (r.val / 2) = r.val; omega)))
      exact ⟨_, h0, e' ▸ LoadRect.idx_mem _ _⟩
    · have e' : (convRect s 1 i1).idx (ix3 0 ⟨r / 2, by omega⟩ j) = ix3 ⟨s, hs⟩ r j :=
        (convRect_idx s 1 hs (by omega) i1 0 _ j).trans (congrArg (ix3 _ · j) (Fin.ext (by show 1 + 2 * (r.val / 2) = r.val; omega)))
      exact ⟨_, h1, e' ▸ LoadRect.idx_mem _ _⟩
  have hcan : View.canon L (ix3 ⟨s, hs⟩ r j : S20x256x128.Idx) = H2 h x5 x7 x8 (ix3 ⟨s, hs⟩ r j) := hL.canon _ hc
  rw [View.readCov_eq_canon']
  exact (congrArg (View.canon L) hr).trans hcan

theorem flatten_at (v : Vec Ideal S1x256x128 .f32) (r : Fin 256) (j : Fin 128) :
    (shapeCast S256x128 v shapeCasts_S1x256x128_S256x128 : FVec Ideal S256x128 .f32) (ix2 r j) = v (ix3 0 r j) := by
  pointwise []

/-- The first output's columns of a slab. -/
theorem O1_slab (s : ℕ) (hs : s < 20) (r : Fin 256) (j : Fin 128) :
    O1 h hm x5 x7 x8 r ⟨128 * s + j, by omega⟩ = act (128 * s) (G2 h x5 x7 x8 ⟨s, hs⟩ r j) := by
  have hd : (128 * s + j.val) / 128 = s := by omega
  have hd' : (128 * s + j.val) % 128 = j.val := by omega
  rw [O1, dif_pos (by show 128 * s + j.val < 2560; omega)]
  simp only [hd, hd']

/-- The convolved columns of slab `s`, as they are copied out. -/
theorem convolved_piece {arg14 : Memref sig .tc .vmem S20x256x128 .f32} {L : List (View.Piece (Elt Ideal) S20x256x128 .f32)}
    (hL : Agree L (H2 h x5 x7 x8)) (s : ℕ) (hs : s < 20) {i0 i1 w0 w1} (h0 : (⟨convRect s 0 i0, w0⟩ : View.Piece (Elt Ideal) S20x256x128 .f32) ∈ L)
    (h1 : (⟨convRect s 1 i1, w1⟩ : View.Piece (Elt Ideal) S20x256x128 .f32) ∈ L)
    {ir : ∀ a, ![s, 0, 0] a + S1x256x128.size a ≤ S20x256x128.size a} {io : ∀ a, ![0, 128 * s] a + S256x128.size a ≤ S256x4736.size a}
    (x : (Rect.unit (s := S256x4736) ![0, 128 * s] S256x128.size io).shape.Idx) :
    (shapeCast S256x128 (arg14.view.readCov L (Rect.unit (s := S20x256x128) ![s, 0, 0] S1x256x128.size ir).toLoadRect)
        shapeCasts_S1x256x128_S256x128 : FVec Ideal S256x128 .f32) x
      = B1 h hm x5 x7 x8 ((Rect.unit (s := S256x4736) ![0, 128 * s] S256x128.size io).emb x) := by
  idx_vars x
  have e : (Rect.unit (s := S256x4736) ![0, 128 * s] S256x128.size io).emb (ix2 x0 x1) = ix2 x0 ⟨128 * s + x1, by omega⟩ := by blk_ext
  rw [e]
  exact (flatten_at _ x0 x1).trans ((convolved_read h x5 x7 x8 hL s hs h0 h1 ir x0 x1).trans (O1_slab h x5 hm x7 x8 s hs x0 x1).symm)

/-- A block of 256 plain columns, -/
def plain (hm : FVec Ideal S256x1024 .bf16) (w : Vec Ideal S1x1024x256 .bf16) : FVec Ideal S256x256 .f32 :=
  matmul dot_S256x1024_S1024x256_S256x256_1_0_0_1_n_n none hm
    (shapeCast S1024x256 w shapeCasts_S1x1024x256_S1024x256 : FVec Ideal S1024x256 .bf16) (constant S256x256 .f32 0x00000000#32)

theorem plain_at (w : Vec Ideal S1x1024x256 .bf16) (r j : Fin 256) :
    plain hm w (ix2 r j) = product (fun k => hm (ix2 r k)) (fun k => w (ix3 0 k j)) := by
  pointwise [plain, product]

theorem O1_plain (c : ℕ) (hc : 2560 ≤ c) (r : Fin 256) (j : ℕ) (hj : c + j < 4736) :
    O1 h hm x5 x7 x8 r ⟨c + j, hj⟩ = product (fun k => hm (ix2 r k)) (fun k => x5 (ix3 0 k ⟨c + j, hj⟩)) := by
  rw [O1, dif_neg (by show ¬ (c + j < 2560); omega)]

theorem plain_piece (c : ℕ) (hc : 2560 ≤ c) (hc' : c + 256 ≤ 4736) {iw : ∀ a, ![0, 0, c] a + S1x1024x256.size a ≤ S1x1024x4736.size a}
    {io : ∀ a, ![0, c] a + S256x256.size a ≤ S256x4736.size a} (x : (Rect.unit (s := S256x4736) ![0, c] S256x256.size io).shape.Idx) :
    plain hm (View.readAt (Elt Ideal) arg6.view (weightRect c iw).toLoadRect (harg6.unread x5)) x
      = B1 h hm x5 x7 x8 ((Rect.unit (s := S256x4736) ![0, c] S256x256.size io).emb x) := by
  rw [View.readAt_eq_ld, harg6.read_unread]
  idx_vars x
  have e : (Rect.unit (s := S256x4736) ![0, c] S256x256.size io).emb (ix2 x0 x1) = ix2 x0 ⟨c + x1, by omega⟩ := by blk_ext
  rw [e]
  refine (plain_at hm _ x0 x1).trans ((product_congr (fun _ => rfl) fun k => ?_).trans (O1_plain h x5 hm x7 x8 c hc x0 x1 (by omega)).symm)
  show x5 ((weightRect c iw).emb _) = x5 _
  blk_ext

/-- the last 128 of them, -/
def plainLast (hm : FVec Ideal S256x1024 .bf16) (w : Vec Ideal S1x1024x128 .bf16) : FVec Ideal S256x128 .f32 :=
  matmul dot_S256x1024_S1024x128_S256x128_1_0_0_1_n_n none hm
    (shapeCast S1024x128 w shapeCasts_S1x1024x128_S1024x128 : FVec Ideal S1024x128 .bf16) (constant S256x128 .f32 0x00000000#32)

theorem plainLast_at (w : Vec Ideal S1x1024x128 .bf16) (r : Fin 256) (j : Fin 128) :
    plainLast hm w (ix2 r j) = product (fun k => hm (ix2 r k)) (fun k => w (ix3 0 k j)) := by
  pointwise [plainLast, product]

theorem plainLast_piece {iw : ∀ a, ![0, 0, 4608] a + S1x1024x128.size a ≤ S1x1024x4736.size a}
    {io : ∀ a, ![0, 4608] a + S256x128.size a ≤ S256x4736.size a} (x : (Rect.unit (s := S256x4736) ![0, 4608] S256x128.size io).shape.Idx) :
    plainLast hm (View.readAt (Elt Ideal) arg6.view (Rect.unit (s := S1x1024x4736) ![0, 0, 4608] S1x1024x128.size iw).toLoadRect (harg6.unread x5)) x
      = B1 h hm x5 x7 x8 ((Rect.unit (s := S256x4736) ![0, 4608] S256x128.size io).emb x) := by
  rw [View.readAt_eq_ld, harg6.read_unread]
  idx_vars x
  have e : (Rect.unit (s := S256x4736) ![0, 4608] S256x128.size io).emb (ix2 x0 x1) = ix2 x0 ⟨4608 + x1, by omega⟩ := by blk_ext
  rw [e]
  refine (plainLast_at hm _ x0 x1).trans ((product_congr (fun _ => rfl) fun k => ?_).trans (O1_plain h x5 hm x7 x8 4608 (by omega) x0 x1 (by omega)).symm)
  show x5 ((Rect.unit (s := S1x1024x4736) ![0, 0, 4608] S1x1024x128.size iw).emb _) = x5 _
  blk_ext

/-- and a block of the second output's. -/
theorem gates_piece {arg7 : Memref sig .tc .vmem S1x1024x6144 .bf16} (harg7 : arg7.IsWhole) (x6 : Vec Ideal S1x1024x6144 .bf16) (c : ℕ)
    (hc' : c + 256 ≤ 6144) {iw : ∀ a, ![0, 0, c] a + S1x1024x256.size a ≤ S1x1024x6144.size a}
    {io : ∀ a, ![0, c] a + S256x256.size a ≤ S256x6144.size a} (x : (Rect.unit (s := S256x6144) ![0, c] S256x256.size io).shape.Idx) :
    truncf .bf16 (plain hm (View.readAt (Elt Ideal) arg7.view (Rect.unit (s := S1x1024x6144) ![0, 0, c] S1x1024x256.size iw).toLoadRect (harg7.unread x6)))
        bitsLt_bf16_f32 x
      = B2 hm x6 ((Rect.unit (s := S256x6144) ![0, c] S256x256.size io).emb x) := by
  rw [View.readAt_eq_ld, harg7.read_unread]
  idx_vars x
  have e : (Rect.unit (s := S256x6144) ![0, c] S256x256.size io).emb (ix2 x0 x1) = ix2 x0 ⟨c + x1, by omega⟩ := by blk_ext
  rw [e]
  refine (plain_at hm _ x0 x1).trans (product_congr (fun _ => rfl) fun k => ?_)
  show x6 ((Rect.unit (s := S1x1024x6144) ![0, 0, c] S1x1024x256.size iw).emb _) = x6 _
  blk_ext
end

end Cert.InprojIdeal.Value
-- ==== Proof.InprojSlabs.lean ====
/- The ten lists of stores into the slabs of the product: each holds the product of the extended rows. -/
module

public import proofs.«01_k».proof.Proof.InprojPieces

@[expose] public section

set_option maxRecDepth 16384

noncomputable section

open Idealize.ShloMosaic Idealize.ShloMosaic.TcCoe Idealize.SL.Sem
open scoped BigOperators

namespace Cert.InprojIdeal.Value

open Cert.InprojIdeal Cert.InprojIdeal.Gen Cert.Layer

variable (c : Dev nD) (i : grid0.Coords)
variable (arg1 : Memref sig .tc .vmem S256x1024 .f32) (harg1 : arg1.IsWhole)
variable (arg2 : Memref sig .tc .vmem S8x1024 .f32) (harg2 : arg2.IsWhole)
variable (arg3 : Memref sig .tc .vmem S8x1024 .f32) (harg3 : arg3.IsWhole)
variable (arg4 : Memref sig .tc .vmem S1x1x6144 .f32) (harg4 : arg4.IsWhole)
variable (arg5 : Memref sig .tc .vmem S1x1024 .f32) (harg5 : arg5.IsWhole)
variable (arg6 : Memref sig .tc .vmem S1x1024x4736 .bf16) (harg6 : arg6.IsWhole)
variable (arg7 : Memref sig .tc .vmem S1x1024x6144 .bf16) (harg7 : arg7.IsWhole)
variable (arg8 : Memref sig .tc .vmem S4x2560 .f32) (harg8 : arg8.IsWhole)
variable (arg9 : Memref sig .tc .vmem S1x2560 .f32) (harg9 : arg9.IsWhole)
variable (arg10 : Memref sig .tc .vmem S256x4736 .f32) (harg10 : arg10.IsWhole)
variable (arg11 : Memref sig .tc .vmem S256x6144 .bf16) (harg11 : arg11.IsWhole)
variable (arg12 : Memref sig .tc .vmem S272x1024 .f32) (harg12 : arg12.IsWhole)
variable (arg13 : Memref sig .tc .vmem S20x272x128 .f32) (harg13 : arg13.IsWhole)
variable (arg14 : Memref sig .tc .vmem S20x256x128 .f32) (harg14 : arg14.IsWhole)
variable (x0 : Vec Ideal S256x1024 .f32) (x1 : Vec Ideal S8x1024 .f32) (x2 : Vec Ideal S8x1024 .f32) (x3 : Vec Ideal S1x1x6144 .f32)
variable (x4 : Vec Ideal S1x1024 .f32) (x5 : Vec Ideal S1x1024x4736 .bf16) (x6 : Vec Ideal S1x1024x6144 .bf16) (x7 : Vec Ideal S4x2560 .f32) (x8 : Vec Ideal S1x2560 .f32)

/-- The 272 rows the body multiplies: the block's 256 and eight on either side. -/
abbrev ext : FVec Ideal S272x1024 .bf16 := kernelRun0_A.sl.r_7 (F := Ideal) c i arg1 harg1 arg2 harg2 arg3 harg3 arg4 harg4 arg5 harg5 arg12 x0 x1 x2 x3 x4

theorem agree1_2 : Agree (kernelRun0_A.sl.HS1_2 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 0 _ _)
    (.cons _ _ (slabLo_piece (ext c i arg1 harg1 arg2 harg2 arg3 harg3 arg4 harg4 arg5 harg5 arg12 x0 x1 x2 x3 x4) x5 harg6 0 _ _) .nil)

theorem agree1_4 : Agree (kernelRun0_A.sl.HS1_4 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 1 _ _)
    (.cons _ _ (slabLo_piece (ext c i arg1 harg1 arg2 harg2 arg3 harg3 arg4 harg4 arg5 harg5 arg12 x0 x1 x2 x3 x4) x5 harg6 1 _ _) (agree1_2 c i arg1 harg1 arg2 harg2 arg3 harg3 arg4 harg4 arg5 harg5 arg6 harg6 arg12 x0 x1 x2 x3 x4 x5))

theorem agree1_6 : Agree (kernelRun0_A.sl.HS1_6 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 2 _ _)
    (.cons _ _ (slabLo_piece (ext c i arg1 harg1 arg2 harg2 arg3 harg3 arg4 harg4 arg5 harg5 arg12 x0 x1 x2 x3 x4) x5 harg6 2 _ _) (agree1_4 c i arg1 harg1 arg2 harg2 arg3 harg3 arg4 harg4 arg5 harg5 arg6 harg6 arg12 x0 x1 x2 x3 x4 x5))

theorem agree1_8 : Agree (kernelRun0_A.sl.HS1_8 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 3 _ _)
    (.cons _ _ (slabLo_piece (ext c i arg1 harg1 arg2 harg2 arg3 harg3 arg4 harg4 arg5 harg5 arg12 x0 x1 x2 x3 x4) x5 harg6 3 _ _) (agree1_6 c i arg1 harg1 arg2 harg2 arg3 harg3 arg4 harg4 arg5 harg5 arg6 harg6 arg12 x0 x1 x2 x3 x4 x5))

theorem agree1_10 : Agree (kernelRun0_A.sl.HS1_10 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 4 _ _)
    (.cons _ _ (slabLo_piece (ext c i arg1 harg1 arg2 harg2 arg3 harg3 arg4 harg4 arg5 harg5 arg12 x0 x1 x2 x3 x4) x5 harg6 4 _ _) (agree1_8 c i arg1 harg1 arg2 harg2 arg3 harg3 arg4 harg4 arg5 harg5 arg6 harg6 arg12 x0 x1 x2 x3 x4 x5))

theorem agree1_12 : Agree (kernelRun0_A.sl.HS1_12 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 5 _ _)
    (.cons _ _ (slabLo_piece (ext c i arg1 harg1 arg2 harg2 arg3 harg3 arg4 harg4 arg5 harg5 arg12 x0 x1 x2 x3 x4) x5 harg6 5 _ _) (agree1_10 c i arg1 harg1 arg2 harg2 arg3 harg3 arg4 harg4 arg5 harg5 arg6 harg6 arg12 x0 x1 x2 x3 x4 x5))

theorem agree1_14 : Agree (kernelRun0_A.sl.HS1_14 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 6 _ _)
    (.cons _ _ (slabLo_piece (ext c i arg1 harg1 arg2 harg2 arg3 harg3 arg4 harg4 arg5 harg5 arg12 x0 x1 x2 x3 x4) x5 harg6 6 _ _) (agree1_12 c i arg1 harg1 arg2 harg2 arg3 harg3 arg4 harg4 arg5 harg5 arg6 harg6 arg12 x0 x1 x2 x3 x4 x5))

theorem agree1_16 : Agree (kernelRun0_A.sl.HS1_16 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 7 _ _)
    (.cons _ _ (slabLo_piece (ext c i arg1 harg1 arg2 harg2 arg3 harg3 arg4 harg4 arg5 harg5 arg12 x0 x1 x2 x3 x4) x5 harg6 7 _ _) (agree1_14 c i arg1 harg1 arg2 harg2 arg3 harg3 arg4 harg4 arg5 harg5 arg6 harg6 arg12 x0 x1 x2 x3 x4 x5))

theorem agree1_18 : Agree (kernelRun0_A.sl.HS1_18 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 8 _ _)
    (.cons _ _ (slabLo_piece (ext c i arg1 harg1 arg2 harg2 arg3 harg3 arg4 harg4 arg5 harg5 arg12 x0 x1 x2 x3 x4) x5 harg6 8 _ _) (agree1_16 c i arg1 harg1 arg2 harg2 arg3 harg3 arg4 harg4 arg5 harg5 arg6 harg6 arg12 x0 x1 x2 x3 x4 x5))

theorem agree1_20 : Agree (kernelRun0_A.sl.HS1_20 (F := Ideal) c i arg1 harg1 arg2 harg2 arg3 harg3 arg4 harg4 arg5 harg5 arg6 harg6 arg12 x0 x1 x2 x3 x4 x5)
    (H1 (ext c i arg1 harg1 arg2 harg2 arg3 harg3 arg4 harg4 arg5 harg5 arg12 x0 x1 x2 x3 x4) x5) :=
  .cons _ _ (slabHi_piece (ext c i arg1 harg1 arg2 harg2 arg3 harg3 arg4 harg4 arg5 harg5 arg12 x0 x1 x2 x3 x4) x5 harg6 9 _ _)
    (.cons _ _ (slabLo_piece (ext c i arg1 harg1 arg2 harg2 arg3 harg3 arg4 harg4 arg5 harg5 arg12 x0 x1 x2 x3 x4) x5 harg6 9 _ _) (agree1_18 c i arg1 harg1 arg2 harg2 arg3 harg3 arg4 harg4 arg5 harg5 arg6 harg6 arg12 x0 x1 x2 x3 x4 x5))

end Cert.InprojIdeal.Value
-- ==== Proof.InprojConv.lean ====
/- The ten lists of stores into the slabs of the convolution: each holds the convolution of the product of the extended rows. -/
module

public import proofs.«01_k».proof.Proof.InprojSlabs

@[expose] public section

set_option maxRecDepth 16384

noncomputable section

open Idealize.ShloMosaic Idealize.ShloMosaic.TcCoe Idealize.SL.Sem
open scoped BigOperators

namespace Cert.InprojIdeal.Value

open Cert.InprojIdeal Cert.InprojIdeal.Gen Cert.Layer

variable (c : Dev nD) (i : grid0.Coords)
variable (arg1 : Memref sig .tc .vmem S256x1024 .f32) (harg1 : arg1.IsWhole)
variable (arg2 : Memref sig .tc .vmem S8x1024 .f32) (harg2 : arg2.IsWhole)
variable (arg3 : Memref sig .tc .vmem S8x1024 .f32) (harg3 : arg3.IsWhole)
variable (arg4 : Memref sig .tc .vmem S1x1x6144 .f32) (harg4 : arg4.IsWhole)
variable (arg5 : Memref sig .tc .vmem S1x1024 .f32) (harg5 : arg5.IsWhole)
variable (arg6 : Memref sig .tc .vmem S1x1024x4736 .bf16) (harg6 : arg6.IsWhole)
variable (arg7 : Memref sig .tc .vmem S1x1024x6144 .bf16) (harg7 : arg7.IsWhole)
variable (arg8 : Memref sig .tc .vmem S4x2560 .f32) (harg8 : arg8.IsWhole)
variable (arg9 : Memref sig .tc .vmem S1x2560 .f32) (harg9 : arg9.IsWhole)
variable (arg10 : Memref sig .tc .vmem S256x4736 .f32) (harg10 : arg10.IsWhole)
variable (arg11 : Memref sig .tc .vmem S256x6144 .bf16) (harg11 : arg11.IsWhole)
variable (arg12 : Memref sig .tc .vmem S272x1024 .f32) (harg12 : arg12.IsWhole)
variable (arg13 : Memref sig .tc .vmem S20x272x128 .f32) (harg13 : arg13.IsWhole)
variable (arg14 : Memref sig .tc .vmem S20x256x128 .f32) (harg14 : arg14.IsWhole)
variable (x0 : Vec Ideal S256x1024 .f32) (x1 : Vec Ideal S8x1024 .f32) (x2 : Vec Ideal S8x1024 .f32) (x3 : Vec Ideal S1x1x6144 .f32)
variable (x4 : Vec Ideal S1x1024 .f32) (x5 : Vec Ideal S1x1024x4736 .bf16) (x6 : Vec Ideal S1x1024x6144 .bf16) (x7 : Vec Ideal S4x2560 .f32) (x8 : Vec Ideal S1x2560 .f32)

theorem agree2_4 : Agree (kernelRun0_A.sl.HS2_4 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_2 c i arg1 harg1 arg2 harg2 arg3 harg3 arg4 harg4 arg5 harg5 arg6 harg6 arg12 x0 x1 x2 x3 x4 x5
  .cons _ _ (conv_piece (ext c i arg1 harg1 arg2 harg2 arg3 harg3 arg4 harg4 arg5 harg5 arg12 x0 x1 x2 x3 x4) x5 x7 x8 harg8 harg9 1 1 (by decide) (by decide) hL (List.Mem.head _))
    (.cons _ _ (conv_piece (ext c i arg1 harg1 arg2 harg2 arg3 harg3 arg4 harg4 arg5 harg5 arg12 x0 x1 x2 x3 x4) x5 x7 x8 harg8 harg9 1 0 (by decide) (by decide) hL (List.Mem.head _))
      (.cons _ _ (conv_piece (ext c i arg1 harg1 arg2 harg2 arg3 harg3 arg4 harg4 arg5 harg5 arg12 x0 x1 x2 x3 x4) x5 x7 x8 harg8 harg9 0 1 (by decide) (by decide) hL (List.Mem.tail _ (List.Mem.head _)))
        (.cons _ _ (conv_piece (ext c i arg1 harg1 arg2 harg2 arg3 harg3 arg4 harg4 arg5 harg5 arg12 x0 x1 x2 x3 x4) x5 x7 x8 harg8 harg9 0 0 (by decide) (by decide) hL (List.Mem.tail _ (List.Mem.head _))) .nil)))

theorem agree2_8 : Agree (kernelRun0_A.sl.HS2_8 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_4 c i arg1 harg1 arg2 harg2 arg3 harg3 arg4 harg4 arg5 harg5 arg6 harg6 arg12 x0 x1 x2 x3 x4 x5
  .cons _ _ (conv_piece (ext c i arg1 harg1 arg2 harg2 arg3 harg3 arg4 harg4 arg5 harg5 arg12 x0 x1 x2 x3 x4) x5 x7 x8 harg8 harg9 3 1 (by decide) (by decide) hL (List.Mem.head _))
    (.cons _ _ (conv_piece (ext c i arg1 harg1 arg2 harg2 arg3 harg3 arg4 harg4 arg5 harg5 arg12 x0 x1 x2 x3 x4) x5 x7 x8 harg8 harg9 3 0 (by decide) (by decide) hL (List.Mem.head _))
      (.cons _ _ (conv_piece (ext c i arg1 harg1 arg2 harg2 arg3 harg3 arg4 harg4 arg5 harg5 arg12 x0 x1 x2 x3 x4) x5 x7 x8 harg8 harg9 2 1 (by decide) (by decide) hL (List.Mem.tail _ (List.Mem.head _)))
        (.cons _ _ (conv_piece (ext c i arg1 harg1 arg2 harg2 arg3 harg3 arg4 harg4 arg5 harg5 arg12 x0 x1 x2 x3 x4) x5 x7 x8 harg8 harg9 2 0 (by decide) (by decide) hL (List.Mem.tail _ (List.Mem.head _))) (agree2_4 c i arg1 harg1 arg2 harg2 arg3 harg3 arg4 harg4 arg5 harg5 arg6 harg6 arg8 harg8 arg9 harg9 arg12 arg13 x0 x1 x2 x3 x4 x5 x7 x8))))

theorem agree2_12 : Agree (kernelRun0_A.sl.HS2_12 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_6 c i arg1 harg1 arg2 harg2 arg3 harg3 arg4 harg4 arg5 harg5 arg6 harg6 arg12 x0 x1 x2 x3 x4 x5
  .cons _ _ (conv_piece (ext c i arg1 harg1 arg2 harg2 arg3 harg3 arg4 harg4 arg5 harg5 arg12 x0 x1 x2 x3 x4) x5 x7 x8 harg8 harg9 5 1 (by decide) (by decide) hL (List.Mem.head _))
    (.cons _ _ (conv_piece (ext c i arg1 harg1 arg2 harg2 arg3 harg3 arg4 harg4 arg5 harg5 arg12 x0 x1 x2 x3 x4) x5 x7 x8 harg8 harg9 5 0 (by decide) (by decide) hL (List.Mem.head _))
      (.cons _ _ (conv_piece (ext c i arg1 harg1 arg2 harg2 arg3 harg3 arg4 harg4 arg5 harg5 arg12 x0 x1 x2 x3 x4) x5 x7 x8 harg8 harg9 4 1 (by decide) (by decide) hL (List.Mem.tail _ (List.Mem.head _)))
        (.cons _ _ (conv_piece (ext c i arg1 harg1 arg2 harg2 arg3 harg3 arg4 harg4 arg5 harg5 arg12 x0 x1 x2 x3 x4) x5 x7 x8 harg8 harg9 4 0 (by decide) (by decide) hL (List.Mem.tail _ (List.Mem.head _))) (agree2_8 c i arg1 harg1 arg2 harg2 arg3 harg3 arg4 harg4 arg5 harg5 arg6 harg6 arg8 harg8 arg9 harg9 arg12 arg13 x0 x1 x2 x3 x4 x5 x7 x8))))

theorem agree2_16 : Agree (kernelRun0_A.sl.HS2_16 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_8 c i arg1 harg1 arg2 harg2 arg3 harg3 arg4 harg4 arg5 harg5 arg6 harg6 arg12 x0 x1 x2 x3 x4 x5
  .cons _ _ (conv_piece (ext c i arg1 harg1 arg2 harg2 arg3 harg3 arg4 harg4 arg5 harg5 arg12 x0 x1 x2 x3 x4) x5 x7 x8 harg8 harg9 7 1 (by decide) (by decide) hL (List.Mem.head _))
    (.cons _ _ (conv_piece (ext c i arg1 harg1 arg2 harg2 arg3 harg3 arg4 harg4 arg5 harg5 arg12 x0 x1 x2 x3 x4) x5 x7 x8 harg8 harg9 7 0 (by decide) (by decide) hL (List.Mem.head _))
      (.cons _ _ (conv_piece (ext c i arg1 harg1 arg2 harg2 arg3 harg3 arg4 harg4 arg5 harg5 arg12 x0 x1 x2 x3 x4) x5 x7 x8 harg8 harg9 6 1 (by decide) (by decide) hL (List.Mem.tail _ (List.Mem.head _)))
        (.cons _ _ (conv_piece (ext c i arg1 harg1 arg2 harg2 arg3 harg3 arg4 harg4 arg5 harg5 arg12 x0 x1 x2 x3 x4) x5 x7 x8 harg8 harg9 6 0 (by decide) (by decide) hL (List.Mem.tail _ (List.Mem.head _))) (agree2_12 c i arg1 harg1 arg2 harg2 arg3 harg3 arg4 harg4 arg5 harg5 arg6 harg6 arg8 harg8 arg9 harg9 arg12 arg13 x0 x1 x2 x3 x4 x5 x7 x8))))

theorem agree2_20 : Agree (kernelRun0_A.sl.HS2_20 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_10 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 9 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 9 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 8 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 8 0 (by decide) (by decide) (by decide) hL (List.Mem.tail _ (List.Mem.head _))) (agree2_16 c i arg1 harg1 arg2 harg2 arg3 harg3 arg4 harg4 arg5 harg5 arg6 harg6 arg8 harg8 arg9 harg9 arg12 arg13 x0 x1 x2 x3 x4 x5 x7 x8))))

theorem agree2_24 : Agree (kernelRun0_A.sl.HS2_24 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_12 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 11 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 11 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 10 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 10 0 (by decide) (by decide) (by decide) hL (List.Mem.tail _ (List.Mem.head _))) (agree2_20 c i arg1 harg1 arg2 harg2 arg3 harg3 arg4 harg4 arg5 harg5 arg6 harg6 arg8 harg8 arg9 harg9 arg12 arg13 x0 x1 x2 x3 x4 x5 x7 x8))))

theorem agree2_28 : Agree (kernelRun0_A.sl.HS2_28 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_14 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 13 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 13 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 12 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 12 0 (by decide) (by decide) (by decide) hL (List.Mem.tail _ (List.Mem.head _))) (agree2_24 c i arg1 harg1 arg2 harg2 arg3 harg3 arg4 harg4 arg5 harg5 arg6 harg6 arg8 harg8 arg9 harg9 arg12 arg13 x0 x1 x2 x3 x4 x5 x7 x8))))

theorem agree2_32 : Agree (kernelRun0_A.sl.HS2_32 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_16 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 15 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 15 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 14 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 14 0 (by decide) (by decide) (by decide) hL (List.Mem.tail _ (List.Mem.head _))) (agree2_28 c i arg1 harg1 arg2 harg2 arg3 harg3 arg4 harg4 arg5 harg5 arg6 harg6 arg8 harg8 arg9 harg9 arg12 arg13 x0 x1 x2 x3 x4 x5 x7 x8))))

theorem agree2_36 : Agree (kernelRun0_A.sl.HS2_36 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_18 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 17 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 17 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 16 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 16 0 (by decide) (by decide) (by decide) hL (List.Mem.tail _ (List.Mem.head _))) (agree2_32 c i arg1 harg1 arg2 harg2 arg3 harg3 arg4 harg4 arg5 harg5 arg6 harg6 arg8 harg8 arg9 harg9 arg12 arg13 x0 x1 x2 x3 x4 x5 x7 x8))))

theorem agree2_40 : Agree (kernelRun0_A.sl.HS2_40 (F := Ideal) c i arg1 harg1 arg2 harg2 arg3 harg3 arg4 harg4 arg5 harg5 arg6 harg6 arg8 harg8 arg9 harg9 arg12 arg13 x0 x1 x2 x3 x4 x5 x7 x8)
    (H2 (ext c i arg1 harg1 arg2 harg2 arg3 harg3 arg4 harg4 arg5 harg5 arg12 x0 x1 x2 x3 x4) x5 x7 x8) :=
  have hL := agree1_20 c i arg1 harg1 arg2 harg2 arg3 harg3 arg4 harg4 arg5 harg5 arg6 harg6 arg12 x0 x1 x2 x3 x4 x5
  .cons _ _ (silu_piece (ext c i arg1 harg1 arg2 harg2 arg3 harg3 arg4 harg4 arg5 harg5 arg12 x0 x1 x2 x3 x4) x5 x7 x8 harg8 harg9 19 1 (by decide) (by decide) (by decide) hL (List.Mem.head _))
    (.cons _ _ (silu_piece (ext c i arg1 harg1 arg2 harg2 arg3 harg3 arg4 harg4 arg5 harg5 arg12 x0 x1 x2 x3 x4) x5 x7 x8 harg8 harg9 19 0 (by decide) (by decide) (by decide) hL (List.Mem.head _))
      (.cons _ _ (silu_piece (ext c i arg1 harg1 arg2 harg2 arg3 harg3 arg4 harg4 arg5 harg5 arg12 x0 x1 x2 x3 x4) x5 x7 x8 harg8 harg9 18 1 (by decide) (by decide) (by decide) hL (List.Mem.tail _ (List.Mem.head _)))
        (.cons _ _ (silu_piece (ext c i arg1 harg1 arg2 harg2 arg3 harg3 arg4 harg4 arg5 harg5 arg12 x0 x1 x2 x3 x4) x5 x7 x8 harg8 harg9 18 0 (by decide) (by decide) (by decide) hL (List.Mem.tail _ (List.Mem.head _))) (agree2_36 c i arg1 harg1 arg2 harg2 arg3 harg3 arg4 harg4 arg5 harg5 arg6 harg6 arg8 harg8 arg9 harg9 arg12 arg13 x0 x1 x2 x3 x4 x5 x7 x8))))

end Cert.InprojIdeal.Value
-- ==== Proof.InprojBlocks.lean ====
/- What the body leaves in its two output blocks: the convolved and the plain columns, and the gates. -/
module

public import proofs.«01_k».proof.Proof.InprojConv

@[expose] public section

set_option maxRecDepth 16384

noncomputable section

open Idealize.ShloMosaic Idealize.ShloMosaic.TcCoe Idealize.SL.Sem
open scoped BigOperators

namespace Cert.InprojIdeal.Value

open Cert.InprojIdeal Cert.InprojIdeal.Gen Cert.Layer

variable (c : Dev nD) (i : grid0.Coords)
variable (arg1 : Memref sig .tc .vmem S256x1024 .f32) (harg1 : arg1.IsWhole)
variable (arg2 : Memref sig .tc .vmem S8x1024 .f32) (harg2 : arg2.IsWhole)
variable (arg3 : Memref sig .tc .vmem S8x1024 .f32) (harg3 : arg3.IsWhole)
variable (arg4 : Memref sig .tc .vmem S1x1x6144 .f32) (harg4 : arg4.IsWhole)
variable (arg5 : Memref sig .tc .vmem S1x1024 .f32) (harg5 : arg5.IsWhole)
variable (arg6 : Memref sig .tc .vmem S1x1024x4736 .bf16) (harg6 : arg6.IsWhole)
variable (arg7 : Memref sig .tc .vmem S1x1024x6144 .bf16) (harg7 : arg7.IsWhole)
variable (arg8 : Memref sig .tc .vmem S4x2560 .f32) (harg8 : arg8.IsWhole)
variable (arg9 : Memref sig .tc .vmem S1x2560 .f32) (harg9 : arg9.IsWhole)
variable (arg10 : Memref sig .tc .vmem S256x4736 .f32) (harg10 : arg10.IsWhole)
variable (arg11 : Memref sig .tc .vmem S256x6144 .bf16) (harg11 : arg11.IsWhole)
variable (arg12 : Memref sig .tc .vmem S272x1024 .f32) (harg12 : arg12.IsWhole)
variable (arg13 : Memref sig .tc .vmem S20x272x128 .f32) (harg13 : arg13.IsWhole)
variable (arg14 : Memref sig .tc .vmem S20x256x128 .f32) (harg14 : arg14.IsWhole)
variable (x0 : Vec Ideal S256x1024 .f32) (x1 : Vec Ideal S8x1024 .f32) (x2 : Vec Ideal S8x1024 .f32) (x3 : Vec Ideal S1x1x6144 .f32)
variable (x4 : Vec Ideal S1x1024 .f32) (x5 : Vec Ideal S1x1024x4736 .bf16) (x6 : Vec Ideal S1x1024x6144 .bf16) (x7 : Vec Ideal S4x2560 .f32) (x8 : Vec Ideal S1x2560 .f32)

/-- The block's own 256 rows, as the body multiplies them. -/
abbrev rows : FVec Ideal S256x1024 .bf16 := kernelRun0_A.sl.r_8 (F := Ideal) c arg1 harg1 arg4 harg4 arg5 harg5 x0 x3 x4

theorem agree_first : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1 (B1 (ext c i arg1 harg1 arg2 harg2 arg3 harg3 arg4 harg4 arg5 harg5 arg12 x0 x1 x2 x3 x4) (rows c arg1 harg1 arg4 harg4 arg5 harg5 x0 x3 x4) x5 x7 x8) :=
  have hL0 := agree2_4 c i arg1 harg1 arg2 harg2 arg3 harg3 arg4 harg4 arg5 harg5 arg6 harg6 arg8 harg8 arg9 harg9 arg12 arg13 x0 x1 x2 x3 x4 x5 x7 x8
  have hL1 := agree2_8 c i arg1 harg1 arg2 harg2 arg3 harg3 arg4 harg4 arg5 harg5 arg6 harg6 arg8 harg8 arg9 harg9 arg12 arg13 x0 x1 x2 x3 x4 x5 x7 x8
  have hL2 := agree2_12 c i arg1 harg1 arg2 harg2 arg3 harg3 arg4 harg4 arg5 harg5 arg6 harg6 arg8 harg8 arg9 harg9 arg12 arg13 x0 x1 x2 x3 x4 x5 x7 x8
  have hL3 := agree2_16 c i arg1 harg1 arg2 harg2 arg3 harg3 arg4 harg4 arg5 harg5 arg6 harg6 arg8 harg8 arg9 harg9 arg12 arg13 x0 x1 x2 x3 x4 x5 x7 x8
  have hL4 := agree2_20 c i arg1 harg1 arg2 harg2 arg3 harg3 arg4 harg4 arg5 harg5 arg6 harg6 arg8 harg8 arg9 harg9 arg12 arg13 x0 x1 x2 x3 x4 x5 x7 x8
  have hL5 := agree2_24 c i arg1 harg1 arg2 harg2 arg3 harg3 arg4 harg4 arg5 harg5 arg6 harg6 arg8 harg8 arg9 harg9 arg12 arg13 x0 x1 x2 x3 x4 x5 x7 x8
  have hL6 := agree2_28 c i arg1 harg1 arg2 harg2 arg3 harg3 arg4 harg4 arg5 harg5 arg6 harg6 arg8 harg8 arg9 harg9 arg12 arg13 x0 x1 x2 x3 x4 x5 x7 x8
  have hL7 := agree2_32 c i arg1 harg1 arg2 harg2 arg3 harg3 arg4 harg4 arg5 harg5 arg6 harg6 arg8 harg8 arg9 harg9 arg12 arg13 x0 x1 x2 x3 x4 x5 x7 x8
  have hL8 := agree2_36 c i arg1 harg1 arg2 harg2 arg3 harg3 arg4 harg4 arg5 harg5 arg6 harg6 arg8 harg8 arg9 harg9 arg12 arg13 x0 x1 x2 x3 x4 x5 x7 x8
  have hL9 := agree2_40 c i arg1 harg1 arg2 harg2 arg3 harg3 arg4 harg4 arg5 harg5 arg6 harg6 arg8 harg8 arg9 harg9 arg12 arg13 x0 x1 x2 x3 x4 x5 x7 x8
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL9 19 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL9 18 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL8 17 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL8 16 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL7 15 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL7 14 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL6 13 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL6 12 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL5 11 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL5 10 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL4 9 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL4 8 (by decide) (List.Mem.tail _ (List.Mem.tail _ (List.Mem.tail _ (List.Mem.head _)))) (List.Mem.tail _ (List.Mem.tail _ (List.Mem.head _)))) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL3 7 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL3 6 (by decide) (List.Mem.tail _ (List.Mem.tail _ (List.Mem.tail _ (List.Mem.head _)))) (List.Mem.tail _ (List.Mem.tail _ (List.Mem.head _)))) <|
  .cons _ _ (plainLast_piece (ext c i arg1 harg1 arg2 harg2 arg3 harg3 arg4 harg4 arg5 harg5 arg12 x0 x1 x2 x3 x4) x5 harg6 (rows c arg1 harg1 arg4 harg4 arg5 harg5 x0 x3 x4) x7 x8) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL2 5 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL2 4 (by decide) (List.Mem.tail _ (List.Mem.tail _ (List.Mem.tail _ (List.Mem.head _)))) (List.Mem.tail _ (List.Mem.tail _ (List.Mem.head _)))) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 4352 (by decide) (by decide)) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 4096 (by decide) (by decide)) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 3840 (by decide) (by decide)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL1 3 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL1 2 (by decide) (List.Mem.tail _ (List.Mem.tail _ (List.Mem.tail _ (List.Mem.head _)))) (List.Mem.tail _ (List.Mem.tail _ (List.Mem.head _)))) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 3584 (by decide) (by decide)) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 3328 (by decide) (by decide)) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 3072 (by decide) (by decide)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL0 1 (by decide) (List.Mem.tail _ (List.Mem.head _)) (List.Mem.head _)) <|
  .cons _ _ (convolved_piece (ext c i arg1 harg1 arg2 harg2 arg3 harg3 arg4 harg4 arg5 harg5 arg12 x0 x1 x2 x3 x4) x5 (rows c arg1 harg1 arg4 harg4 arg5 harg5 x0 x3 x4) x7 x8 hL0 0 (by decide) (List.Mem.tail _ (List.Mem.tail _ (List.Mem.tail _ (List.Mem.head _)))) (List.Mem.tail _ (List.Mem.tail _ (List.Mem.head _)))) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 2816 (by decide) (by decide)) <|
  .cons _ _ (plain_piece (ext c i arg1 harg1 arg2 harg2 arg3 harg3 arg4 harg4 arg5 harg5 arg12 x0 x1 x2 x3 x4) x5 harg6 (rows c arg1 harg1 arg4 harg4 arg5 harg5 x0 x3 x4) x7 x8 2560 (by decide) (by decide)) <| .nil

theorem agree_second : Agree (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1 (B2 (rows c arg1 harg1 arg4 harg4 arg5 harg5 x0 x3 x4) x6) :=
  .cons _ _ (gates_piece (rows c arg1 harg1 arg4 harg4 arg5 harg5 x0 x3 x4) harg7 x6 5888 (by decide)) <|
  .cons _ _ (gates_piece (rows c arg1 harg1 arg4 harg4 arg5 harg5 x0 x3 x4) harg7 x6 5632 (by decide)) <|
  .cons _ _ (gates_piece (rows c arg1 harg1 arg4 harg4 arg5 harg5 x0 x3 x4) harg7 x6 5376 (by decide)) <|
  .cons _ _ (gates_piece (rows c arg1 harg1 arg4 harg4 arg5 harg5 x0 x3 x4) harg7 x6 5120 (by decide)) <|
  .cons _ _ (gates_piece (rows c arg1 harg1 arg4 harg4 arg5 harg5 x0 x3 x4) harg7 x6 4864 (by decide)) <|
  .cons _ _ (gates_piece (rows c arg1 harg1 arg4 harg4 arg5 harg5 x0 x3 x4) harg7 x6 4608 (by decide)) <|
  .cons _ _ (gates_piece (rows c arg1 harg1 arg4 harg4 arg5 harg5 x0 x3 x4) harg7 x6 4352 (by decide)) <|
  .cons _ _ (gates_piece (rows c arg1 harg1 arg4 harg4 arg5 harg5 x0 x3 x4) harg7 x6 4096 (by decide)) <|
  .cons _ _ (gates_piece (rows c arg1 harg1 arg4 harg4 arg5 harg5 x0 x3 x4) harg7 x6 3840 (by decide)) <|
  .cons _ _ (gates_piece (rows c arg1 harg1 arg4 harg4 arg5 harg5 x0 x3 x4) harg7 x6 3584 (by decide)) <|
  .cons _ _ (gates_piece (rows c arg1 harg1 arg4 harg4 arg5 harg5 x0 x3 x4) harg7 x6 3328 (by decide)) <|
  .cons _ _ (gates_piece (rows c arg1 harg1 arg4 harg4 arg5 harg5 x0 x3 x4) harg7 x6 3072 (by decide)) <|
  .cons _ _ (gates_piece (rows c arg1 harg1 arg4 harg4 arg5 harg5 x0 x3 x4) harg7 x6 2816 (by decide)) <|
  .cons _ _ (gates_piece (rows c arg1 harg1 arg4 harg4 arg5 harg5 x0 x3 x4) harg7 x6 2560 (by decide)) <|
  .cons _ _ (gates_piece (rows c arg1 harg1 arg4 harg4 arg5 harg5 x0 x3 x4) harg7 x6 2304 (by decide)) <|
  .cons _ _ (gates_piece (rows c arg1 harg1 arg4 harg4 arg5 harg5 x0 x3 x4) harg7 x6 2048 (by decide)) <|
  .cons _ _ (gates_piece (rows c arg1 harg1 arg4 harg4 arg5 harg5 x0 x3 x4) harg7 x6 1792 (by decide)) <|
  .cons _ _ (gates_piece (rows c arg1 harg1 arg4 harg4 arg5 harg5 x0 x3 x4) harg7 x6 1536 (by decide)) <|
  .cons _ _ (gates_piece (rows c arg1 harg1 arg4 harg4 arg5 harg5 x0 x3 x4) harg7 x6 1280 (by decide)) <|
  .cons _ _ (gates_piece (rows c arg1 harg1 arg4 harg4 arg5 harg5 x0 x3 x4) harg7 x6 1024 (by decide)) <|
  .cons _ _ (gates_piece (rows c arg1 harg1 arg4 harg4 arg5 harg5 x0 x3 x4) harg7 x6 768 (by decide)) <|
  .cons _ _ (gates_piece (rows c arg1 harg1 arg4 harg4 arg5 harg5 x0 x3 x4) harg7 x6 512 (by decide)) <|
  .cons _ _ (gates_piece (rows c arg1 harg1 arg4 harg4 arg5 harg5 x0 x3 x4) harg7 x6 256 (by decide)) <|
  .cons _ _ (gates_piece (rows c arg1 harg1 arg4 harg4 arg5 harg5 x0 x3 x4) harg7 x6 0 (by decide)) <| .nil

/-- The first output's block, -/
theorem out_first : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = B1 (ext c i arg1 harg1 arg2 harg2 arg3 harg3 arg4 harg4 arg5 harg5 arg12 x0 x1 x2 x3 x4) (rows c arg1 harg1 arg4 harg4 arg5 harg5 x0 x3 x4) x5 x7 x8 := by
  unfold out0_A_9
  rw [View.read_writes_junk_eq_canon]
  exact funext fun y => (agree_first c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).canon y (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)

/-- and the second's. -/
theorem out_second : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = B2 (rows c arg1 harg1 arg4 harg4 arg5 harg5 x0 x3 x4) x6 := by
  unfold out0_A_10
  rw [View.read_writes_junk_eq_canon]
  exact funext fun y => (agree_second c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).canon y (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y)

end Cert.InprojIdeal.Value
-- ==== Proof.InprojRows.lean ====
/- The rows the input-projection body multiplies: the block's own rows, normalised and modulated, and eight rows of either neighbour, zeroed at a sequence's ends. -/
module

public import proofs.«01_k».proof.Proof.InprojBlocks

@[expose] public section

set_option maxRecDepth 16384

noncomputable section

open Idealize.ShloMosaic Idealize.ShloMosaic.TcCoe Idealize.SL.Sem
open scoped BigOperators

namespace Cert.InprojIdeal.Value

open Cert.InprojIdeal Cert.InprojIdeal.Gen Cert.Layer

theorem main_at (a b : Vec Ideal S1x1x1024 .f32) (g : Vec Ideal S1x1024 .f32) (x : Vec Ideal S256x1024 .f32) (r : Fin 256) (k : Fin 1024) :
    k0_pay10 a b g x (ix2 r k) = modulated (fun l => x (ix2 r l)) (fun l => g (ix2 0 l)) (fun l => b (ix3 0 0 l)) (fun l => a (ix3 0 0 l)) k := by
  pointwise [k0_pay10, k0_pay9, k0_pay6, k0_pay7, k0_pay8, modulated, rmsFactor]

theorem own_at (a b : Vec Ideal S1x1x1024 .f32) (g : Vec Ideal S1x1024 .f32) (x : Vec Ideal S256x1024 .f32) (r : Fin 256) (k : Fin 1024) :
    k0_pay17 (k0_pay9 a b g x) (ix2 r k) = modulated (fun l => x (ix2 r l)) (fun l => g (ix2 0 l)) (fun l => b (ix3 0 0 l)) (fun l => a (ix3 0 0 l)) k := by
  pointwise [k0_pay17, k0_pay9, k0_pay6, k0_pay7, k0_pay8, modulated, rmsFactor]

theorem before_at (a b : Vec Ideal S1x1x1024 .f32) (g : Vec Ideal S1x1024 .f32) (v : BitVec 32) (x : Vec Ideal S8x1024 .f32) (r : Fin 8) (k : Fin 1024) :
    k0_pay12 (k0_pay6 a) (k0_pay7 b) (k0_pay8 g) v x (ix2 r k)
      = modulated (fun l => x (ix2 r l)) (fun l => g (ix2 0 l)) (fun l => b (ix3 0 0 l)) (fun l => a (ix3 0 0 l)) k
        * (Scalar.select (Scalar.cmpi .eq v 0#32) (Scalar.ofBits .f32 0x00000000#32) (Scalar.ofBits .f32 0x3F800000#32) : Ideal .f32) := by
  pointwise [k0_pay12, k0_pay6, k0_pay7, k0_pay8, modulated, rmsFactor]

theorem after_at (a b : Vec Ideal S1x1x1024 .f32) (g : Vec Ideal S1x1024 .f32) (f : Ideal .f32) (x : Vec Ideal S8x1024 .f32) (r : Fin 8) (k : Fin 1024) :
    k0_pay15 (k0_pay6 a) f (k0_pay13 (k0_pay8 g) x) (k0_pay14 (k0_pay7 b)) (ix2 r k)
      = modulated (fun l => x (ix2 r l)) (fun l => g (ix2 0 l)) (fun l => b (ix3 0 0 l)) (fun l => a (ix3 0 0 l)) k * f := by
  pointwise [k0_pay15, k0_pay13, k0_pay14, k0_pay6, k0_pay7, k0_pay8, modulated, rmsFactor]

variable (c : Dev nD) (i : grid0.Coords)
variable (arg1 : Memref sig .tc .vmem S256x1024 .f32) (harg1 : arg1.IsWhole)
variable (arg2 : Memref sig .tc .vmem S8x1024 .f32) (harg2 : arg2.IsWhole)
variable (arg3 : Memref sig .tc .vmem S8x1024 .f32) (harg3 : arg3.IsWhole)
variable (arg4 : Memref sig .tc .vmem S1x1x6144 .f32) (harg4 : arg4.IsWhole)
variable (arg5 : Memref sig .tc .vmem S1x1024 .f32) (harg5 : arg5.IsWhole)
variable (arg6 : Memref sig .tc .vmem S1x1024x4736 .bf16) (harg6 : arg6.IsWhole)
variable (arg7 : Memref sig .tc .vmem S1x1024x6144 .bf16) (harg7 : arg7.IsWhole)
variable (arg8 : Memref sig .tc .vmem S4x2560 .f32) (harg8 : arg8.IsWhole)
variable (arg9 : Memref sig .tc .vmem S1x2560 .f32) (harg9 : arg9.IsWhole)
variable (arg10 : Memref sig .tc .vmem S256x4736 .f32) (harg10 : arg10.IsWhole)
variable (arg11 : Memref sig .tc .vmem S256x6144 .bf16) (harg11 : arg11.IsWhole)
variable (arg12 : Memref sig .tc .vmem S272x1024 .f32) (harg12 : arg12.IsWhole)
variable (arg13 : Memref sig .tc .vmem S20x272x128 .f32) (harg13 : arg13.IsWhole)
variable (arg14 : Memref sig .tc .vmem S20x256x128 .f32) (harg14 : arg14.IsWhole)
variable (x0 : Vec Ideal S256x1024 .f32) (x1 : Vec Ideal S8x1024 .f32) (x2 : Vec Ideal S8x1024 .f32) (x3 : Vec Ideal S1x1x6144 .f32)
variable (x4 : Vec Ideal S1x1024 .f32) (x5 : Vec Ideal S1x1024x4736 .bf16) (x6 : Vec Ideal S1x1024x6144 .bf16) (x7 : Vec Ideal S4x2560 .f32) (x8 : Vec Ideal S1x2560 .f32)

/-- The factor of the rows before the block, -/
def headFactorAt (i : grid0.Coords) : EReal :=
  (Scalar.select (Scalar.cmpi .eq (kernelRun0_A.sl.v33 i) 0#32) (Scalar.ofBits .f32 0x00000000#32) (Scalar.ofBits .f32 0x3F800000#32) : Ideal .f32)

/-- and of the rows after it. -/
def tailFactorAt (i : grid0.Coords) : EReal :=
  (Scalar.select (Scalar.cmpi .eq (Scalar.addi (kernelRun0_A.sl.v33 i) 256#32) (kernelRun0_A.sl.v34 i))
    (Scalar.ofBits .f32 0x00000000#32) (Scalar.ofBits .f32 0x3F800000#32) : Ideal .f32)

/-- A row under the block's norm and modulation. -/
def modRow (x3 : Vec Ideal S1x1x6144 .f32) (x4 : Vec Ideal S1x1024 .f32) (x : Fin 1024 → EReal) (k : Fin 1024) : EReal :=
  modulated x (fun l => x4 (ix2 0 l)) (fun l => x3 (ix3 0 0 ⟨1024 + l, by omega⟩)) (fun l => x3 (ix3 0 0 ⟨l, by omega⟩)) k

/-- The 272 rows: eight before the block, the block's, eight after it. -/
def X0 (i : grid0.Coords) (x0 : Vec Ideal S256x1024 .f32) (x1 : Vec Ideal S8x1024 .f32) (x2 : Vec Ideal S8x1024 .f32) (x3 : Vec Ideal S1x1x6144 .f32)
    (x4 : Vec Ideal S1x1024 .f32) (r : Fin 272) (k : Fin 1024) : EReal :=
  if h : r.val < 8 then modRow x3 x4 (fun l => x1 (ix2 ⟨r, h⟩ l)) k * headFactorAt i
  else if h' : r.val < 264 then modRow x3 x4 (fun l => x0 (ix2 ⟨r - 8, by omega⟩ l)) k
  else modRow x3 x4 (fun l => x2 (ix2 ⟨r - 264, by omega⟩ l)) k * tailFactorAt i

/-- As contents of the scratch buffer. -/
def H0 (i : grid0.Coords) (x0 : Vec Ideal S256x1024 .f32) (x1 : Vec Ideal S8x1024 .f32) (x2 : Vec Ideal S8x1024 .f32) (x3 : Vec Ideal S1x1x6144 .f32)
    (x4 : Vec Ideal S1x1024 .f32) (y : S272x1024.Idx) : EReal := X0 i x0 x1 x2 x3 x4 (y 0) (y 1)

/-- What the body reads of the modulation's row and of the norm's weights. -/
theorem mod_at (o : ℕ) (inb : ∀ a, ![0, 0, o] a + S1x1x1024.size a ≤ S1x1x6144.size a) (l : Fin 1024) (ho : o + l < 6144) :
    View.readAt (Elt Ideal) arg4.view (Rect.unit (s := S1x1x6144) ![0, 0, o] S1x1x1024.size inb).toLoadRect (harg4.unread x3) (ix3 0 0 l)
      = x3 (ix3 0 0 ⟨o + l, ho⟩) := by
  rw [View.readAt_eq_ld, harg4.read_unread]
  show x3 ((Rect.unit (s := S1x1x6144) ![0, 0, o] S1x1x1024.size inb).emb _) = x3 _
  blk_ext

theorem norm_at (inb : ∀ a, ![0, 0] a + S1x1024.size a ≤ S1x1024.size a) (l : Fin 1024) :
    View.readAt (Elt Ideal) arg5.view (Rect.unit (s := S1x1024) ![0, 0] S1x1024.size inb).toLoadRect (harg5.unread x4) (ix2 0 l) = x4 (ix2 0 l) := by
  rw [View.readAt_eq_ld, harg5.read_unread]
  show x4 ((Rect.unit (s := S1x1024) ![0, 0] S1x1024.size inb).emb _) = x4 _
  blk_ext

/-- The modulation as the body reads it. -/
abbrev shiftRow (inb : ∀ a, ![0, 0, 0] a + S1x1x1024.size a ≤ S1x1x6144.size a) : Vec Ideal S1x1x1024 .f32 :=
  View.readAt (Elt Ideal) arg4.view (Rect.unit (s := S1x1x6144) ![0, 0, 0] S1x1x1024.size inb).toLoadRect (harg4.unread x3)

abbrev scaleRow (inb : ∀ a, ![0, 0, 1024] a + S1x1x1024.size a ≤ S1x1x6144.size a) : Vec Ideal S1x1x1024 .f32 :=
  View.readAt (Elt Ideal) arg4.view (Rect.unit (s := S1x1x6144) ![0, 0, 1024] S1x1x1024.size inb).toLoadRect (harg4.unread x3)

abbrev normRow (inb : ∀ a, ![0, 0] a + S1x1024.size a ≤ S1x1024.size a) : Vec Ideal S1x1024 .f32 :=
  View.readAt (Elt Ideal) arg5.view (Rect.unit (s := S1x1024) ![0, 0] S1x1024.size inb).toLoadRect (harg5.unread x4)

/-- A row normalised and modulated by what the body reads is the row under the block's norm and modulation. -/
theorem modRow_read (ia ib ig) (x x' : Fin 1024 → EReal) (hx : ∀ l, x l = x' l) (k : Fin 1024) :
    modulated x (fun l => normRow arg5 harg5 x4 ig (ix2 0 l)) (fun l => scaleRow arg4 harg4 x3 ib (ix3 0 0 l))
      (fun l => shiftRow arg4 harg4 x3 ia (ix3 0 0 l)) k = modRow x3 x4 x' k := by
  have hs : (fun l => shiftRow arg4 harg4 x3 ia (ix3 0 0 l)) = fun l : Fin 1024 => x3 (ix3 0 0 ⟨l, by omega⟩) := funext fun l => by
    unfold shiftRow; rw [mod_at arg4 harg4 x3 0 ia l (by omega)]; simp only [Nat.zero_add]
  have hc : (fun l => scaleRow arg4 harg4 x3 ib (ix3 0 0 l)) = fun l : Fin 1024 => x3 (ix3 0 0 ⟨1024 + l, by omega⟩) := funext fun l =>
    mod_at arg4 harg4 x3 1024 ib l (by omega)
  have hn : (fun l => normRow arg5 harg5 x4 ig (ix2 0 l)) = fun l : Fin 1024 => x4 (ix2 0 l) := funext fun l => norm_at arg5 harg5 x4 ig l
  rw [hs, hc, hn, funext hx, modRow]

theorem after_piece (ia ib ig io ix) (y : (Rect.unit (s := S272x1024) ![264, 0] S8x1024.size io).shape.Idx) :
    k0_pay15 (k0_pay6 (shiftRow arg4 harg4 x3 ia)) (k0_pay11 (kernelRun0_A.sl.v33 i) (kernelRun0_A.sl.v34 i))
      (k0_pay13 (k0_pay8 (normRow arg5 harg5 x4 ig))
        (View.readAt (Elt Ideal) arg3.view (Rect.unit (s := S8x1024) ![0, 0] S8x1024.size ix).toLoadRect (harg3.unread x2)))
      (k0_pay14 (k0_pay7 (scaleRow arg4 harg4 x3 ib))) y
      = H0 i x0 x1 x2 x3 x4 ((Rect.unit (s := S272x1024) ![264, 0] S8x1024.size io).emb y) := by
  idx_vars y
  have e : (Rect.unit (s := S272x1024) ![264, 0] S8x1024.size io).emb (ix2 y0 y1) = ix2 ⟨264 + y0, by omega⟩ y1 := by blk_ext
  rw [e]
  refine (after_at _ _ _ _ _ y0 y1).trans ?_
  show _ = X0 i x0 x1 x2 x3 x4 ⟨264 + y0, _⟩ y1
  rw [X0, dif_neg (by show ¬ (264 + y0.val < 8); omega), dif_neg (by show ¬ (264 + y0.val < 264); omega)]
  refine congrArg₂ (· * ·) (modRow_read arg4 harg4 arg5 harg5 x3 x4 ia ib ig _ _ (fun l => ?_) y1) rfl
  rw [View.readAt_eq_ld, harg3.read_unread]
  show x2 ((Rect.unit (s := S8x1024) ![0, 0] S8x1024.size ix).emb _) = x2 _
  blk_ext

theorem before_piece (ia ib ig io ix) (y : (Rect.unit (s := S272x1024) ![0, 0] S8x1024.size io).shape.Idx) :
    k0_pay12 (k0_pay6 (shiftRow arg4 harg4 x3 ia)) (k0_pay7 (scaleRow arg4 harg4 x3 ib)) (k0_pay8 (normRow arg5 harg5 x4 ig)) (kernelRun0_A.sl.v33 i)
        (View.readAt (Elt Ideal) arg2.view (Rect.unit (s := S8x1024) ![0, 0] S8x1024.size ix).toLoadRect (harg2.unread x1)) y
      = H0 i x0 x1 x2 x3 x4 ((Rect.unit (s := S272x1024) ![0, 0] S8x1024.size io).emb y) := by
  idx_vars y
  have e : (Rect.unit (s := S272x1024) ![0, 0] S8x1024.size io).emb (ix2 y0 y1) = ix2 ⟨y0, by omega⟩ y1 := by blk_ext
  rw [e]
  refine (before_at _ _ _ _ _ y0 y1).trans ?_
  show _ = X0 i x0 x1 x2 x3 x4 ⟨y0, _⟩ y1
  rw [X0, dif_pos (by show y0.val < 8; omega)]
  refine congrArg₂ (· * ·) (modRow_read arg4 harg4 arg5 harg5 x3 x4 ia ib ig _ _ (fun l => ?_) y1) rfl
  rw [View.readAt_eq_ld, harg2.read_unread]
  show x1 ((Rect.unit (s := S8x1024) ![0, 0] S8x1024.size ix).emb _) = x1 _
  blk_ext

/-- The block's own rows under the norm and the modulation, -/
theorem main_value (ia ib ig ix) (r : Fin 256) (k : Fin 1024) :
    k0_pay10 (shiftRow arg4 harg4 x3 ia) (scaleRow arg4 harg4 x3 ib) (normRow arg5 harg5 x4 ig)
        (View.readAt (Elt Ideal) arg1.view (Rect.unit (s := S256x1024) ![0, 0] S256x1024.size ix).toLoadRect (harg1.unread x0)) (ix2 r k)
      = modRow x3 x4 (fun l => x0 (ix2 r l)) k := by
  refine (main_at _ _ _ _ r k).trans ?_
  refine modRow_read arg4 harg4 arg5 harg5 x3 x4 ia ib ig _ _ (fun l => ?_) k
  rw [View.readAt_eq_ld, harg1.read_unread]
  show x0 ((Rect.unit (s := S256x1024) ![0, 0] S256x1024.size ix).emb _) = x0 _
  blk_ext

theorem main_piece (ia ib ig io ix) (y : (Rect.unit (s := S272x1024) ![8, 0] S256x1024.size io).shape.Idx) :
    k0_pay10 (shiftRow arg4 harg4 x3 ia) (scaleRow arg4 harg4 x3 ib) (normRow arg5 harg5 x4 ig)
        (View.readAt (Elt Ideal) arg1.view (Rect.unit (s := S256x1024) ![0, 0] S256x1024.size ix).toLoadRect (harg1.unread x0)) y
      = H0 i x0 x1 x2 x3 x4 ((Rect.unit (s := S272x1024) ![8, 0] S256x1024.size io).emb y) := by
  idx_vars y
  have e : (Rect.unit (s := S272x1024) ![8, 0] S256x1024.size io).emb (ix2 y0 y1) = ix2 ⟨8 + y0, by omega⟩ y1 := by blk_ext
  rw [e]
  refine (main_value arg1 harg1 arg4 harg4 arg5 harg5 x0 x3 x4 ia ib ig ix y0 y1).trans ?_
  show _ = X0 i x0 x1 x2 x3 x4 ⟨8 + y0, _⟩ y1
  rw [X0, dif_neg (by show ¬ (8 + y0.val < 8); omega), dif_pos (by show 8 + y0.val < 264; omega)]
  simp only [Nat.add_sub_cancel_left]

/-- The three stores into the rows' buffer hold them. -/
theorem agree_rows : Agree (kernelRun0_A.sl.HS0_3 (F := Ideal) c i arg1 harg1 arg2 harg2 arg3 harg3 arg4 harg4 arg5 harg5 x0 x1 x2 x3 x4)
    (H0 i x0 x1 x2 x3 x4) :=
  .cons _ _ (after_piece i arg3 harg3 arg4 harg4 arg5 harg5 x0 x1 x2 x3 x4 _ _ _ _ _)
    (.cons _ _ (before_piece i arg2 harg2 arg4 harg4 arg5 harg5 x0 x1 x2 x3 x4 _ _ _ _ _)
      (.cons _ _ (main_piece i arg1 harg1 arg4 harg4 arg5 harg5 x0 x1 x2 x3 x4 _ _ _ _ _) .nil))

/-- They cover it, -/
theorem rows_cover (r : Fin 272) (k : Fin 1024) : ∃ p ∈ (kernelRun0_A.sl.HS0_3 (F := Ideal) c i arg1 harg1 arg2 harg2 arg3 harg3 arg4 harg4 arg5 harg5 x0 x1 x2 x3 x4), (ix2 r k : S272x1024.Idx) ∈ p.1.set := by
  rcases lt_or_ge r.val 8 with h | h
  · have e : (Rect.unit (s := S272x1024) ![0, 0] S8x1024.size inb_S272x1024_S8x1024_0_0).emb (ix2 ⟨r, h⟩ k) = ix2 r k := by blk_ext
    exact ⟨_, .tail _ (.head _), e ▸ LoadRect.idx_mem _ _⟩
  rcases lt_or_ge r.val 264 with h' | h'
  · have e : (Rect.unit (s := S272x1024) ![8, 0] S256x1024.size inb_S272x1024_S256x1024_8_0).emb (ix2 ⟨r - 8, by omega⟩ k) = ix2 r k := by blk_ext
    exact ⟨_, .tail _ (.tail _ (.head _)), e ▸ LoadRect.idx_mem _ _⟩
  · have e : (Rect.unit (s := S272x1024) ![264, 0] S8x1024.size inb_S272x1024_S8x1024_264_0).emb (ix2 ⟨r - 264, by omega⟩ k) = ix2 r k := by blk_ext
    exact ⟨_, .head _, e ▸ LoadRect.idx_mem _ _⟩

theorem stored_row (r : Fin 272) (k : Fin 1024) : View.canon (kernelRun0_A.sl.HS0_3 (F := Ideal) c i arg1 harg1 arg2 harg2 arg3 harg3 arg4 harg4 arg5 harg5 x0 x1 x2 x3 x4) (ix2 r k : S272x1024.Idx) = X0 i x0 x1 x2 x3 x4 r k :=
  (agree_rows c i arg1 harg1 arg2 harg2 arg3 harg3 arg4 harg4 arg5 harg5 x0 x1 x2 x3 x4).canon _ (rows_cover c i arg1 harg1 arg2 harg2 arg3 harg3 arg4 harg4 arg5 harg5 x0 x1 x2 x3 x4 r k)

theorem whole_rows (r : Fin 272) (k : Fin 1024) :
    (Rect.unit (s := S272x1024) ![0, 0] S272x1024.size inb_S272x1024_S272x1024_0_0).toLoadRect.idx (ix2 r k) = ix2 r k := by
  funext d
  apply Fin.ext
  fin_cases d
  · show 0 + 1 * r.val = r.val; omega
  · show 0 + 1 * k.val = k.val; omega

theorem read_back (L : List (View.Piece (Elt Ideal) S272x1024 .f32)) (r : Fin 272) (k : Fin 1024) :
    arg12.view.readCov L (Rect.unit (s := S272x1024) ![0, 0] S272x1024.size inb_S272x1024_S272x1024_0_0).toLoadRect (ix2 r k)
      = View.canon L (ix2 r k : S272x1024.Idx) :=
  (congrFun (View.readCov_eq_canon' arg12.view L (Rect.unit (s := S272x1024) ![0, 0] S272x1024.size inb_S272x1024_S272x1024_0_0).toLoadRect)
    (ix2 r k)).trans (congrArg (View.canon L) (whole_rows r k))

theorem truncf_self (v : FVec Ideal S272x1024 .f32) : (truncf .bf16 v bitsLt_bf16_f32 : FVec Ideal S272x1024 .bf16) = v := rfl

/-- so they are what is read back, -/
theorem read_row (r : Fin 272) (k : Fin 1024) : (kernelRun0_A.sl.v84 (F := Ideal) c i arg1 harg1 arg2 harg2 arg3 harg3 arg4 harg4 arg5 harg5 arg12 x0 x1 x2 x3 x4) (ix2 r k) = X0 i x0 x1 x2 x3 x4 r k :=
  (read_back arg12 (kernelRun0_A.sl.HS0_3 (F := Ideal) c i arg1 harg1 arg2 harg2 arg3 harg3 arg4 harg4 arg5 harg5 x0 x1 x2 x3 x4) r k).trans (stored_row c i arg1 harg1 arg2 harg2 arg3 harg3 arg4 harg4 arg5 harg5 x0 x1 x2 x3 x4 r k)

/-- and what the body multiplies. -/
theorem ext_at (r : Fin 272) (k : Fin 1024) : (ext c i arg1 harg1 arg2 harg2 arg3 harg3 arg4 harg4 arg5 harg5 arg12 x0 x1 x2 x3 x4) (ix2 r k) = X0 i x0 x1 x2 x3 x4 r k :=
  (congrFun (truncf_self (kernelRun0_A.sl.v84 (F := Ideal) c i arg1 harg1 arg2 harg2 arg3 harg3 arg4 harg4 arg5 harg5 arg12 x0 x1 x2 x3 x4)) (ix2 r k)).trans (read_row c i arg1 harg1 arg2 harg2 arg3 harg3 arg4 harg4 arg5 harg5 arg12 x0 x1 x2 x3 x4 r k)

theorem rows_at (r : Fin 256) (k : Fin 1024) : (rows c arg1 harg1 arg4 harg4 arg5 harg5 x0 x3 x4) (ix2 r k) = modRow x3 x4 (fun l => x0 (ix2 r l)) k := by
  refine (own_at (shiftRow arg4 harg4 x3 _) (scaleRow arg4 harg4 x3 _) (normRow arg5 harg5 x4 _)
    (View.readAt (Elt Ideal) arg1.view (Rect.unit (s := S256x1024) ![0, 0] S256x1024.size _).toLoadRect (harg1.unread x0)) r k).trans ?_
  refine modRow_read arg4 harg4 arg5 harg5 x3 x4 _ _ _ _ _ (fun l => ?_) k
  rw [View.readAt_eq_ld, harg1.read_unread]
  show x0 ((Rect.unit (s := S256x1024) ![0, 0] S256x1024.size _).emb _) = x0 _
  blk_ext

end Cert.InprojIdeal.Value
-- ==== Proof.InprojReference.lean ====
/- The reference of the input projection, read at a token and a column. -/
module

public import proofs.«01_k».proof.Proof.Gen.InprojRefIdeal.Run
public import proofs.«01_k».proof.Proof.FfnReference
public import proofs.«01_k».proof.Proof.InprojMath
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open scoped BigOperators

namespace Cert.Layer

/-- A token's place in its sequence: 32 prompts of 256 tokens, then four samples of 2048 tokens. -/
def place (R : Fin 16384) : ℕ := if R.val < 8192 then R.val % 256 else (R.val - 8192) % 2048

/-- The length of a token's sequence. -/
def seqLen (R : Fin 16384) : ℕ := if R.val < 8192 then 256 else 2048

theorem tap_lt {R : Fin 16384} {j : Fin 4} (h : 2 ≤ place R + j.val ∧ place R + j.val < seqLen R + 2) : R.val + j.val - 2 < 16384 := by
  have := R.isLt
  unfold place seqLen at h
  split at h <;> omega

/-- What tap `j` of the centred convolution sees at a token: the value two before, one before, at or one after it, zero where that
    leaves the token's sequence. -/
def tap (f : Fin 16384 → EReal) (R : Fin 16384) (j : Fin 4) : EReal :=
  if h : 2 ≤ place R + j.val ∧ place R + j.val < seqLen R + 2 then f ⟨R.val + j.val - 2, tap_lt h⟩ else 0

end Cert.Layer

namespace Cert.InprojRefIdeal.Value

open Cert.InprojRefIdeal Cert.InprojRefIdeal.Gen Cert.Layer Idealize.ShloMosaic.StableHlo

/-- The prompts' rows of 1024 columns, two zeros before and one after each sequence. -/
def padCtx1024 (x : FVec Ideal S16384x1024 .f32) : FVec Ideal S32x259x1024 .f32 :=
  pad S32x259x1024 ![0, 2, 0] ![0, 1, 0] ![0, 0, 0] (shapeCast _ (extractStridedSlice S8192x1024 ![0, 0] x slices_S16384x1024_S8192x1024_0_0) shapeCasts_S8192x1024_S32x256x1024 : FVec Ideal S32x256x1024 .f32) (sitofp .f32 (constantI S_ 32 0#32)) pads_S32x256x1024_S32x259x1024_000_210_000 h_S_

/-- The convolution of the prompts' padded rows. -/
def convCtx1024 (xp : FVec Ideal S32x259x1024 .f32) (w : FVec Ideal S4x1024 .f32) (b : FVec Ideal S1024 .f32) : FVec Ideal S32x256x1024 .f32 :=
  addf (addf (addf (addf (mulf (extractStridedSlice S32x256x1024 ![0, 0, 0] xp slices_S32x259x1024_S32x256x1024_0_0_0) (broadcastInDim S32x256x1024 ![0, 1, 2] bcast_S1x1x1024_S32x256x1024_0_1_2 (broadcastInDim S1x1x1024 ![2] bcast_S1024_S1x1x1024_2 (shapeCast _ (extractStridedSlice S1x1024 ![0, 0] w slices_S4x1024_S1x1024_0_0) shapeCasts_S1x1024_S1024 : FVec Ideal S1024 .f32)))) (mulf (extractStridedSlice S32x256x1024 ![0, 1, 0] xp slices_S32x259x1024_S32x256x1024_0_1_0) (broadcastInDim S32x256x1024 ![0, 1, 2] bcast_S1x1x1024_S32x256x1024_0_1_2 (broadcastInDim S1x1x1024 ![2] bcast_S1024_S1x1x1024_2 (shapeCast _ (extractStridedSlice S1x1024 ![1, 0] w slices_S4x1024_S1x1024_1_0) shapeCasts_S1x1024_S1024 : FVec Ideal S1024 .f32))))) (mulf (extractStridedSlice S32x256x1024 ![0, 2, 0] xp slices_S32x259x1024_S32x256x1024_0_2_0) (broadcastInDim S32x256x1024 ![0, 1, 2] bcast_S1x1x1024_S32x256x1024_0_1_2 (broadcastInDim S1x1x1024 ![2] bcast_S1024_S1x1x1024_2 (shapeCast _ (extractStridedSlice S1x1024 ![2, 0] w slices_S4x1024_S1x1024_2_0) shapeCasts_S1x1024_S1024 : FVec Ideal S1024 .f32))))) (mulf (extractStridedSlice S32x256x1024 ![0, 3, 0] xp slices_S32x259x1024_S32x256x1024_0_3_0) (broadcastInDim S32x256x1024 ![0, 1, 2] bcast_S1x1x1024_S32x256x1024_0_1_2 (broadcastInDim S1x1x1024 ![2] bcast_S1024_S1x1x1024_2 (shapeCast _ (extractStridedSlice S1x1024 ![3, 0] w slices_S4x1024_S1x1024_3_0) shapeCasts_S1x1024_S1024 : FVec Ideal S1024 .f32))))) (broadcastInDim S32x256x1024 ![0, 1, 2] bcast_S1x1x1024_S32x256x1024_0_1_2 (broadcastInDim S1x1x1024 ![2] bcast_S1024_S1x1x1024_2 b))

theorem padCtx1024_at (x : FVec Ideal S16384x1024 .f32) (b : Fin 32) (t : Fin 259) (n : Fin 1024) :
    padCtx1024 x (ix3 b t n) = if h : 2 ≤ t.val ∧ t.val < 258 then x (ix2 ⟨(256 * b.val + (t.val - 2)), by omega⟩ n) else 0 := by
  by_cases h : 2 ≤ t.val ∧ t.val < 258
  · rw [dif_pos h]
    obtain ⟨h1, h2⟩ := h
    have h3 : t.val - 2 < 256 := by omega
    pointwise [padCtx1024, h1, h2, h3] <;> exact congrArg (fun r => x (ix2 r n)) (Fin.ext (by show (b.val * 256 + (t.val - 2)) = (256 * b.val + (t.val - 2)); omega))
  · rw [dif_neg h]
    have h' : ¬ (2 ≤ t.val ∧ t.val - 2 < 256) := by omega
    pointwise [padCtx1024, h']
    exact sitofp_zero

theorem convCtx1024_at (xp : FVec Ideal S32x259x1024 .f32) (w : FVec Ideal S4x1024 .f32) (b : FVec Ideal S1024 .f32)
    (s : Fin 32) (t : Fin 256) (n : Fin 1024) :
    convCtx1024 xp w b (ix3 s t n) = conv (b (ix1 n)) (fun j => w (ix2 j n)) (fun j => xp (ix3 s ⟨j.val + t.val, by omega⟩ n)) := by
  pointwise [convCtx1024, conv]

/-- The samples' rows of 1024 columns, two zeros before and one after each sequence. -/
def padLat1024 (x : FVec Ideal S16384x1024 .f32) : FVec Ideal S4x2051x1024 .f32 :=
  pad S4x2051x1024 ![0, 2, 0] ![0, 1, 0] ![0, 0, 0] (shapeCast _ (extractStridedSlice S8192x1024 ![8192, 0] x slices_S16384x1024_S8192x1024_8192_0) shapeCasts_S8192x1024_S4x2048x1024 : FVec Ideal S4x2048x1024 .f32) (sitofp .f32 (constantI S_ 32 0#32)) pads_S4x2048x1024_S4x2051x1024_000_210_000 h_S_

/-- The convolution of the samples' padded rows. -/
def convLat1024 (xp : FVec Ideal S4x2051x1024 .f32) (w : FVec Ideal S4x1024 .f32) (b : FVec Ideal S1024 .f32) : FVec Ideal S4x2048x1024 .f32 :=
  addf (addf (addf (addf (mulf (extractStridedSlice S4x2048x1024 ![0, 0, 0] xp slices_S4x2051x1024_S4x2048x1024_0_0_0) (broadcastInDim S4x2048x1024 ![0, 1, 2] bcast_S1x1x1024_S4x2048x1024_0_1_2 (broadcastInDim S1x1x1024 ![2] bcast_S1024_S1x1x1024_2 (shapeCast _ (extractStridedSlice S1x1024 ![0, 0] w slices_S4x1024_S1x1024_0_0) shapeCasts_S1x1024_S1024 : FVec Ideal S1024 .f32)))) (mulf (extractStridedSlice S4x2048x1024 ![0, 1, 0] xp slices_S4x2051x1024_S4x2048x1024_0_1_0) (broadcastInDim S4x2048x1024 ![0, 1, 2] bcast_S1x1x1024_S4x2048x1024_0_1_2 (broadcastInDim S1x1x1024 ![2] bcast_S1024_S1x1x1024_2 (shapeCast _ (extractStridedSlice S1x1024 ![1, 0] w slices_S4x1024_S1x1024_1_0) shapeCasts_S1x1024_S1024 : FVec Ideal S1024 .f32))))) (mulf (extractStridedSlice S4x2048x1024 ![0, 2, 0] xp slices_S4x2051x1024_S4x2048x1024_0_2_0) (broadcastInDim S4x2048x1024 ![0, 1, 2] bcast_S1x1x1024_S4x2048x1024_0_1_2 (broadcastInDim S1x1x1024 ![2] bcast_S1024_S1x1x1024_2 (shapeCast _ (extractStridedSlice S1x1024 ![2, 0] w slices_S4x1024_S1x1024_2_0) shapeCasts_S1x1024_S1024 : FVec Ideal S1024 .f32))))) (mulf (extractStridedSlice S4x2048x1024 ![0, 3, 0] xp slices_S4x2051x1024_S4x2048x1024_0_3_0) (broadcastInDim S4x2048x1024 ![0, 1, 2] bcast_S1x1x1024_S4x2048x1024_0_1_2 (broadcastInDim S1x1x1024 ![2] bcast_S1024_S1x1x1024_2 (shapeCast _ (extractStridedSlice S1x1024 ![3, 0] w slices_S4x1024_S1x1024_3_0) shapeCasts_S1x1024_S1024 : FVec Ideal S1024 .f32))))) (broadcastInDim S4x2048x1024 ![0, 1, 2] bcast_S1x1x1024_S4x2048x1024_0_1_2 (broadcastInDim S1x1x1024 ![2] bcast_S1024_S1x1x1024_2 b))

theorem padLat1024_at (x : FVec Ideal S16384x1024 .f32) (b : Fin 4) (t : Fin 2051) (n : Fin 1024) :
    padLat1024 x (ix3 b t n) = if h : 2 ≤ t.val ∧ t.val < 2050 then x (ix2 ⟨8192 + (2048 * b.val + (t.val - 2)), by omega⟩ n) else 0 := by
  by_cases h : 2 ≤ t.val ∧ t.val < 2050
  · rw [dif_pos h]
    obtain ⟨h1, h2⟩ := h
    have h3 : t.val - 2 < 2048 := by omega
    pointwise [padLat1024, h1, h2, h3] <;> exact congrArg (fun r => x (ix2 r n)) (Fin.ext (by show 8192 + (b.val * 2048 + (t.val - 2)) = 8192 + (2048 * b.val + (t.val - 2)); omega))
  · rw [dif_neg h]
    have h' : ¬ (2 ≤ t.val ∧ t.val - 2 < 2048) := by omega
    pointwise [padLat1024, h']
    exact sitofp_zero

theorem convLat1024_at (xp : FVec Ideal S4x2051x1024 .f32) (w : FVec Ideal S4x1024 .f32) (b : FVec Ideal S1024 .f32)
    (s : Fin 4) (t : Fin 2048) (n : Fin 1024) :
    convLat1024 xp w b (ix3 s t n) = conv (b (ix1 n)) (fun j => w (ix2 j n)) (fun j => xp (ix3 s ⟨j.val + t.val, by omega⟩ n)) := by
  pointwise [convLat1024, conv]

/-- The convolution of every token's 1024 columns. -/
def conv1024 (x : FVec Ideal S16384x1024 .f32) (w : FVec Ideal S4x1024 .f32) (b : FVec Ideal S1024 .f32) : FVec Ideal S16384x1024 .f32 :=
  concatenate S16384x1024 0 [⟨S8192x1024, (shapeCast _ (convCtx1024 (padCtx1024 x) w b) shapeCasts_S32x256x1024_S8192x1024)⟩, ⟨S8192x1024, (shapeCast _ (convLat1024 (padLat1024 x) w b) shapeCasts_S4x2048x1024_S8192x1024)⟩] concatenates_S8192x1024_S8192x1024_S16384x1024_d0

theorem conv1024_read (x : FVec Ideal S16384x1024 .f32) (w : FVec Ideal S4x1024 .f32) (b : FVec Ideal S1024 .f32) (R : Fin 16384) (n : Fin 1024) :
    conv1024 x w b (ix2 R n) = if h : R.val < 8192 then convCtx1024 (padCtx1024 x) w b (ix3 ⟨R.val / 256, by omega⟩ ⟨R.val % 256, by omega⟩ n)
      else convLat1024 (padLat1024 x) w b (ix3 ⟨(R.val - 8192) / 2048, by omega⟩ ⟨(R.val - 8192) % 2048, by omega⟩ n) := by
  by_cases h : R.val < 8192
  · pointwise [conv1024, h]
  · pointwise [conv1024, h]

theorem conv1024_at (x : FVec Ideal S16384x1024 .f32) (w : FVec Ideal S4x1024 .f32) (b : FVec Ideal S1024 .f32) (R : Fin 16384) (n : Fin 1024) :
    conv1024 x w b (ix2 R n) = conv (b (ix1 n)) (fun j => w (ix2 j n)) (tap (fun R => x (ix2 R n)) R) := by
  have hR := R.isLt
  rw [conv1024_read]
  by_cases h : R.val < 8192
  · rw [dif_pos h, convCtx1024_at]
    congr 1
    funext j
    rw [padCtx1024_at, tap]
    have hp : place R = R.val % 256 := if_pos h
    have hl : seqLen R = 256 := if_pos h
    by_cases hj : 2 ≤ j.val + R.val % 256 ∧ j.val + R.val % 256 < 258
    · rw [dif_pos hj, dif_pos (by omega)]
      exact congrArg (fun r => x (ix2 r n)) (Fin.ext (by show 256 * (R.val / 256) + (j.val + R.val % 256 - 2) = R.val + j.val - 2; omega))
    · rw [dif_neg hj, dif_neg (by omega)]
  · rw [dif_neg h, convLat1024_at]
    congr 1
    funext j
    rw [padLat1024_at, tap]
    have hp : place R = (R.val - 8192) % 2048 := if_neg h
    have hl : seqLen R = 2048 := if_neg h
    by_cases hj : 2 ≤ j.val + (R.val - 8192) % 2048 ∧ j.val + (R.val - 8192) % 2048 < 2050
    · rw [dif_pos hj, dif_pos (by omega)]
      exact congrArg (fun r => x (ix2 r n)) (Fin.ext (by show 8192 + (2048 * ((R.val - 8192) / 2048) + (j.val + (R.val - 8192) % 2048 - 2)) = R.val + j.val - 2; omega))
    · rw [dif_neg hj, dif_neg (by omega)]

/-- The prompts' rows of 1536 columns, two zeros before and one after each sequence. -/
def padCtx1536 (x : FVec Ideal S16384x1536 .f32) : FVec Ideal S32x259x1536 .f32 :=
  pad S32x259x1536 ![0, 2, 0] ![0, 1, 0] ![0, 0, 0] (shapeCast _ (extractStridedSlice S8192x1536 ![0, 0] x slices_S16384x1536_S8192x1536_0_0) shapeCasts_S8192x1536_S32x256x1536 : FVec Ideal S32x256x1536 .f32) (sitofp .f32 (constantI S_ 32 0#32)) pads_S32x256x1536_S32x259x1536_000_210_000 h_S_

/-- The convolution of the prompts' padded rows. -/
def convCtx1536 (xp : FVec Ideal S32x259x1536 .f32) (w : FVec Ideal S4x1536 .f32) (b : FVec Ideal S1536 .f32) : FVec Ideal S32x256x1536 .f32 :=
  addf (addf (addf (addf (mulf (extractStridedSlice S32x256x1536 ![0, 0, 0] xp slices_S32x259x1536_S32x256x1536_0_0_0) (broadcastInDim S32x256x1536 ![0, 1, 2] bcast_S1x1x1536_S32x256x1536_0_1_2 (broadcastInDim S1x1x1536 ![2] bcast_S1536_S1x1x1536_2 (shapeCast _ (extractStridedSlice S1x1536 ![0, 0] w slices_S4x1536_S1x1536_0_0) shapeCasts_S1x1536_S1536 : FVec Ideal S1536 .f32)))) (mulf (extractStridedSlice S32x256x1536 ![0, 1, 0] xp slices_S32x259x1536_S32x256x1536_0_1_0) (broadcastInDim S32x256x1536 ![0, 1, 2] bcast_S1x1x1536_S32x256x1536_0_1_2 (broadcastInDim S1x1x1536 ![2] bcast_S1536_S1x1x1536_2 (shapeCast _ (extractStridedSlice S1x1536 ![1, 0] w slices_S4x1536_S1x1536_1_0) shapeCasts_S1x1536_S1536 : FVec Ideal S1536 .f32))))) (mulf (extractStridedSlice S32x256x1536 ![0, 2, 0] xp slices_S32x259x1536_S32x256x1536_0_2_0) (broadcastInDim S32x256x1536 ![0, 1, 2] bcast_S1x1x1536_S32x256x1536_0_1_2 (broadcastInDim S1x1x1536 ![2] bcast_S1536_S1x1x1536_2 (shapeCast _ (extractStridedSlice S1x1536 ![2, 0] w slices_S4x1536_S1x1536_2_0) shapeCasts_S1x1536_S1536 : FVec Ideal S1536 .f32))))) (mulf (extractStridedSlice S32x256x1536 ![0, 3, 0] xp slices_S32x259x1536_S32x256x1536_0_3_0) (broadcastInDim S32x256x1536 ![0, 1, 2] bcast_S1x1x1536_S32x256x1536_0_1_2 (broadcastInDim S1x1x1536 ![2] bcast_S1536_S1x1x1536_2 (shapeCast _ (extractStridedSlice S1x1536 ![3, 0] w slices_S4x1536_S1x1536_3_0) shapeCasts_S1x1536_S1536 : FVec Ideal S1536 .f32))))) (broadcastInDim S32x256x1536 ![0, 1, 2] bcast_S1x1x1536_S32x256x1536_0_1_2 (broadcastInDim S1x1x1536 ![2] bcast_S1536_S1x1x1536_2 b))

theorem padCtx1536_at (x : FVec Ideal S16384x1536 .f32) (b : Fin 32) (t : Fin 259) (n : Fin 1536) :
    padCtx1536 x (ix3 b t n) = if h : 2 ≤ t.val ∧ t.val < 258 then x (ix2 ⟨(256 * b.val + (t.val - 2)), by omega⟩ n) else 0 := by
  by_cases h : 2 ≤ t.val ∧ t.val < 258
  · rw [dif_pos h]
    obtain ⟨h1, h2⟩ := h
    have h3 : t.val - 2 < 256 := by omega
    pointwise [padCtx1536, h1, h2, h3] <;> exact congrArg (fun r => x (ix2 r n)) (Fin.ext (by show (b.val * 256 + (t.val - 2)) = (256 * b.val + (t.val - 2)); omega))
  · rw [dif_neg h]
    have h' : ¬ (2 ≤ t.val ∧ t.val - 2 < 256) := by omega
    pointwise [padCtx1536, h']
    exact sitofp_zero

theorem convCtx1536_at (xp : FVec Ideal S32x259x1536 .f32) (w : FVec Ideal S4x1536 .f32) (b : FVec Ideal S1536 .f32)
    (s : Fin 32) (t : Fin 256) (n : Fin 1536) :
    convCtx1536 xp w b (ix3 s t n) = conv (b (ix1 n)) (fun j => w (ix2 j n)) (fun j => xp (ix3 s ⟨j.val + t.val, by omega⟩ n)) := by
  pointwise [convCtx1536, conv]

/-- The samples' rows of 1536 columns, two zeros before and one after each sequence. -/
def padLat1536 (x : FVec Ideal S16384x1536 .f32) : FVec Ideal S4x2051x1536 .f32 :=
  pad S4x2051x1536 ![0, 2, 0] ![0, 1, 0] ![0, 0, 0] (shapeCast _ (extractStridedSlice S8192x1536 ![8192, 0] x slices_S16384x1536_S8192x1536_8192_0) shapeCasts_S8192x1536_S4x2048x1536 : FVec Ideal S4x2048x1536 .f32) (sitofp .f32 (constantI S_ 32 0#32)) pads_S4x2048x1536_S4x2051x1536_000_210_000 h_S_

/-- The convolution of the samples' padded rows. -/
def convLat1536 (xp : FVec Ideal S4x2051x1536 .f32) (w : FVec Ideal S4x1536 .f32) (b : FVec Ideal S1536 .f32) : FVec Ideal S4x2048x1536 .f32 :=
  addf (addf (addf (addf (mulf (extractStridedSlice S4x2048x1536 ![0, 0, 0] xp slices_S4x2051x1536_S4x2048x1536_0_0_0) (broadcastInDim S4x2048x1536 ![0, 1, 2] bcast_S1x1x1536_S4x2048x1536_0_1_2 (broadcastInDim S1x1x1536 ![2] bcast_S1536_S1x1x1536_2 (shapeCast _ (extractStridedSlice S1x1536 ![0, 0] w slices_S4x1536_S1x1536_0_0) shapeCasts_S1x1536_S1536 : FVec Ideal S1536 .f32)))) (mulf (extractStridedSlice S4x2048x1536 ![0, 1, 0] xp slices_S4x2051x1536_S4x2048x1536_0_1_0) (broadcastInDim S4x2048x1536 ![0, 1, 2] bcast_S1x1x1536_S4x2048x1536_0_1_2 (broadcastInDim S1x1x1536 ![2] bcast_S1536_S1x1x1536_2 (shapeCast _ (extractStridedSlice S1x1536 ![1, 0] w slices_S4x1536_S1x1536_1_0) shapeCasts_S1x1536_S1536 : FVec Ideal S1536 .f32))))) (mulf (extractStridedSlice S4x2048x1536 ![0, 2, 0] xp slices_S4x2051x1536_S4x2048x1536_0_2_0) (broadcastInDim S4x2048x1536 ![0, 1, 2] bcast_S1x1x1536_S4x2048x1536_0_1_2 (broadcastInDim S1x1x1536 ![2] bcast_S1536_S1x1x1536_2 (shapeCast _ (extractStridedSlice S1x1536 ![2, 0] w slices_S4x1536_S1x1536_2_0) shapeCasts_S1x1536_S1536 : FVec Ideal S1536 .f32))))) (mulf (extractStridedSlice S4x2048x1536 ![0, 3, 0] xp slices_S4x2051x1536_S4x2048x1536_0_3_0) (broadcastInDim S4x2048x1536 ![0, 1, 2] bcast_S1x1x1536_S4x2048x1536_0_1_2 (broadcastInDim S1x1x1536 ![2] bcast_S1536_S1x1x1536_2 (shapeCast _ (extractStridedSlice S1x1536 ![3, 0] w slices_S4x1536_S1x1536_3_0) shapeCasts_S1x1536_S1536 : FVec Ideal S1536 .f32))))) (broadcastInDim S4x2048x1536 ![0, 1, 2] bcast_S1x1x1536_S4x2048x1536_0_1_2 (broadcastInDim S1x1x1536 ![2] bcast_S1536_S1x1x1536_2 b))

theorem padLat1536_at (x : FVec Ideal S16384x1536 .f32) (b : Fin 4) (t : Fin 2051) (n : Fin 1536) :
    padLat1536 x (ix3 b t n) = if h : 2 ≤ t.val ∧ t.val < 2050 then x (ix2 ⟨8192 + (2048 * b.val + (t.val - 2)), by omega⟩ n) else 0 := by
  by_cases h : 2 ≤ t.val ∧ t.val < 2050
  · rw [dif_pos h]
    obtain ⟨h1, h2⟩ := h
    have h3 : t.val - 2 < 2048 := by omega
    pointwise [padLat1536, h1, h2, h3] <;> exact congrArg (fun r => x (ix2 r n)) (Fin.ext (by show 8192 + (b.val * 2048 + (t.val - 2)) = 8192 + (2048 * b.val + (t.val - 2)); omega))
  · rw [dif_neg h]
    have h' : ¬ (2 ≤ t.val ∧ t.val - 2 < 2048) := by omega
    pointwise [padLat1536, h']
    exact sitofp_zero

theorem convLat1536_at (xp : FVec Ideal S4x2051x1536 .f32) (w : FVec Ideal S4x1536 .f32) (b : FVec Ideal S1536 .f32)
    (s : Fin 4) (t : Fin 2048) (n : Fin 1536) :
    convLat1536 xp w b (ix3 s t n) = conv (b (ix1 n)) (fun j => w (ix2 j n)) (fun j => xp (ix3 s ⟨j.val + t.val, by omega⟩ n)) := by
  pointwise [convLat1536, conv]

/-- The convolution of every token's 1536 columns. -/
def conv1536 (x : FVec Ideal S16384x1536 .f32) (w : FVec Ideal S4x1536 .f32) (b : FVec Ideal S1536 .f32) : FVec Ideal S16384x1536 .f32 :=
  concatenate S16384x1536 0 [⟨S8192x1536, (shapeCast _ (convCtx1536 (padCtx1536 x) w b) shapeCasts_S32x256x1536_S8192x1536)⟩, ⟨S8192x1536, (shapeCast _ (convLat1536 (padLat1536 x) w b) shapeCasts_S4x2048x1536_S8192x1536)⟩] concatenates_S8192x1536_S8192x1536_S16384x1536_d0

theorem conv1536_read (x : FVec Ideal S16384x1536 .f32) (w : FVec Ideal S4x1536 .f32) (b : FVec Ideal S1536 .f32) (R : Fin 16384) (n : Fin 1536) :
    conv1536 x w b (ix2 R n) = if h : R.val < 8192 then convCtx1536 (padCtx1536 x) w b (ix3 ⟨R.val / 256, by omega⟩ ⟨R.val % 256, by omega⟩ n)
      else convLat1536 (padLat1536 x) w b (ix3 ⟨(R.val - 8192) / 2048, by omega⟩ ⟨(R.val - 8192) % 2048, by omega⟩ n) := by
  by_cases h : R.val < 8192
  · pointwise [conv1536, h]
  · pointwise [conv1536, h]

theorem conv1536_at (x : FVec Ideal S16384x1536 .f32) (w : FVec Ideal S4x1536 .f32) (b : FVec Ideal S1536 .f32) (R : Fin 16384) (n : Fin 1536) :
    conv1536 x w b (ix2 R n) = conv (b (ix1 n)) (fun j => w (ix2 j n)) (tap (fun R => x (ix2 R n)) R) := by
  have hR := R.isLt
  rw [conv1536_read]
  by_cases h : R.val < 8192
  · rw [dif_pos h, convCtx1536_at]
    congr 1
    funext j
    rw [padCtx1536_at, tap]
    have hp : place R = R.val % 256 := if_pos h
    have hl : seqLen R = 256 := if_pos h
    by_cases hj : 2 ≤ j.val + R.val % 256 ∧ j.val + R.val % 256 < 258
    · rw [dif_pos hj, dif_pos (by omega)]
      exact congrArg (fun r => x (ix2 r n)) (Fin.ext (by show 256 * (R.val / 256) + (j.val + R.val % 256 - 2) = R.val + j.val - 2; omega))
    · rw [dif_neg hj, dif_neg (by omega)]
  · rw [dif_neg h, convLat1536_at]
    congr 1
    funext j
    rw [padLat1536_at, tap]
    have hp : place R = (R.val - 8192) % 2048 := if_neg h
    have hl : seqLen R = 2048 := if_neg h
    by_cases hj : 2 ≤ j.val + (R.val - 8192) % 2048 ∧ j.val + (R.val - 8192) % 2048 < 2050
    · rw [dif_pos hj, dif_pos (by omega)]
      exact congrArg (fun r => x (ix2 r n)) (Fin.ext (by show 8192 + (2048 * ((R.val - 8192) / 2048) + (j.val + (R.val - 8192) % 2048 - 2)) = R.val + j.val - 2; omega))
    · rw [dif_neg hj, dif_neg (by omega)]

variable (a0 : FVec Ideal S16384x1024 .f32) (a1 : FVec Ideal S2x8x6144 .f32) (a2 : FVec Ideal S2x1024 .f32)
variable (a3 : FVec Ideal S2x1024x4736 .f32) (a4 : FVec Ideal S2x1024x6144 .f32) (a5 : FVec Ideal S2x4x1024 .f32)
variable (a6 : FVec Ideal S2x1024 .f32) (a7 : FVec Ideal S2x4x1536 .f32) (a8 : FVec Ideal S2x1536 .f32)

/-- Every token's modulation row. -/
def modRows : FVec Ideal S16384x6144 .f32 :=
  concatenate S16384x6144 0 [⟨S8192x6144, (broadcastInDim S8192x6144 ![0, 1] bcast_S1x6144_S8192x6144_0_1 (extractStridedSlice S1x6144 ![0, 0] (shapeCast _ (extractStridedSlice S1x8x6144 ![1, 0, 0] a1 slices_S2x8x6144_S1x8x6144_1_0_0) shapeCasts_S1x8x6144_S8x6144) slices_S8x6144_S1x6144_0_0))⟩, ⟨S8192x6144, (shapeCast _ (broadcastInDim S4x2048x6144 ![0, 1, 2] bcast_S4x1x6144_S4x2048x6144_0_1_2 (broadcastInDim S4x1x6144 ![0, 2] bcast_S4x6144_S4x1x6144_0_2 (extractStridedSlice S4x6144 ![1, 0] (shapeCast _ (extractStridedSlice S1x8x6144 ![1, 0, 0] a1 slices_S2x8x6144_S1x8x6144_1_0_0) shapeCasts_S1x8x6144_S8x6144) slices_S8x6144_S4x6144_1_0))) shapeCasts_S4x2048x6144_S8192x6144)⟩] concatenates_S8192x6144_S8192x6144_S16384x6144_d0

/-- The normalised and modulated rows. -/
def hidden : FVec Ideal S16384x1024 .f32 :=
    addf (mulf (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1024 ![1, 0] a2 slices_S2x1024_S1x1024_1_0) shapeCasts_S1x1024_S1024)))) (addf (broadcastInDim S16384x1024 ![] bcast_S_S16384x1024 (constant S_ .f32 0x3F800000#32)) (extractStridedSlice S16384x1024 ![0, 1024] (modRows a1) slices_S16384x6144_S16384x1024_0_1024))) (extractStridedSlice S16384x1024 ![0, 0] (modRows a1) slices_S16384x6144_S16384x1024_0_0)

/-- The products with the sorted weights. -/
def products (h : FVec Ideal S16384x1024 .f32) : FVec Ideal S16384x4736 .f32 :=
  Host.dotGeneral dot_S16384x1024_S1024x4736_S16384x4736_1_0_0_1_n_n none h (shapeCast _ (extractStridedSlice S1x1024x4736 ![1, 0, 0] a3 slices_S2x1024x4736_S1x1024x4736_1_0_0) shapeCasts_S1x1024x4736_S1024x4736 : FVec Ideal S1024x4736 .f32)

/-- The convolved columns of the linear recurrence. -/
def convolved (p : FVec Ideal S16384x4736 .f32) : FVec Ideal S16384x1024 .f32 :=
  conv1024 (extractStridedSlice S16384x1024 ![0, 0] p slices_S16384x4736_S16384x1024_0_0) (shapeCast _ (extractStridedSlice S1x4x1024 ![1, 0, 0] a5 slices_S2x4x1024_S1x4x1024_1_0_0) shapeCasts_S1x4x1024_S4x1024) (shapeCast _ (extractStridedSlice S1x1024 ![1, 0] a6 slices_S2x1024_S1x1024_1_0) shapeCasts_S1x1024_S1024)

/-- The convolved columns of the state space. -/
def convolved' (p : FVec Ideal S16384x4736 .f32) : FVec Ideal S16384x1536 .f32 :=
  conv1536 (extractStridedSlice S16384x1536 ![0, 1024] p slices_S16384x4736_S16384x1536_0_1024) (shapeCast _ (extractStridedSlice S1x4x1536 ![1, 0, 0] a7 slices_S2x4x1536_S1x4x1536_1_0_0) shapeCasts_S1x4x1536_S4x1536) (shapeCast _ (extractStridedSlice S1x1536 ![1, 0] a8 slices_S2x1536_S1x1536_1_0) shapeCasts_S1x1536_S1536)

/-- The columns that go to the scan, of the convolved columns and the products. -/
def assembled (xl : FVec Ideal S16384x1024 .f32) (xc : FVec Ideal S16384x1536 .f32) (p : FVec Ideal S16384x4736 .f32) : FVec Ideal S16384x4736 .f32 :=
  concatenate S16384x4736 1 [⟨S16384x1024, xl⟩, ⟨S16384x1536, mulf xc (Host.divf (broadcastInDim S16384x1536 ![] bcast_S_S16384x1536 (constant S_ .f32 0x3F800000#32)) (addf (broadcastInDim S16384x1536 ![] bcast_S_S16384x1536 (constant S_ .f32 0x3F800000#32)) (Host.exp (Host.negf xc))))⟩, ⟨S16384x2176, extractStridedSlice S16384x2176 ![0, 2560] p slices_S16384x4736_S16384x2176_0_2560⟩] concatenates_S16384x1024_S16384x1536_S16384x2176_S16384x4736_d1

/-- The reference's first result. -/
def first : FVec Ideal S16384x4736 .f32 :=
  assembled (convolved a5 a6 (products a3 (hidden a0 a1 a2))) (convolved' a7 a8 (products a3 (hidden a0 a1 a2))) (products a3 (hidden a0 a1 a2))

/-- The reference's second result: the columns of the gates. -/
def second : FVec Ideal S16384x6144 .bf16 :=
  truncf .bf16 (Host.dotGeneral dot_S16384x1024_S1024x6144_S16384x6144_1_0_0_1_n_n none (hidden a0 a1 a2) (shapeCast _ (extractStridedSlice S1x1024x6144 ![1, 0, 0] a4 slices_S2x1024x6144_S1x1024x6144_1_0_0) shapeCasts_S1x1024x6144_S1024x6144 : FVec Ideal S1024x6144 .f32)) bitsLt_bf16_f32

/-- The run's results are `first` and `second` of the argument arrays. -/
theorem first_eq (m : (ℓ : Loc nD τ sig) → Buf (Elt Ideal) ℓ) (c : Dev nD) :
    res_main_v189 (launchContents m c) = first (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg5))
      (m ((c.tc : Thread nD τ).loc main_arg6)) (m ((c.tc : Thread nD τ).loc main_arg7)) (m ((c.tc : Thread nD τ).loc main_arg8)) := rfl

theorem second_eq (m : (ℓ : Loc nD τ sig) → Buf (Elt Ideal) ℓ) (c : Dev nD) :
    (truncf .bf16 (Host.dotGeneral (φ₁ := .f32) (φ₂ := .f32) dot_S16384x1024_S1024x6144_S16384x6144_1_0_0_1_n_n none (res_main_v29 (launchContents m c) : FVec Ideal S16384x1024 .f32) (shapeCast _ (extractStridedSlice S1x1024x6144 ![1, 0, 0] (launchContents m c (Proc.devRef .tc main_arg4) : FVec Ideal S2x1024x6144 .f32) slices_S2x1024x6144_S1x1024x6144_1_0_0) shapeCasts_S1x1024x6144_S1024x6144 : FVec Ideal S1024x6144 .f32)) bitsLt_bf16_f32 : FVec Ideal S16384x6144 .bf16)
      = second (m ((c.tc : Thread nD τ).loc main_arg0)) (m ((c.tc : Thread nD τ).loc main_arg1))
      (m ((c.tc : Thread nD τ).loc main_arg2)) (m ((c.tc : Thread nD τ).loc main_arg4)) := rfl

/-- A token's modulation row is the row `rowOf` says. -/
theorem modRows_at (R : Fin 16384) (k : Fin 6144) : modRows a1 (ix2 R k) = a1 (ix3 1 (rowOf R) k) := by
  by_cases h : R.val < 8192
  · pointwise [modRows, rowOf, h]
  · pointwise [modRows, rowOf, h]

/-- A token's row under the layer's norm and modulation. -/
def tokenRow (R : Fin 16384) (k : Fin 1024) : EReal :=
  modulated (fun l => a0 (ix2 R l)) (fun l => a2 (ix2 1 l)) (fun l => a1 (ix3 1 (rowOf R) ⟨1024 + l, by omega⟩))
    (fun l => a1 (ix3 1 (rowOf R) ⟨l, by omega⟩)) k

theorem hidden_at (R : Fin 16384) (k : Fin 1024) : hidden a0 a1 a2 (ix2 R k) = tokenRow a0 a1 a2 R k := by
  pointwise [hidden, tokenRow, modulated, rmsFactor, modRows_at]

theorem products_at (h : FVec Ideal S16384x1024 .f32) (R : Fin 16384) (f : Fin 4736) :
    products a3 h (ix2 R f) = product (fun k => h (ix2 R k)) (fun k => a3 (ix3 1 k f)) := by
  pointwise [products, product]

theorem convolved_at (p : FVec Ideal S16384x4736 .f32) (R : Fin 16384) (n : Fin 1024) :
    convolved a5 a6 p (ix2 R n) = conv (a6 (ix2 1 n)) (fun j => a5 (ix3 1 j n)) (tap (fun R => p (ix2 R ⟨n, by omega⟩)) R) := by
  rw [convolved, conv1024_at]
  pointwise

theorem convolved'_at (p : FVec Ideal S16384x4736 .f32) (R : Fin 16384) (n : Fin 1536) :
    convolved' a7 a8 p (ix2 R n) = conv (a8 (ix2 1 n)) (fun j => a7 (ix3 1 j n)) (tap (fun R => p (ix2 R ⟨1024 + n, by omega⟩)) R) := by
  rw [convolved', conv1536_at]
  pointwise

theorem assembled_at (xl : FVec Ideal S16384x1024 .f32) (xc : FVec Ideal S16384x1536 .f32) (p : FVec Ideal S16384x4736 .f32)
    (R : Fin 16384) (n : Fin 4736) :
    assembled xl xc p (ix2 R n) = if h : n.val < 1024 then xl (ix2 R ⟨n, h⟩)
      else if h' : n.val < 2560 then silu (xc (ix2 R ⟨n - 1024, by omega⟩)) else p (ix2 R n) := by
  by_cases h : n.val < 1024
  · rw [dif_pos h]
    pointwise [assembled, h]
  · rw [dif_neg h]
    by_cases h' : n.val < 2560
    · rw [dif_pos h']
      have h2 : n.val - 1024 < 1536 := by omega
      pointwise [assembled, h, h2, silu, gate]
    · rw [dif_neg h']
      have h2 : ¬ n.val - 1024 < 1536 := by omega
      have h3 : 2560 + (n.val - 1024 - 1536) = n.val := by omega
      pointwise [assembled, h, h2, h3]

/-- THE SECOND RESULT at a token and a column. -/
theorem second_at (R : Fin 16384) (n : Fin 6144) :
    second a0 a1 a2 a4 (ix2 R n) = product (tokenRow a0 a1 a2 R) (fun k => a4 (ix3 1 k n)) := by
  pointwise [second, product, hidden_at]

/-- THE FIRST RESULT at a token and a column. -/
theorem first_at (R : Fin 16384) (n : Fin 4736) :
    first a0 a1 a2 a3 a5 a6 a7 a8 (ix2 R n) =
      if h : n.val < 1024 then conv (a6 (ix2 1 ⟨n, h⟩)) (fun j => a5 (ix3 1 j ⟨n, h⟩))
          (tap (fun R => product (tokenRow a0 a1 a2 R) (fun k => a3 (ix3 1 k n))) R)
      else if h' : n.val < 2560 then silu (conv (a8 (ix2 1 ⟨n - 1024, by omega⟩)) (fun j => a7 (ix3 1 j ⟨n - 1024, by omega⟩))
          (tap (fun R => product (tokenRow a0 a1 a2 R) (fun k => a3 (ix3 1 k n))) R))
      else product (tokenRow a0 a1 a2 R) (fun k => a3 (ix3 1 k n)) := by
  have hp : ∀ (R : Fin 16384) (f : Fin 4736), products a3 (hidden a0 a1 a2) (ix2 R f)
      = product (tokenRow a0 a1 a2 R) (fun k => a3 (ix3 1 k f)) := fun R f => by
    rw [products_at]; exact product_congr (fun k => hidden_at a0 a1 a2 R k) (fun k => rfl)
  rw [first, assembled_at]
  by_cases h : n.val < 1024
  · rw [dif_pos h, dif_pos h, convolved_at]
    simp only [hp, Fin.eta]
  · rw [dif_neg h, dif_neg h]
    by_cases h' : n.val < 2560
    · rw [dif_pos h', dif_pos h', convolved'_at]
      have e : (⟨1024 + (n.val - 1024), by omega⟩ : Fin 4736) = n := Fin.ext (by show 1024 + (n.val - 1024) = n.val; omega)
      simp only [hp, e]
    · rw [dif_neg h', dif_neg h', hp]

end Cert.InprojRefIdeal.Value

end
-- ==== Proof.InprojFinal.lean ====
/- The input projection's two result arrays after the run are the reference's results. -/
module

public import proofs.«01_k».proof.Proof.InprojRows
public import proofs.«01_k».proof.Proof.InprojReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen Cert.Layer
open Cert.InprojRefIdeal.Value (tokenRow)

variable (m : (ℓ : Loc nD τ sig) → Buf (Elt Ideal) ℓ)

/-- The reference's results over the kernel's argument arrays. -/
abbrev REF1 (c : Dev nD) : FVec Ideal S16384x4736 .f32 :=
  Cert.InprojRefIdeal.Value.first (m ((c : Thread nD τ).loc main_arg0)) (m ((c : Thread nD τ).loc main_arg1))
    (m ((c : Thread nD τ).loc main_arg2)) (m ((c : Thread nD τ).loc main_arg3)) (m ((c : Thread nD τ).loc main_arg5))
    (m ((c : Thread nD τ).loc main_arg6)) (m ((c : Thread nD τ).loc main_arg7)) (m ((c : Thread nD τ).loc main_arg8))

abbrev REF2 (c : Dev nD) : FVec Ideal S16384x6144 .bf16 :=
  Cert.InprojRefIdeal.Value.second (m ((c : Thread nD τ).loc main_arg0)) (m ((c : Thread nD τ).loc main_arg1))
    (m ((c : Thread nD τ).loc main_arg2)) (m ((c : Thread nD τ).loc main_arg4))

/-- A token's row over the kernel's argument arrays. -/
abbrev ROW (c : Dev nD) (R : Fin 16384) (k : Fin 1024) : EReal :=
  tokenRow (m ((c : Thread nD τ).loc main_arg0)) (m ((c : Thread nD τ).loc main_arg1)) (m ((c : Thread nD τ).loc main_arg2)) R k

/-- Every window's block index at every grid point (decided). -/
theorem idx : ∀ t : Fin cfg0.N, win0_0.index t = ![t.val, 0]
    ∧ win0_1.index t = ![32 * t.val - 1, 0]
    ∧ win0_2.index t = ![min (32 * (t.val + 1)) 2047, 0]
    ∧ win0_3.index t = ![if t.val < 32 then 0 else 1 + (t.val - 32) / 8, 0, 0]
    ∧ win0_4.index t = ![0, 0]
    ∧ win0_5.index t = ![1, 0, 0]
    ∧ win0_6.index t = ![1, 0, 0]
    ∧ win0_7.index t = ![0, 0]
    ∧ win0_8.index t = ![0, 0]
    ∧ win0_9.index t = ![t.val, 0]
    ∧ win0_10.index t = ![t.val, 0] :=
  (by decide +kernel : ∀ t : Fin grid0.N, _)

/-- Where a block begins a sequence and where it ends one (decided). -/
theorem starts : ∀ t : Fin cfg0.N, Scalar.cmpi .eq (kernelRun0_A.sl.v33 (grid0.coords t)) 0#32
    = if t.val < 32 ∨ (t.val - 32) % 8 = 0 then 1#1 else 0#1 :=
  (by decide +kernel : ∀ t : Fin grid0.N, _)

theorem ends : ∀ t : Fin cfg0.N, Scalar.cmpi .eq (Scalar.addi (kernelRun0_A.sl.v33 (grid0.coords t)) 256#32) (kernelRun0_A.sl.v34 (grid0.coords t))
    = if t.val < 32 ∨ (t.val - 32) % 8 = 7 then 1#1 else 0#1 :=
  (by decide +kernel : ∀ t : Fin grid0.N, _)

theorem headFactor_at (t : Fin cfg0.N) : headFactorAt (grid0.coords t) = if t.val < 32 ∨ (t.val - 32) % 8 = 0 then 0 else 1 := by
  rw [headFactorAt, starts]
  split <;> pointwise

theorem tailFactor_at (t : Fin cfg0.N) : tailFactorAt (grid0.coords t) = if t.val < 32 ∨ (t.val - 32) % 8 = 7 then 0 else 1 := by
  rw [tailFactorAt, ends]
  split <;> pointwise

/-- The token of row `r` of block `t`. -/
def token (t : Fin cfg0.N) (r : Fin 256) : Fin 16384 := ⟨t.val * 256 + r.val, by have h : t.val < 64 := t.isLt; omega⟩

/-- A block's modulation row. -/
def rowB (t : Fin cfg0.N) : Fin 8 := ⟨if t.val < 32 then 0 else 1 + (t.val - 32) / 8, by have h : t.val < 64 := t.isLt; split <;> omega⟩

/-- The arrays the host code prepares, read at an index. -/
theorem entry3 (c : Dev nD) (b : Fin 8) (l : Fin 6144) :
    V m c main_v18 (ix3 b 0 l) = m ((c : Thread nD τ).loc main_arg1) (ix3 1 b l) := by
  entry_read
  pointwise

theorem entry4 (c : Dev nD) (l : Fin 1024) : V m c main_v4 (ix2 0 l) = m ((c : Thread nD τ).loc main_arg2) (ix2 1 l) := by
  entry_read
  pointwise

theorem entry5 (c : Dev nD) (k : Fin 1024) (f : Fin 4736) :
    V m c main_v0 (ix3 1 k f) = m ((c : Thread nD τ).loc main_arg3) (ix3 1 k f) := by
  entry_read
  pointwise

theorem entry6 (c : Dev nD) (k : Fin 1024) (f : Fin 6144) :
    V m c main_v1 (ix3 1 k f) = m ((c : Thread nD τ).loc main_arg4) (ix3 1 k f) := by
  entry_read
  pointwise

theorem entry7 (c : Dev nD) (j : Fin 4) (n : Fin 2560) :
    V m c main_v9 (ix2 j n) = if h : n.val < 1024 then m ((c : Thread nD τ).loc main_arg5) (ix3 1 j ⟨n, h⟩)
      else m ((c : Thread nD τ).loc main_arg7) (ix3 1 j ⟨n - 1024, by omega⟩) := by
  entry_read
  by_cases h : n.val < 1024
  · pointwise [h]
  · pointwise [h]

theorem entry8 (c : Dev nD) (n : Fin 2560) :
    V m c main_v15 (ix2 0 n) = if h : n.val < 1024 then m ((c : Thread nD τ).loc main_arg6) (ix2 1 ⟨n, h⟩)
      else m ((c : Thread nD τ).loc main_arg8) (ix2 1 ⟨n - 1024, by omega⟩) := by
  entry_read
  by_cases h : n.val < 1024
  · pointwise [h]
  · pointwise [h]

/-- The blocks of the grid point `t`. -/
theorem block0 (c : Dev nD) (t : Fin cfg0.N) (r : Fin 256) (l : Fin 1024) :
    iblk m c 0 t (ix2 r l) = m ((c : Thread nD τ).loc main_arg0) (ix2 (token t r) l) := by
  obtain ⟨e0, e1, e2, e3, e4, e5, e6, e7, e8, e9, e10⟩ := idx t
  blk_ext [iblk, V, e0, token]

theorem block1 (c : Dev nD) (t : Fin cfg0.N) (r : Fin 8) (l : Fin 1024) :
    iblk m c 1 t (ix2 r l) = m ((c : Thread nD τ).loc main_arg0)
      (ix2 ⟨(32 * t.val - 1) * 8 + r.val, by have h : t.val < 64 := t.isLt; omega⟩ l) := by
  obtain ⟨e0, e1, e2, e3, e4, e5, e6, e7, e8, e9, e10⟩ := idx t
  blk_ext [iblk, V, e1]

theorem block2 (c : Dev nD) (t : Fin cfg0.N) (r : Fin 8) (l : Fin 1024) :
    iblk m c 2 t (ix2 r l) = m ((c : Thread nD τ).loc main_arg0)
      (ix2 ⟨min (32 * (t.val + 1)) 2047 * 8 + r.val, by have h : t.val < 64 := t.isLt; omega⟩ l) := by
  obtain ⟨e0, e1, e2, e3, e4, e5, e6, e7, e8, e9, e10⟩ := idx t
  blk_ext [iblk, V, e2]

theorem block3 (c : Dev nD) (t : Fin cfg0.N) (l : Fin 6144) :
    iblk m c 3 t (ix3 0 0 l) = m ((c : Thread nD τ).loc main_arg1) (ix3 1 (rowB t) l) := by
  obtain ⟨e0, e1, e2, e3, e4, e5, e6, e7, e8, e9, e10⟩ := idx t
  refine (congrArg (V m c main_v18) (?_ : ((cfg0.win 3).blk t).view.emb (ix3 0 0 l) = ix3 (rowB t) 0 l)).trans (entry3 m c _ l)
  by_cases h : t.val < 32
  · have : (rowB t).val = 0 := if_pos h
    rw [if_pos h] at e3
    blk_ext [e3]
  · have : (rowB t).val = 1 + (t.val - 32) / 8 := if_neg h
    rw [if_neg h] at e3
    blk_ext [e3]

theorem block4 (c : Dev nD) (t : Fin cfg0.N) (l : Fin 1024) :
    iblk m c 4 t (ix2 0 l) = m ((c : Thread nD τ).loc main_arg2) (ix2 1 l) := by
  obtain ⟨e0, e1, e2, e3, e4, e5, e6, e7, e8, e9, e10⟩ := idx t
  exact (congrArg (V m c main_v4) (by blk_ext [e4] : ((cfg0.win 4).blk t).view.emb (ix2 0 l) = ix2 0 l)).trans (entry4 m c l)

theorem block5 (c : Dev nD) (t : Fin cfg0.N) (k : Fin 1024) (f : Fin 4736) :
    iblk m c 5 t (ix3 0 k f) = m ((c : Thread nD τ).loc main_arg3) (ix3 1 k f) := by
  obtain ⟨e0, e1, e2, e3, e4, e5, e6, e7, e8, e9, e10⟩ := idx t
  exact (congrArg (V m c main_v0) (by blk_ext [e5] : ((cfg0.win 5).blk t).view.emb (ix3 0 k f) = ix3 1 k f)).trans (entry5 m c k f)

theorem block6 (c : Dev nD) (t : Fin cfg0.N) (k : Fin 1024) (f : Fin 6144) :
    iblk m c 6 t (ix3 0 k f) = m ((c : Thread nD τ).loc main_arg4) (ix3 1 k f) := by
  obtain ⟨e0, e1, e2, e3, e4, e5, e6, e7, e8, e9, e10⟩ := idx t
  exact (congrArg (V m c main_v1) (by blk_ext [e6] : ((cfg0.win 6).blk t).view.emb (ix3 0 k f) = ix3 1 k f)).trans (entry6 m c k f)

theorem block7 (c : Dev nD) (t : Fin cfg0.N) (j : Fin 4) (n : Fin 2560) :
    iblk m c 7 t (ix2 j n) = if h : n.val < 1024 then m ((c : Thread nD τ).loc main_arg5) (ix3 1 j ⟨n, h⟩)
      else m ((c : Thread nD τ).loc main_arg7) (ix3 1 j ⟨n - 1024, by omega⟩) := by
  obtain ⟨e0, e1, e2, e3, e4, e5, e6, e7, e8, e9, e10⟩ := idx t
  exact (congrArg (V m c main_v9) (by blk_ext [e7] : ((cfg0.win 7).blk t).view.emb (ix2 j n) = ix2 j n)).trans (entry7 m c j n)

theorem block8 (c : Dev nD) (t : Fin cfg0.N) (n : Fin 2560) :
    iblk m c 8 t (ix2 0 n) = if h : n.val < 1024 then m ((c : Thread nD τ).loc main_arg6) (ix2 1 ⟨n, h⟩)
      else m ((c : Thread nD τ).loc main_arg8) (ix2 1 ⟨n - 1024, by omega⟩) := by
  obtain ⟨e0, e1, e2, e3, e4, e5, e6, e7, e8, e9, e10⟩ := idx t
  exact (congrArg (V m c main_v15) (by blk_ext [e8] : ((cfg0.win 8).blk t).view.emb (ix2 0 n) = ix2 0 n)).trans (entry8 m c n)

/-- A row under the block's modulation is that token's row, when the token's modulation row is the block's. -/
theorem modRow_token (c : Dev nD) (t : Fin cfg0.N) (R : Fin 16384) (hR : rowOf R = rowB t) (x : Fin 1024 → EReal)
    (hx : ∀ l, x l = m ((c : Thread nD τ).loc main_arg0) (ix2 R l)) (k : Fin 1024) :
    modRow (iblk m c 3 t) (iblk m c 4 t) x k = ROW m c R k := by
  unfold modRow ROW tokenRow
  rw [hR, funext hx]
  simp only [block3, block4]

theorem rowOf_token (t : Fin cfg0.N) (R : Fin 16384) (hR : if t.val < 32 then R.val < 8192 else 8192 ≤ R.val ∧ (R.val - 8192) / 2048 = (t.val - 32) / 8) :
    rowOf R = rowB t := by
  by_cases h : t.val < 32
  · rw [if_pos h] at hR
    rw [rowOf, dif_pos hR]
    exact Fin.ext (if_pos h).symm
  · rw [if_neg h] at hR
    rw [rowOf, dif_neg (by omega)]
    apply Fin.ext
    rw [show (rowB t).val = 1 + (t.val - 32) / 8 from if_neg h]
    show 1 + (R.val - 8192) / 2048 = _
    omega

theorem own_rowOf (t : Fin cfg0.N) (r : Fin 256) : rowOf (token t r) = rowB t := by
  have ht : t.val < 64 := t.isLt
  have hr := r.isLt
  refine rowOf_token t _ ?_
  split <;> simp only [token] <;> omega

/-- What the block's 272 rows give tap `j` at row `r`. -/
theorem tap_block (c : Dev nD) (t : Fin cfg0.N) (r : Fin 256) (j : Fin 4) (w : Fin 1024 → EReal) (ρ : Fin 272) (hρ : ρ.val = 6 + j.val + r.val) :
    product (fun k => X0 (grid0.coords t) (iblk m c 0 t) (iblk m c 1 t) (iblk m c 2 t) (iblk m c 3 t) (iblk m c 4 t) ρ k) w
      = tap (fun R => product (ROW m c R) w) (token t r) j := by
  have ht : t.val < 64 := t.isLt
  have hr := r.isLt
  have hj := j.isLt
  have hp : place (token t r) = if t.val < 32 then r.val else 256 * ((t.val - 32) % 8) + r.val := by
    unfold place token
    show (if t.val * 256 + r.val < 8192 then (t.val * 256 + r.val) % 256 else (t.val * 256 + r.val - 8192) % 2048) = _
    by_cases h : t.val < 32
    · rw [if_pos h, if_pos (by omega)]; omega
    · rw [if_neg h, if_neg (by omega)]; omega
  have hl : seqLen (token t r) = if t.val < 32 then 256 else 2048 := by
    unfold seqLen token
    show (if t.val * 256 + r.val < 8192 then 256 else 2048) = _
    by_cases h : t.val < 32
    · rw [if_pos h, if_pos (by omega)]
    · rw [if_neg h, if_neg (by omega)]
  unfold X0 tap
  by_cases h8 : ρ.val < 8
  · simp only [dif_pos h8, headFactor_at]
    by_cases h0 : t.val < 32 ∨ (t.val - 32) % 8 = 0
    · rw [dif_neg (by rw [hp]; split <;> omega)]
      exact product_zero _ _ fun k => by rw [if_pos h0, mul_zero]
    · rw [dif_pos (by rw [hp, hl, if_neg (by omega), if_neg (by omega)]; omega)]
      refine product_congr (fun k => ?_) fun k => rfl
      rw [if_neg h0, mul_one]
      refine modRow_token m c t _ (rowOf_token t _ ?_) _ (fun l => ?_) k
      · rw [if_neg (by omega)]
        show 8192 ≤ t.val * 256 + r.val + j.val - 2 ∧ (t.val * 256 + r.val + j.val - 2 - 8192) / 2048 = (t.val - 32) / 8
        omega
      · rw [block1]
        exact congrArg (fun R => m ((c : Thread nD τ).loc main_arg0) (ix2 R l)) (Fin.ext (by
          show (32 * t.val - 1) * 8 + ρ.val = t.val * 256 + r.val + j.val - 2
          omega))
  · by_cases h264 : ρ.val < 264
    · simp only [dif_neg h8, dif_pos h264]
      rw [dif_pos (by rw [hp, hl]; split <;> omega)]
      refine product_congr (fun k => ?_) fun k => rfl
      refine modRow_token m c t _ (rowOf_token t _ ?_) _ (fun l => ?_) k
      · split
        · show t.val * 256 + r.val + j.val - 2 < 8192
          omega
        · show 8192 ≤ t.val * 256 + r.val + j.val - 2 ∧ (t.val * 256 + r.val + j.val - 2 - 8192) / 2048 = (t.val - 32) / 8
          omega
      · rw [block0]
        exact congrArg (fun R => m ((c : Thread nD τ).loc main_arg0) (ix2 R l)) (Fin.ext (by
          show t.val * 256 + (ρ.val - 8) = t.val * 256 + r.val + j.val - 2
          omega))
    · simp only [dif_neg h8, dif_neg h264, tailFactor_at]
      by_cases h7 : t.val < 32 ∨ (t.val - 32) % 8 = 7
      · rw [dif_neg (by rw [hp, hl]; split <;> omega)]
        exact product_zero _ _ fun k => by rw [if_pos h7, mul_zero]
      · rw [dif_pos (by rw [hp, hl, if_neg (by omega), if_neg (by omega)]; omega)]
        refine product_congr (fun k => ?_) fun k => rfl
        rw [if_neg h7, mul_one]
        refine modRow_token m c t _ (rowOf_token t _ ?_) _ (fun l => ?_) k
        · rw [if_neg (by omega)]
          show 8192 ≤ t.val * 256 + r.val + j.val - 2 ∧ (t.val * 256 + r.val + j.val - 2 - 8192) / 2048 = (t.val - 32) / 8
          omega
        · rw [block2]
          exact congrArg (fun R => m ((c : Thread nD τ).loc main_arg0) (ix2 R l)) (Fin.ext (by
            show min (32 * (t.val + 1)) 2047 * 8 + (ρ.val - 264) = t.val * 256 + r.val + j.val - 2
            omega))

/-- One convolved column of a block. -/
theorem conv_block (c : Dev nD) (t : Fin cfg0.N) (h : FVec Ideal S272x1024 .bf16)
    (hh : ∀ ρ k, h (ix2 ρ k) = X0 (grid0.coords t) (iblk m c 0 t) (iblk m c 1 t) (iblk m c 2 t) (iblk m c 3 t) (iblk m c 4 t) ρ k)
    (r : Fin 256) (n : Fin 4736) (hn : n.val < 2560) :
    G2 h (iblk m c 5 t) (iblk m c 7 t) (iblk m c 8 t) ⟨n / 128, by omega⟩ r ⟨n % 128, by omega⟩
      = conv (iblk m c 8 t (ix2 0 ⟨n, hn⟩)) (fun j => iblk m c 7 t (ix2 j ⟨n, hn⟩))
          (tap (fun R => product (ROW m c R) (fun k => m ((c : Thread nD τ).loc main_arg3) (ix3 1 k n))) (token t r)) := by
  have e : (⟨128 * (n.val / 128) + n.val % 128, by omega⟩ : Fin 2560) = ⟨n, hn⟩ := Fin.ext (Nat.div_add_mod _ _)
  have e' : (⟨128 * (n.val / 128) + n.val % 128, by omega⟩ : Fin 4736) = n := Fin.ext (Nat.div_add_mod _ _)
  have hg : ∀ (j : Fin 4) (ρ : Fin 272), ρ.val = 6 + j.val + r.val → G1 h (iblk m c 5 t) ⟨n / 128, by omega⟩ ρ ⟨n % 128, by omega⟩
      = tap (fun R => product (ROW m c R) (fun k => m ((c : Thread nD τ).loc main_arg3) (ix3 1 k n))) (token t r) j := fun j ρ hρ => by
    unfold G1
    refine Eq.trans ?_ (tap_block m c t r j _ ρ hρ)
    refine product_congr (fun k => hh ρ k) fun k => ?_
    show iblk m c 5 t (ix3 0 k ⟨128 * (n.val / 128) + n.val % 128, _⟩) = _
    rw [e', block5]
  unfold G2 conv
  rw [hg 0 ⟨6 + r, by omega⟩ rfl, hg 1 ⟨7 + r, by omega⟩ rfl, hg 2 ⟨8 + r, by omega⟩ rfl, hg 3 ⟨9 + r, by omega⟩ rfl]
  simp only [e, Matrix.cons_val_zero, Matrix.cons_val_one, Matrix.cons_val]

/-- What the body multiplies, of this block's contents. -/
theorem first_block (c : Dev nD) (t : Fin cfg0.N) (h : FVec Ideal S272x1024 .bf16) (hm : FVec Ideal S256x1024 .bf16)
    (hh : ∀ ρ k, h (ix2 ρ k) = X0 (grid0.coords t) (iblk m c 0 t) (iblk m c 1 t) (iblk m c 2 t) (iblk m c 3 t) (iblk m c 4 t) ρ k)
    (hhm : ∀ r k, hm (ix2 r k) = modRow (iblk m c 3 t) (iblk m c 4 t) (fun l => iblk m c 0 t (ix2 r l)) k)
    (r : Fin 256) (n : Fin 4736) :
    B1 h hm (iblk m c 5 t) (iblk m c 7 t) (iblk m c 8 t) (ix2 r n) = REF1 m c (ix2 (token t r) n) := by
  rw [REF1, Cert.InprojRefIdeal.Value.first_at]
  show O1 h hm (iblk m c 5 t) (iblk m c 7 t) (iblk m c 8 t) r n = _
  unfold O1
  by_cases hn : n.val < 2560
  · rw [dif_pos hn, conv_block m c t h hh r n hn, block8]
    simp only [block7]
    by_cases h1 : n.val < 1024
    · rw [dif_pos h1]
      simp only [dif_pos h1]
      exact if_pos (by omega)
    · rw [dif_neg h1]
      simp only [dif_neg h1, dif_pos hn]
      exact if_neg (by omega)
  · rw [dif_neg hn, dif_neg (by omega), dif_neg hn]
    refine product_congr (fun k => ?_) fun k => block5 m c t k n
    rw [hhm]
    exact modRow_token m c t _ (own_rowOf t r) _ (fun l => block0 m c t r l) k

theorem second_block (c : Dev nD) (t : Fin cfg0.N) (hm : FVec Ideal S256x1024 .bf16)
    (hhm : ∀ r k, hm (ix2 r k) = modRow (iblk m c 3 t) (iblk m c 4 t) (fun l => iblk m c 0 t (ix2 r l)) k)
    (r : Fin 256) (n : Fin 6144) : B2 hm (iblk m c 6 t) (ix2 r n) = REF2 m c (ix2 (token t r) n) := by
  rw [REF2, Cert.InprojRefIdeal.Value.second_at]
  show product (fun k => hm (ix2 r k)) (fun k => iblk m c 6 t (ix3 0 k n)) = _
  refine product_congr (fun k => ?_) fun k => block6 m c t k n
  rw [hhm]
  exact modRow_token m c t _ (own_rowOf t r) _ (fun l => block0 m c t r l) k

/-- What the body stores at a row and a column of block `t` is the reference there. -/
theorem point_first (c : Dev nD) (t : Fin cfg0.N) (r : Fin 256) (n : Fin 4736) :
    (outsAt0 m c t).1 (ix2 r n) = REF1 m c (ix2 (token t r) n) := by
  refine (congrFun (out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t)) (ix2 r n)).trans ?_
  exact first_block m c t (ext c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (iblk m c 3 t) (iblk m c 4 t)) (rows c (ms0_0 t) (hs0_0 t) (ms0_3 t) (hs0_3 t) (ms0_4 t) (hs0_4 t) (iblk m c 0 t) (iblk m c 3 t) (iblk m c 4 t))
    (fun ρ k => ext_at c (grid0.coords t) (ms0_0 t) (hs0_0 t) (ms0_1 t) (hs0_1 t) (ms0_2 t) (hs0_2 t) (ms0_3 t) (hs0_3 t) (ms0_4 t) (hs0_4 t) scM0_0 (iblk m c 0 t) (iblk m c 1 t) (iblk m c 2 t) (iblk m c 3 t) (iblk m c 4 t) ρ k)
    (fun r k => rows_at c (ms0_0 t) (hs0_0 t) (ms0_3 t) (hs0_3 t) (ms0_4 t) (hs0_4 t) (iblk m c 0 t) (iblk m c 3 t) (iblk m c 4 t) r k) r n

theorem point_second (c : Dev nD) (t : Fin cfg0.N) (r : Fin 256) (n : Fin 6144) :
    (outsAt0 m c t).2 (ix2 r n) = REF2 m c (ix2 (token t r) n) := by
  dsimp only [outsAt0]
  rw [out_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t)]
  have h := second_block m c t (rows c (ms0_0 t) (hs0_0 t) (ms0_3 t) (hs0_3 t) (ms0_4 t) (hs0_4 t) (iblk m c 0 t) (iblk m c 3 t) (iblk m c 4 t))
    (fun r k => rows_at c (ms0_0 t) (hs0_0 t) (ms0_3 t) (hs0_3 t) (ms0_4 t) (hs0_4 t) (iblk m c 0 t) (iblk m c 3 t) (iblk m c 4 t) r k) r n
  exact h

/-- THE RESULT ARRAYS after the run: the blocks tile them. -/
theorem final_first (c : Dev nD) : (dats m 0 c).arrAt 9 (cfgs 0).N = REF1 m c := by
  refine (dats m 0 c).arrAt_eq_of_covers 9 _ (by decide +kernel) fun t hf y => ?_
  idx_vars y
  obtain ⟨e0, e1, e2, e3, e4, e5, e6, e7, e8, e9, e10⟩ := idx t
  have he : ((cfg0.win 9).blk t).view.emb (ix2 y0 y1) = ix2 (token t y0) y1 := by
    blk_ext [e9, token]
  rw [he]
  blk_simp; rw [after0_9]
  exact point_first m c t y0 y1

theorem final_second (c : Dev nD) : (dats m 0 c).arrAt 10 (cfgs 0).N = REF2 m c := by
  refine (dats m 0 c).arrAt_eq_of_covers 10 _ (by decide +kernel) fun t hf y => ?_
  idx_vars y
  obtain ⟨e0, e1, e2, e3, e4, e5, e6, e7, e8, e9, e10⟩ := idx t
  have he : ((cfg0.win 10).blk t).view.emb (ix2 y0 y1) = ix2 (token t y0) y1 := by
    blk_ext [e10, token]
  rw [he]
  blk_simp; rw [after0_10]
  exact point_second m c t y0 y1

end Cert.InprojIdeal.Value

end
-- ==== Proof.PostKernel.lean ====
/- What the post kernel's body stores, read at a row and a column of the block. -/
module

public import proofs.«01_k».proof.Proof.Gen.PostIdeal.Frame
public import proofs.«01_k».proof.Proof.PostMath
public import Idealize.ShloMosaic.Lib.Pipeline.ValueKit

@[expose] public section

set_option maxRecDepth 16384

noncomputable section

open Idealize.ShloMosaic Idealize.ShloMosaic.TcCoe Idealize.SL.Sem
open scoped BigOperators

namespace Cert.PostIdeal.Value

open Cert.PostIdeal Cert.PostIdeal.Gen Cert.Layer

/-- The first branch at a row and a column. -/
theorem lru_at (a b z : Vec Ideal S512x1024 .bf16) (r : Fin 512) (k : Fin 1024) :
    k0_pay15 (F := Ideal) (k0_pay2 (F := Ideal) a b z) (ix2 r k) = lruBranch (fun l => a (ix2 r l) + b (ix2 r l)) (fun l => z (ix2 r l)) k := by
  pointwise [k0_pay15, k0_pay2, lruBranch, gelu]

/-- The second branch at a row and a column. -/
theorem ssd_at (a b z : Vec Ideal S512x1024 .bf16) (g : Vec Ideal S1x1024 .f32) (r : Fin 512) (k : Fin 1024) :
    k0_pay7 (F := Ideal) (k0_pay3 (F := Ideal) a b) (k0_pay4 (F := Ideal) z) (k0_pay5 (F := Ideal) z) (k0_pay6 (F := Ideal)) g (ix2 r k)
      = ssdBranch (fun l => a (ix2 r l) + b (ix2 r l)) (fun l => z (ix2 r l)) (fun l => g (ix2 0 l)) k := by
  pointwise [k0_pay7, k0_pay3, k0_pay4, k0_pay5, k0_pay6, gate_tanh, ssdBranch, rmsFactor, silu]

/-- One normalised head. -/
def headNormed (a b : Vec Ideal S512x256 .bf16) (g : Vec Ideal S1x256 .f32) (r : Fin 512) (j : Fin 256) : EReal :=
  (a (ix2 r j) + b (ix2 r j)) * headFactor (fun l => a (ix2 r l) + b (ix2 r l)) * g (ix2 0 j)

theorem head0_at (a b : Vec Ideal S512x256 .bf16) (g : Vec Ideal S1x256 .f32) (r : Fin 512) (j : Fin 256) :
    k0_pay8 (F := Ideal) a b g (ix2 r j) = headNormed a b g r j := by
  pointwise [k0_pay8, headNormed, headFactor]

theorem head1_at (a b : Vec Ideal S512x256 .bf16) (g : Vec Ideal S1x256 .f32) (r : Fin 512) (j : Fin 256) :
    k0_pay10 (F := Ideal) (k0_pay9 (F := Ideal) a) b g (ix2 r j) = headNormed a b g r j := head0_at a b g r j

theorem head2_at (a b : Vec Ideal S512x256 .bf16) (g : Vec Ideal S1x256 .f32) (r : Fin 512) (j : Fin 256) :
    k0_pay11 (F := Ideal) a b g (ix2 r j) = headNormed a b g r j := head0_at a b g r j

/-- The last head is normalised, the four heads are joined and gated. -/
theorem joined_at (v0 v1 v2 : FVec Ideal S512x256 .f32) (a b : Vec Ideal S512x256 .bf16) (g : Vec Ideal S1x256 .f32)
    (z : Vec Ideal S512x1024 .bf16) (r : Fin 512) (k : Fin 1024) :
    k0_pay13 (F := Ideal) v0 v1 v2 (k0_pay12 (F := Ideal) a) b g z (ix2 r k)
      = (if h : k.val < 256 then v0 (ix2 r ⟨k.val, h⟩) else if h1 : k.val - 256 < 256 then v1 (ix2 r ⟨k.val - 256, h1⟩)
          else if h2 : k.val - 256 - 256 < 256 then v2 (ix2 r ⟨k.val - 256 - 256, h2⟩)
          else k0_pay8 (F := Ideal) a b g (ix2 r ⟨k.val - 256 - 256 - 256, by omega⟩))
        * silu (z (ix2 r k)) := by
  pointwise [k0_pay13, k0_pay12, k0_pay8, silu, gate_tanh]

/-- The gates and the projections of the three branches, added up. -/
theorem merged_at (ys yg : FVec Ideal S512x1024 .f32) (yl : FVec Ideal S512x1024 .bf16) (ml ms mg : Vec Ideal S512x1024 .bf16)
    (wl ws wg : Vec Ideal S1x1024x1024 .bf16) (r : Fin 512) (n : Fin 1024) :
    k0_pay16 (F := Ideal) ys yg (k0_pay14 (F := Ideal) ml) yl wl ms ws mg wg (ix2 r n)
      = merged (fun k => yl (ix2 r k)) (fun k => ys (ix2 r k)) (fun k => yg (ix2 r k)) (fun k => ml (ix2 r k)) (fun k => ms (ix2 r k))
          (fun k => mg (ix2 r k)) (fun k n => wl (ix3 0 k n)) (fun k n => ws (ix3 0 k n)) (fun k n => wg (ix3 0 k n)) n := by
  pointwise [k0_pay16, k0_pay14, gate_tanh, merged]

/-- The output projection under its gate, added to the residual stream. -/
theorem added_at (y : FVec Ideal S512x1024 .bf16) (w : Vec Ideal S1x1024x1024 .bf16) (x : Vec Ideal S512x1024 .f32)
    (g : Vec Ideal S1x1x1024 .f32) (r : Fin 512) (n : Fin 1024) :
    k0_pay1 (F := Ideal) y (k0_pay17 (F := Ideal) w) x g (ix2 r n)
      = x (ix2 r n) + g (ix3 0 0 n) * ∑ k : Fin 1024, y (ix2 r k) * w (ix3 0 k n) := by
  pointwise [k0_pay1, k0_pay17]

variable (x0 : Vec Ideal S512x1024 .f32) (x1 x2 : Vec Ideal S512x3072 .bf16) (x3 : Vec Ideal S512x6144 .bf16)
variable (x4 : Vec Ideal S1x1x6144 .f32) (x5 : Vec Ideal S1x1024 .f32) (x6 : Vec Ideal S1x256 .f32)
variable (x7 x8 x9 x10 : Vec Ideal S1x1024x1024 .bf16)

/-- The third branch at a row and a column. -/
theorem gla_at (r : Fin 512) (k : Fin 1024) :
    k0_pay13 (F := Ideal) (k0_pay8 (F := Ideal) (View.ld x1 r0_5) (View.ld x2 r0_5) x6) (k0_pay10 (F := Ideal) (k0_pay9 (F := Ideal) (View.ld x1 r0_7)) (View.ld x2 r0_7) x6)
      (k0_pay11 (F := Ideal) (View.ld x1 r0_8) (View.ld x2 r0_8) x6) (k0_pay12 (F := Ideal) (View.ld x1 r0_9)) (View.ld x2 r0_9) x6 (View.ld x3 r0_10) (ix2 r k)
      = glaBranch (fun l => x1 (ix2 r ⟨2048 + l, by omega⟩) + x2 (ix2 r ⟨2048 + l, by omega⟩)) (fun l => x3 (ix2 r ⟨2048 + l, by omega⟩))
          (fun l => x6 (ix2 0 l)) k := by
  rw [joined_at, glaBranch]
  congr 1
  · split_ifs with h h1 h2
    · rw [head0_at]
      obtain ⟨d, m⟩ : k.val / 256 = 0 ∧ k.val % 256 = k.val := by omega
      simp only [d, m]
      pointwise [headNormed]
    · rw [head1_at]
      obtain ⟨d, m⟩ : k.val / 256 = 1 ∧ k.val % 256 = k.val - 256 := by omega
      have e : 2304 + (k.val - 256) = 2048 + k.val := by omega
      simp only [d, m]
      pointwise [headNormed]
      simp only [e, ← Nat.add_assoc, Nat.reduceAdd]
    · rw [head2_at]
      obtain ⟨d, m⟩ : k.val / 256 = 2 ∧ k.val % 256 = k.val - 256 - 256 := by omega
      have e : 2560 + (k.val - 256 - 256) = 2048 + k.val := by omega
      simp only [d, m]
      pointwise [headNormed]
      simp only [e, ← Nat.add_assoc, Nat.reduceAdd]
    · rw [head0_at]
      obtain ⟨d, m⟩ : k.val / 256 = 3 ∧ k.val % 256 = k.val - 256 - 256 - 256 := by omega
      have e : 2816 + (k.val - 256 - 256 - 256) = 2048 + k.val := by omega
      simp only [d, m]
      pointwise [headNormed]
      simp only [e, ← Nat.add_assoc, Nat.reduceAdd]
  · pointwise

/-- WHAT THE BODY STORES at a row and a column is the layer of that row. -/
theorem out_at (r : Fin 512) (n : Fin 1024) :
    out0_11 x0 x1 x2 x3 x4 x5 x6 x7 x8 x9 x10 (ix2 r n)
      = postOut (fun l => x0 (ix2 r l)) (fun l => x4 (ix3 0 0 ⟨2048 + l, by omega⟩)) (fun l => x1 (ix2 r l) + x2 (ix2 r l))
          (fun l => x3 (ix2 r l)) (fun l => x5 (ix2 0 l)) (fun l => x6 (ix2 0 l)) (fun k n => x7 (ix3 0 k n)) (fun k n => x8 (ix3 0 k n))
          (fun k n => x9 (ix3 0 k n)) (fun k n => x10 (ix3 0 k n)) n := by
  unfold out0_11
  frame_out
  rw [added_at, postOut]
  simp only [merged_at, lru_at, ssd_at, gla_at]
  pointwise

end Cert.PostIdeal.Value

end
-- ==== Proof.PostReference.lean ====
/- The reference of the merge call, read at a token and a column: the merge of that token's rows. -/
module

public import proofs.«01_k».proof.Proof.Gen.PostRefIdeal.Run
public import proofs.«01_k».proof.Proof.FfnReference
public import proofs.«01_k».proof.Proof.PostMath
public import Idealize.ShloMosaic.Lib.Pipeline.ValueKit

@[expose] public section

set_option maxRecDepth 16384

noncomputable section

open Idealize.ShloMosaic Idealize.ShloMosaic.TcCoe Idealize.SL.Sem
open scoped BigOperators

namespace Cert.PostRefIdeal.Value

open Cert.PostRefIdeal Cert.PostRefIdeal.Gen Cert.Layer

variable (a0 : FVec Ideal S16384x1024 .f32) (a1 a2 : FVec Ideal S16384x3072 .f32) (a3 : FVec Ideal S16384x6144 .f32)
variable (a4 : FVec Ideal S2x8x6144 .f32) (a5 : FVec Ideal S2x1024 .f32) (a6 : FVec Ideal S2x256 .f32)
variable (a7 a8 a9 a10 : FVec Ideal S2x1024x1024 .f32)
variable (o : FVec Ideal S16384x3072 .f32) (p : FVec Ideal S16384x6144 .f32)

/-- Every token's modulation row. -/
def modRows : FVec Ideal S16384x6144 .f32 :=
  concatenate S16384x6144 0 [⟨S8192x6144, (broadcastInDim S8192x6144 ![0, 1] bcast_S1x6144_S8192x6144_0_1 (extractStridedSlice S1x6144 ![0, 0] (shapeCast _ (extractStridedSlice S1x8x6144 ![1, 0, 0] a4 slices_S2x8x6144_S1x8x6144_1_0_0) shapeCasts_S1x8x6144_S8x6144) slices_S8x6144_S1x6144_0_0))⟩, ⟨S8192x6144, (shapeCast _ (broadcastInDim S4x2048x6144 ![0, 1, 2] bcast_S4x1x6144_S4x2048x6144_0_1_2 (broadcastInDim S4x1x6144 ![0, 2] bcast_S4x6144_S4x1x6144_0_2 (extractStridedSlice S4x6144 ![1, 0] (shapeCast _ (extractStridedSlice S1x8x6144 ![1, 0, 0] a4 slices_S2x8x6144_S1x8x6144_1_0_0) shapeCasts_S1x8x6144_S8x6144) slices_S8x6144_S4x6144_1_0))) shapeCasts_S4x2048x6144_S8192x6144)⟩] concatenates_S8192x6144_S8192x6144_S16384x6144_d0

/-- The logistic function of every entry. -/
def gates (x : FVec Ideal S16384x1024 .f32) : FVec Ideal S16384x1024 .f32 := Host.divf (broadcastInDim S16384x1024 ![] bcast_S_S16384x1024 (constant S_ .f32 0x3F800000#32)) (addf (broadcastInDim S16384x1024 ![] bcast_S_S16384x1024 (constant S_ .f32 0x3F800000#32)) (Host.exp (Host.negf x)))

/-- The Gaussian activation of every entry. -/
def gelus (x : FVec Ideal S16384x1024 .f32) : FVec Ideal S16384x1024 .f32 :=
  mulf (mulf (broadcastInDim S16384x1024 ![] bcast_S_S16384x1024 (constant S_ .f32 0x3F000000#32)) x) (addf (broadcastInDim S16384x1024 ![] bcast_S_S16384x1024 (constant S_ .f32 0x3F800000#32)) (Host.tanh (mulf (broadcastInDim S16384x1024 ![] bcast_S_S16384x1024 (constant S_ .f32 0x3F4C422A#32)) (addf x (mulf (broadcastInDim S16384x1024 ![] bcast_S_S16384x1024 (constant S_ .f32 0x3D372713#32)) (mulf (mulf x x) x))))))

/-- The layer's matrix. -/
def weight (w : FVec Ideal S2x1024x1024 .f32) : FVec Ideal S1024x1024 .f32 :=
  shapeCast _ (extractStridedSlice S1x1024x1024 ![1, 0, 0] w slices_S2x1024x1024_S1x1024x1024_1_0_0) shapeCasts_S1x1024x1024_S1024x1024

/-- The first branch. -/
def lruRows : FVec Ideal S16384x1024 .f32 := mulf (extractStridedSlice S16384x1024 ![0, 0] o slices_S16384x3072_S16384x1024_0_0) (gelus (extractStridedSlice S16384x1024 ![0, 0] p slices_S16384x6144_S16384x1024_0_0))

/-- The second branch before its norm. -/
def gatedRows : FVec Ideal S16384x1024 .f32 := mulf (extractStridedSlice S16384x1024 ![0, 1024] o slices_S16384x3072_S16384x1024_0_1024) (mulf (extractStridedSlice S16384x1024 ![0, 1024] p slices_S16384x6144_S16384x1024_0_1024) (gates (extractStridedSlice S16384x1024 ![0, 1024] p slices_S16384x6144_S16384x1024_0_1024)))

/-- Rows times their root-mean-square factors. -/
def scaled (x : FVec Ideal S16384x1024 .f32) : FVec Ideal S16384x1024 .f32 := (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))

/-- The second branch. -/
def ssdRows : FVec Ideal S16384x1024 .f32 :=
  mulf (scaled (gatedRows o p)) (broadcastInDim S16384x1024 ![0, 1] bcast_S1x1024_S16384x1024_0_1 (broadcastInDim S1x1024 ![1] bcast_S1024_S1x1024_1 (shapeCast _ (extractStridedSlice S1x1024 ![1, 0] a5 slices_S2x1024_S1x1024_1_0) shapeCasts_S1x1024_S1024 : FVec Ideal S1024 .f32)))

/-- The third branch's heads. -/
def heads : FVec Ideal S16384x4x256 .f32 := shapeCast _ (extractStridedSlice S16384x1024 ![0, 2048] o slices_S16384x3072_S16384x1024_0_2048) shapeCasts_S16384x1024_S16384x4x256

/-- Heads times their root-mean-square factors. -/
def headScaled (h : FVec Ideal S16384x4x256 .f32) : FVec Ideal S16384x4x256 .f32 :=
  mulf h (broadcastInDim S16384x4x256 ![0, 1, 2] bcast_S16384x4x1_S16384x4x256_0_1_2 (Host.rsqrt (addf (Host.divf (broadcastInDim S16384x4x1 ![0, 1] bcast_S16384x4_S16384x4x1_0_1 (Host.reduceAdd (mulf h h) (constant S_ .f32 0x00000000#32) reducesTo_S16384x4x256_S16384x4_d2 h_S_)) (broadcastInDim S16384x4x1 ![] bcast_S_S16384x4x1 (constant S_ .f32 0x43800000#32))) (broadcastInDim S16384x4x1 ![] bcast_S_S16384x4x1 (constant S_ .f32 0x358637BD#32)))))

/-- The third branch. -/
def glaRows : FVec Ideal S16384x1024 .f32 :=
  mulf (shapeCast _ (mulf (headScaled (heads o)) (broadcastInDim S16384x4x256 ![0, 1, 2] bcast_S1x1x256_S16384x4x256_0_1_2 (broadcastInDim S1x1x256 ![2] bcast_S256_S1x1x256_2 (shapeCast _ (extractStridedSlice S1x256 ![1, 0] a6 slices_S2x256_S1x256_1_0) shapeCasts_S1x256_S256 : FVec Ideal S256 .f32)))) shapeCasts_S16384x4x256_S16384x1024) (mulf (extractStridedSlice S16384x1024 ![0, 2048] p slices_S16384x6144_S16384x1024_0_2048) (gates (extractStridedSlice S16384x1024 ![0, 2048] p slices_S16384x6144_S16384x1024_0_2048)))

/-- The merge of three branches' rows. -/
def mergedRows (yl ys yg : FVec Ideal S16384x1024 .f32) : FVec Ideal S16384x1024 .f32 :=
  addf (addf (mulf (gates (extractStridedSlice S16384x1024 ![0, 3072] p slices_S16384x6144_S16384x1024_0_3072)) (Host.dotGeneral dot_S16384x1024_S1024x1024_S16384x1024_1_0_0_1_n_n none yl (weight a7))) (mulf (gates (extractStridedSlice S16384x1024 ![0, 4096] p slices_S16384x6144_S16384x1024_0_4096)) (Host.dotGeneral dot_S16384x1024_S1024x1024_S16384x1024_1_0_0_1_n_n none ys (weight a8)))) (mulf (gates (extractStridedSlice S16384x1024 ![0, 5120] p slices_S16384x6144_S16384x1024_0_5120)) (Host.dotGeneral dot_S16384x1024_S1024x1024_S16384x1024_1_0_0_1_n_n none yg (weight a9)))

/-- The residual stream after the merge. -/
def added (y : FVec Ideal S16384x1024 .f32) : FVec Ideal S16384x1024 .f32 :=
  addf a0 (mulf (extractStridedSlice S16384x1024 ![0, 2048] (modRows a4) slices_S16384x6144_S16384x1024_0_2048) (Host.dotGeneral dot_S16384x1024_S1024x1024_S16384x1024_1_0_0_1_n_n none y (weight a10)))

/-- The reference's result. -/
def result : FVec Ideal S16384x1024 .f32 :=
  added a0 a4 a10 (mergedRows a7 a8 a9 a3 (lruRows (addf a1 a2) a3) (ssdRows a5 (addf a1 a2) a3) (glaRows a6 (addf a1 a2) a3))

/-- The run's result is `result` of the argument arrays. -/
theorem res_eq (m : (ℓ : Loc nD τ sig) → Buf (Elt Ideal) ℓ) (c : Dev nD) :
    res_main_v118 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := rfl

/-- A token's modulation row is the row `rowOf` says. -/
theorem modRows_at (R : Fin 16384) (k : Fin 6144) : modRows a4 (ix2 R k) = a4 (ix3 1 (rowOf R) k) := by
  by_cases h : R.val < 8192
  · pointwise [modRows, rowOf, h]
  · pointwise [modRows, rowOf, h]

theorem gates_at (x : FVec Ideal S16384x1024 .f32) (R : Fin 16384) (k : Fin 1024) : gates x (ix2 R k) = gate (x (ix2 R k)) := by
  pointwise [gates, gate]

theorem gelus_at (x : FVec Ideal S16384x1024 .f32) (R : Fin 16384) (k : Fin 1024) : gelus x (ix2 R k) = gelu (x (ix2 R k)) := by
  pointwise [gelus, gelu]

theorem weight_at (w : FVec Ideal S2x1024x1024 .f32) (k n : Fin 1024) : weight w (ix2 k n) = w (ix3 1 k n) := by
  pointwise [weight]

theorem lruRows_at (R : Fin 16384) (k : Fin 1024) :
    lruRows o p (ix2 R k) = lruBranch (fun l => o (ix2 R ⟨l, by omega⟩)) (fun l => p (ix2 R ⟨l, by omega⟩)) k := by
  pointwise [lruRows, lruBranch, gelus_at]

theorem gatedRows_at (R : Fin 16384) (k : Fin 1024) :
    gatedRows o p (ix2 R k) = o (ix2 R ⟨1024 + k, by omega⟩) * silu (p (ix2 R ⟨1024 + k, by omega⟩)) := by
  pointwise [gatedRows, silu, gates_at]

theorem scaled_at (x : FVec Ideal S16384x1024 .f32) (R : Fin 16384) (k : Fin 1024) :
    scaled x (ix2 R k) = x (ix2 R k) * rmsFactor (fun l => x (ix2 R l)) := by
  pointwise [scaled, rmsFactor]

theorem ssdRows_at (R : Fin 16384) (k : Fin 1024) :
    ssdRows a5 o p (ix2 R k) = ssdBranch (fun l => o (ix2 R ⟨1024 + l, by omega⟩)) (fun l => p (ix2 R ⟨1024 + l, by omega⟩))
      (fun l => a5 (ix2 1 l)) k := by
  pointwise [ssdRows, ssdBranch, scaled_at, gatedRows_at]

theorem heads_at (R : Fin 16384) (h : Fin 4) (j : Fin 256) :
    heads o (ix3 R h j) = o (ix2 R ⟨2048 + (h.val * 256 + j.val), by omega⟩) := by
  pointwise [heads]

theorem headScaled_at (x : FVec Ideal S16384x4x256 .f32) (R : Fin 16384) (h : Fin 4) (j : Fin 256) :
    headScaled x (ix3 R h j) = x (ix3 R h j) * headFactor (fun l => x (ix3 R h l)) := by
  pointwise [headScaled, headFactor]

theorem glaRows_at (R : Fin 16384) (k : Fin 1024) :
    glaRows a6 o p (ix2 R k) = glaBranch (fun l => o (ix2 R ⟨2048 + l, by omega⟩)) (fun l => p (ix2 R ⟨2048 + l, by omega⟩))
      (fun l => a6 (ix2 1 l)) k := by
  have e : k.val / 256 * 256 + k.val % 256 = k.val := by omega
  pointwise [glaRows, glaBranch, headScaled_at, heads_at, silu, gates_at, e]

theorem mergedRows_at (yl ys yg : FVec Ideal S16384x1024 .f32) (R : Fin 16384) (n : Fin 1024) :
    mergedRows a7 a8 a9 p yl ys yg (ix2 R n) = merged (fun k => yl (ix2 R k)) (fun k => ys (ix2 R k)) (fun k => yg (ix2 R k))
      (fun l => p (ix2 R ⟨3072 + l, by omega⟩)) (fun l => p (ix2 R ⟨4096 + l, by omega⟩)) (fun l => p (ix2 R ⟨5120 + l, by omega⟩))
      (fun k n => a7 (ix3 1 k n)) (fun k n => a8 (ix3 1 k n)) (fun k n => a9 (ix3 1 k n)) n := by
  pointwise [mergedRows, merged, gates_at, weight_at]

theorem added_at (y : FVec Ideal S16384x1024 .f32) (R : Fin 16384) (n : Fin 1024) :
    added a0 a4 a10 y (ix2 R n) = a0 (ix2 R n) + a4 (ix3 1 (rowOf R) ⟨2048 + n, by omega⟩) * ∑ k : Fin 1024, y (ix2 R k) * a10 (ix3 1 k n) := by
  pointwise [added, modRows_at, weight_at]

/-- THE REFERENCE'S RESULT at a token and a column is the merge of that token's rows. -/
theorem result_at (R : Fin 16384) (n : Fin 1024) :
    result a0 a1 a2 a3 a4 a5 a6 a7 a8 a9 a10 (ix2 R n)
      = postOut (fun l => a0 (ix2 R l)) (fun l => a4 (ix3 1 (rowOf R) ⟨2048 + l, by omega⟩)) (fun l => a1 (ix2 R l) + a2 (ix2 R l))
          (fun l => a3 (ix2 R l)) (fun l => a5 (ix2 1 l)) (fun l => a6 (ix2 1 l)) (fun k n => a7 (ix3 1 k n)) (fun k n => a8 (ix3 1 k n))
          (fun k n => a9 (ix3 1 k n)) (fun k n => a10 (ix3 1 k n)) n := by
  rw [result, added_at, postOut]
  simp only [mergedRows_at, lruRows_at, ssdRows_at, glaRows_at]
  pointwise

end Cert.PostRefIdeal.Value

end
-- ==== Proof.PostFinal.lean ====
/- The merge kernel's result array after the run is the reference's result. -/
module

public import proofs.«01_k».proof.Proof.PostKernel
public import proofs.«01_k».proof.Proof.PostReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.Layer

variable (m : (ℓ : Loc nD τ sig) → Buf (Elt Ideal) ℓ)

/-- The reference's result over the kernel's argument arrays. -/
abbrev REF (c : Dev nD) : FVec Ideal S16384x1024 .f32 :=
  Cert.PostRefIdeal.Value.result (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))

/-- Every window's block index at every grid point (decided). -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![if t.val < 16 then 0 else 1 + (t.val - 16) / 4, 0, 0]
    ∧ win0_5.index t = ![0, 0]
    ∧ win0_6.index t = ![0, 0]
    ∧ win0_7.index t = ![1, 0, 0]
    ∧ win0_8.index t = ![1, 0, 0]
    ∧ win0_9.index t = ![1, 0, 0]
    ∧ win0_10.index t = ![1, 0, 0]
    ∧ win0_11.index t = ![t.val, 0] :=
  (by decide +kernel : ∀ t : Fin grid0.N, _)

/-- The token of row `r` of block `t`. -/
def token (t : Fin cfg0.N) (r : Fin 512) : Fin 16384 := ⟨t.val * 512 + r.val, by have h : t.val < 32 := t.isLt; omega⟩

/-! ## The arrays the host code prepares, read at an index -/

theorem entry4 (c : Dev nD) (b : Fin 8) (l : Fin 6144) :
    V m c main_v15 (ix3 b 0 l) = m ((c : Thread nD τ).loc main_arg4) (ix3 1 b l) := by
  entry_read
  pointwise

theorem entry5 (c : Dev nD) (l : Fin 1024) :
    V m c main_v2 (ix2 0 l) = m ((c : Thread nD τ).loc main_arg5) (ix2 1 l) := by
  entry_read
  pointwise

theorem entry6 (c : Dev nD) (l : Fin 256) :
    V m c main_v5 (ix2 0 l) = m ((c : Thread nD τ).loc main_arg6) (ix2 1 l) := by
  entry_read
  pointwise

theorem entry1 (c : Dev nD) (R : Fin 16384) (l : Fin 3072) :
    V m c main_v10 (ix2 R l) = m ((c : Thread nD τ).loc main_arg1) (ix2 R l) := by
  entry_read
  pointwise

theorem entry2 (c : Dev nD) (R : Fin 16384) (l : Fin 3072) :
    V m c main_v11 (ix2 R l) = m ((c : Thread nD τ).loc main_arg2) (ix2 R l) := by
  entry_read
  pointwise

theorem entry3 (c : Dev nD) (R : Fin 16384) (l : Fin 6144) :
    V m c main_v12 (ix2 R l) = m ((c : Thread nD τ).loc main_arg3) (ix2 R l) := by
  entry_read
  pointwise

theorem entry7 (c : Dev nD) (k n : Fin 1024) :
    V m c main_v6 (ix3 1 k n) = m ((c : Thread nD τ).loc main_arg7) (ix3 1 k n) := by
  entry_read
  pointwise

theorem entry8 (c : Dev nD) (k n : Fin 1024) :
    V m c main_v7 (ix3 1 k n) = m ((c : Thread nD τ).loc main_arg8) (ix3 1 k n) := by
  entry_read
  pointwise

theorem entry9 (c : Dev nD) (k n : Fin 1024) :
    V m c main_v8 (ix3 1 k n) = m ((c : Thread nD τ).loc main_arg9) (ix3 1 k n) := by
  entry_read
  pointwise

theorem entry10 (c : Dev nD) (k n : Fin 1024) :
    V m c main_v9 (ix3 1 k n) = m ((c : Thread nD τ).loc main_arg10) (ix3 1 k n) := by
  entry_read
  pointwise

/-! ## The blocks, read at an index -/

theorem block0 (c : Dev nD) (t : Fin cfg0.N) (r : Fin 512) (l : Fin 1024) :
    iblk m c 0 t (ix2 r l) = m ((c : Thread nD τ).loc main_arg0) (ix2 (token t r) l) := by
  obtain ⟨e0, e1, e2, e3, e4, e5, e6, e7, e8, e9, e10, e11⟩ := idx t
  blk_ext [iblk, V, e0, token]

theorem block1 (c : Dev nD) (t : Fin cfg0.N) (r : Fin 512) (l : Fin 3072) :
    iblk m c 1 t (ix2 r l) = m ((c : Thread nD τ).loc main_arg1) (ix2 (token t r) l) := by
  obtain ⟨e0, e1, e2, e3, e4, e5, e6, e7, e8, e9, e10, e11⟩ := idx t
  exact (congrArg (V m c main_v10) (by blk_ext [e1, token] : ((cfg0.win 1).blk t).view.emb (ix2 r l) = ix2 (token t r) l)).trans (entry1 m c _ l)

theorem block2 (c : Dev nD) (t : Fin cfg0.N) (r : Fin 512) (l : Fin 3072) :
    iblk m c 2 t (ix2 r l) = m ((c : Thread nD τ).loc main_arg2) (ix2 (token t r) l) := by
  obtain ⟨e0, e1, e2, e3, e4, e5, e6, e7, e8, e9, e10, e11⟩ := idx t
  exact (congrArg (V m c main_v11) (by blk_ext [e2, token] : ((cfg0.win 2).blk t).view.emb (ix2 r l) = ix2 (token t r) l)).trans (entry2 m c _ l)

theorem block3 (c : Dev nD) (t : Fin cfg0.N) (r : Fin 512) (l : Fin 6144) :
    iblk m c 3 t (ix2 r l) = m ((c : Thread nD τ).loc main_arg3) (ix2 (token t r) l) := by
  obtain ⟨e0, e1, e2, e3, e4, e5, e6, e7, e8, e9, e10, e11⟩ := idx t
  exact (congrArg (V m c main_v12) (by blk_ext [e3, token] : ((cfg0.win 3).blk t).view.emb (ix2 r l) = ix2 (token t r) l)).trans (entry3 m c _ l)

theorem block4 (c : Dev nD) (t : Fin cfg0.N) (r : Fin 512) (l : Fin 6144) :
    iblk m c 4 t (ix3 0 0 l) = m ((c : Thread nD τ).loc main_arg4) (ix3 1 (rowOf (token t r)) l) := by
  obtain ⟨e0, e1, e2, e3, e4, e5, e6, e7, e8, e9, e10, e11⟩ := idx t
  have h32 : t.val < 32 := t.isLt
  refine (congrArg (V m c main_v15) (?_ : ((cfg0.win 4).blk t).view.emb (ix3 0 0 l) = ix3 (rowOf (token t r)) 0 l)).trans (entry4 m c _ l)
  by_cases h : t.val < 16
  · have : rowOf (token t r) = 0 := by rw [rowOf, dif_pos (by simp only [token]; omega)]
    rw [this]
    rw [if_pos h] at e4
    blk_ext [e4]
  · have : (rowOf (token t r)).val = 1 + (t.val - 16) / 4 := by
      rw [rowOf, dif_neg (by simp only [token]; omega)]; simp only [token]; omega
    rw [if_neg h] at e4
    blk_ext [e4]

theorem block5 (c : Dev nD) (t : Fin cfg0.N) (l : Fin 1024) :
    iblk m c 5 t (ix2 0 l) = m ((c : Thread nD τ).loc main_arg5) (ix2 1 l) := by
  obtain ⟨e0, e1, e2, e3, e4, e5, e6, e7, e8, e9, e10, e11⟩ := idx t
  exact (congrArg (V m c main_v2) (by blk_ext [e5] : ((cfg0.win 5).blk t).view.emb (ix2 0 l) = ix2 0 l)).trans (entry5 m c l)

theorem block6 (c : Dev nD) (t : Fin cfg0.N) (l : Fin 256) :
    iblk m c 6 t (ix2 0 l) = m ((c : Thread nD τ).loc main_arg6) (ix2 1 l) := by
  obtain ⟨e0, e1, e2, e3, e4, e5, e6, e7, e8, e9, e10, e11⟩ := idx t
  exact (congrArg (V m c main_v5) (by blk_ext [e6] : ((cfg0.win 6).blk t).view.emb (ix2 0 l) = ix2 0 l)).trans (entry6 m c l)

theorem block7 (c : Dev nD) (t : Fin cfg0.N) (k n : Fin 1024) :
    iblk m c 7 t (ix3 0 k n) = m ((c : Thread nD τ).loc main_arg7) (ix3 1 k n) := by
  obtain ⟨e0, e1, e2, e3, e4, e5, e6, e7, e8, e9, e10, e11⟩ := idx t
  exact (congrArg (V m c main_v6) (by blk_ext [e7] : ((cfg0.win 7).blk t).view.emb (ix3 0 k n) = ix3 1 k n)).trans (entry7 m c k n)

theorem block8 (c : Dev nD) (t : Fin cfg0.N) (k n : Fin 1024) :
    iblk m c 8 t (ix3 0 k n) = m ((c : Thread nD τ).loc main_arg8) (ix3 1 k n) := by
  obtain ⟨e0, e1, e2, e3, e4, e5, e6, e7, e8, e9, e10, e11⟩ := idx t
  exact (congrArg (V m c main_v7) (by blk_ext [e8] : ((cfg0.win 8).blk t).view.emb (ix3 0 k n) = ix3 1 k n)).trans (entry8 m c k n)

theorem block9 (c : Dev nD) (t : Fin cfg0.N) (k n : Fin 1024) :
    iblk m c 9 t (ix3 0 k n) = m ((c : Thread nD τ).loc main_arg9) (ix3 1 k n) := by
  obtain ⟨e0, e1, e2, e3, e4, e5, e6, e7, e8, e9, e10, e11⟩ := idx t
  exact (congrArg (V m c main_v8) (by blk_ext [e9] : ((cfg0.win 9).blk t).view.emb (ix3 0 k n) = ix3 1 k n)).trans (entry9 m c k n)

theorem block10 (c : Dev nD) (t : Fin cfg0.N) (k n : Fin 1024) :
    iblk m c 10 t (ix3 0 k n) = m ((c : Thread nD τ).loc main_arg10) (ix3 1 k n) := by
  obtain ⟨e0, e1, e2, e3, e4, e5, e6, e7, e8, e9, e10, e11⟩ := idx t
  exact (congrArg (V m c main_v9) (by blk_ext [e10] : ((cfg0.win 10).blk t).view.emb (ix3 0 k n) = ix3 1 k n)).trans (entry10 m c k n)

/-- POINT: what the body stores at a row and a column of block `t` is the reference there. -/
theorem point (c : Dev nD) (t : Fin cfg0.N) (r : Fin 512) (n : Fin 1024) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r n)
      = REF m c (ix2 (token t r) n) := by
  rw [out_at, REF, Cert.PostRefIdeal.Value.result_at]
  simp only [block0, block1, block2, block3, block4 m c t r, block5, block6, block7, block8, block9, block10]

/-- THE RESULT ARRAY after the run: the blocks tile it. -/
theorem final (c : Dev nD) : (dats m 0 c).arrAt 11 (cfgs 0).N = REF m c := by
  refine (dats m 0 c).arrAt_eq_of_covers 11 _ (by decide +kernel) fun t hf y => ?_
  idx_vars y
  obtain ⟨e0, e1, e2, e3, e4, e5, e6, e7, e8, e9, e10, e11⟩ := idx t
  have he : ((cfg0.win 11).blk t).view.emb (ix2 y0 y1) = ix2 (token t y0) y1 := by
    blk_ext [e11, token]
  rw [he]
  blk_simp; rw [after0_11]
  exact point m c t y0 y1

end Cert.PostIdeal.Value

end
-- ==== Proof.RelayoutMath.lean ====
/- Where the columns of the input projection's weights go: 10816 columns in the model's order, 4736 that the
   convolution and the scan's decays read, and 6144 that the gates and the branches' outputs read. -/
module

public import Idealize.ShloMosaic.Lib.Pipeline.ValueKit

@[expose] public section

set_option maxRecDepth 16384

noncomputable section

namespace Cert.Layer

/-- The 4736 columns of a row: the first branch's input, the second's three inputs, the third's keys and values,
    the second's steps, the third's rates, and 64 zeros. -/
def firstColumns (row : Fin 10816 → EReal) (n : Fin 4736) : EReal :=
  if h1 : n.val < 1024 then row ⟨n.val, by omega⟩
  else if h2 : n.val < 2560 then row ⟨n.val + 2048, by omega⟩
  else if h3 : n.val < 4608 then row ⟨n.val + 2080, by omega⟩
  else if h4 : n.val < 4640 then row ⟨n.val, by omega⟩
  else if h5 : n.val < 4672 then row ⟨n.val + 3072, by omega⟩
  else 0

/-- The 6144 columns of a row: the three branches' gates, then the merge's three. -/
def secondColumns (row : Fin 10816 → EReal) (n : Fin 6144) : EReal :=
  if h1 : n.val < 2048 then row ⟨n.val + 1024, by omega⟩
  else if h2 : n.val < 3072 then row ⟨n.val + 4640, by omega⟩
  else row ⟨n.val + 4672, by omega⟩

end Cert.Layer

end
-- ==== Proof.RelayoutKernel.lean ====
/- What the rearranging kernel leaves in its two output blocks: the block's rows, their columns in the new order. -/
module

public import proofs.«01_k».proof.Proof.Gen.RelayoutIdeal.Frame
public import proofs.«01_k».proof.Proof.RelayoutMath
public import proofs.«01_k».proof.Proof.InprojPieces
public import Idealize.ShloMosaic.Lib.Pipeline.ValueKit

@[expose] public section

set_option maxRecDepth 16384

noncomputable section

open Idealize.ShloMosaic Idealize.ShloMosaic.TcCoe Idealize.SL.Sem

namespace Cert.RelayoutIdeal.Value

open Cert.RelayoutIdeal Cert.RelayoutIdeal.Gen Cert.Layer
open Cert.InprojIdeal.Value (Agree Agree.cons Agree.nil)

/-- The two blocks of a block of weights. -/
def B1 (x : Vec Ideal S1x128x10816 .f32) (y : S1x128x4736.Idx) : EReal := firstColumns (fun k => x (ix3 0 (y 1) k)) (y 2)

def B2 (x : Vec Ideal S1x128x10816 .f32) (y : S1x128x6144.Idx) : EReal := secondColumns (fun k => x (ix3 0 (y 1) k)) (y 2)

/-! ## What is stored, of what was read -/

theorem pay2_at (v : Vec Ideal S1x128x2048 .f32) (a : Fin 1) (r : Fin 128) (j : Fin 2048) : k0_pay2 (F := Ideal) v (ix3 a r j) = v (ix3 0 r j) := by
  pointwise [k0_pay2]

theorem pay3_at (v : Vec Ideal S1x128x1024 .f32) (a : Fin 1) (r : Fin 128) (j : Fin 1024) : k0_pay3 (F := Ideal) v (ix3 a r j) = v (ix3 0 r j) := by
  pointwise [k0_pay3]

theorem pay4_at (v : Vec Ideal S1x128x3072 .f32) (a : Fin 1) (r : Fin 128) (j : Fin 3072) : k0_pay4 (F := Ideal) v (ix3 a r j) = v (ix3 0 r j) := by
  pointwise [k0_pay4]

theorem pay5_at (v : Vec Ideal S1x128x1024 .f32) (a : Fin 1) (r : Fin 128) (j : Fin 1024) : k0_pay5 (F := Ideal) v (ix3 a r j) = v (ix3 0 r j) := by
  pointwise [k0_pay5]

theorem pay6_at (v : Vec Ideal S1x128x1536 .f32) (a : Fin 1) (r : Fin 128) (j : Fin 1536) : k0_pay6 (F := Ideal) v (ix3 a r j) = v (ix3 0 r j) := by
  pointwise [k0_pay6]

theorem pay7_at (v : Vec Ideal S1x128x2048 .f32) (a : Fin 1) (r : Fin 128) (j : Fin 2048) : k0_pay7 (F := Ideal) v (ix3 a r j) = v (ix3 0 r j) := by
  pointwise [k0_pay7]

theorem lane_lt (j : Fin 128) (b : ℕ) (hb : b < 128) : (BitVec.ofNat 32 j.val).slt (BitVec.ofNat 32 b) = decide (j.val < b) := by
  rw [BitVec.slt, BitVec.toInt_eq_toNat_of_lt (by simp only [BitVec.toNat_ofNat]; omega), BitVec.toInt_eq_toNat_of_lt (by simp only [BitVec.toNat_ofNat]; omega)]
  simp only [BitVec.toNat_ofNat]
  congr 1
  rw [Nat.mod_eq_of_lt (by omega), Nat.mod_eq_of_lt (by omega)]
  exact propext Nat.cast_lt

theorem lane_select (j : Fin 128) (b : ℕ) (hb : b < 128) (x y : EReal) :
    Scalar.select (IntOp.cmpi .slt (BitVec.ofNat 32 j.val) (BitVec.ofNat 32 b)) x y = if j.val < b then x else y := by
  have h := lane_lt j b hb
  by_cases hj : j.val < b
  · simp [Scalar.select, IntOp.cmpi, h, hj]
  · simp [Scalar.select, IntOp.cmpi, h, hj]

theorem pay1_at (v w : Vec Ideal S1x128x128 .f32) (a : Fin 1) (r j : Fin 128) :
    k0_pay1 (F := Ideal) (k0_pay8 v) (k0_pay9 w) k0_pay10 k0_pay11 k0_pay12 (ix3 a r j)
      = if j.val < 32 then v (ix3 0 r j) else if j.val < 64 then w (ix3 0 r j) else 0 := by
  pointwise [k0_pay1, k0_pay8, k0_pay9, k0_pay10, k0_pay11, k0_pay12]
  rw [lane_select j 32 (by omega), lane_select j 64 (by omega)]

variable {arg2 : Memref sig .tc .vmem S1x128x10816 .f32} (harg2 : arg2.IsWhole) (x : Vec Ideal S1x128x10816 .f32)

/-! ## Where it is stored -/

theorem piece5 (inb : ∀ a, ![0, 0, 0] a + S1x128x1024.size a ≤ S1x128x10816.size a) (inb' : ∀ a, ![0, 0, 0] a + S1x128x1024.size a ≤ S1x128x4736.size a) (y : (Rect.unit (s := S1x128x4736) ![0, 0, 0] S1x128x1024.size inb').shape.Idx) :
    k0_pay5 (F := Ideal) (View.readAt (Elt Ideal) arg2.view (Rect.unit (s := S1x128x10816) ![0, 0, 0] S1x128x1024.size inb).toLoadRect (harg2.unread x)) y
      = B1 x ((Rect.unit (s := S1x128x4736) ![0, 0, 0] S1x128x1024.size inb').emb y) := by
  rw [View.readAt_eq_ld, harg2.read_unread]
  idx_vars y
  rw [pay5_at]
  have e : (Rect.unit (s := S1x128x4736) ![0, 0, 0] S1x128x1024.size inb').emb (ix3 y0 y1 y2) = ix3 0 y1 ⟨0 + y2.val, by omega⟩ := by blk_ext
  rw [e]
  show x ((Rect.unit (s := S1x128x10816) ![0, 0, 0] S1x128x1024.size inb).emb (ix3 0 y1 y2)) = firstColumns (fun k => x (ix3 0 y1 k)) ⟨0 + y2.val, _⟩
  rw [firstColumns, dif_pos (by simp only; omega)]
  blk_ext

theorem piece6 (inb : ∀ a, ![0, 0, 3072] a + S1x128x1536.size a ≤ S1x128x10816.size a) (inb' : ∀ a, ![0, 0, 1024] a + S1x128x1536.size a ≤ S1x128x4736.size a) (y : (Rect.unit (s := S1x128x4736) ![0, 0, 1024] S1x128x1536.size inb').shape.Idx) :
    k0_pay6 (F := Ideal) (View.readAt (Elt Ideal) arg2.view (Rect.unit (s := S1x128x10816) ![0, 0, 3072] S1x128x1536.size inb).toLoadRect (harg2.unread x)) y
      = B1 x ((Rect.unit (s := S1x128x4736) ![0, 0, 1024] S1x128x1536.size inb').emb y) := by
  rw [View.readAt_eq_ld, harg2.read_unread]
  idx_vars y
  rw [pay6_at]
  have e : (Rect.unit (s := S1x128x4736) ![0, 0, 1024] S1x128x1536.size inb').emb (ix3 y0 y1 y2) = ix3 0 y1 ⟨1024 + y2.val, by omega⟩ := by blk_ext
  rw [e]
  show x ((Rect.unit (s := S1x128x10816) ![0, 0, 3072] S1x128x1536.size inb).emb (ix3 0 y1 y2)) = firstColumns (fun k => x (ix3 0 y1 k)) ⟨1024 + y2.val, _⟩
  rw [firstColumns, dif_neg (by simp only; omega), dif_pos (by simp only; omega)]
  blk_ext

theorem piece7 (inb : ∀ a, ![0, 0, 4640] a + S1x128x2048.size a ≤ S1x128x10816.size a) (inb' : ∀ a, ![0, 0, 2560] a + S1x128x2048.size a ≤ S1x128x4736.size a) (y : (Rect.unit (s := S1x128x4736) ![0, 0, 2560] S1x128x2048.size inb').shape.Idx) :
    k0_pay7 (F := Ideal) (View.readAt (Elt Ideal) arg2.view (Rect.unit (s := S1x128x10816) ![0, 0, 4640] S1x128x2048.size inb).toLoadRect (harg2.unread x)) y
      = B1 x ((Rect.unit (s := S1x128x4736) ![0, 0, 2560] S1x128x2048.size inb').emb y) := by
  rw [View.readAt_eq_ld, harg2.read_unread]
  idx_vars y
  rw [pay7_at]
  have e : (Rect.unit (s := S1x128x4736) ![0, 0, 2560] S1x128x2048.size inb').emb (ix3 y0 y1 y2) = ix3 0 y1 ⟨2560 + y2.val, by omega⟩ := by blk_ext
  rw [e]
  show x ((Rect.unit (s := S1x128x10816) ![0, 0, 4640] S1x128x2048.size inb).emb (ix3 0 y1 y2)) = firstColumns (fun k => x (ix3 0 y1 k)) ⟨2560 + y2.val, _⟩
  rw [firstColumns, dif_neg (by simp only; omega), dif_neg (by simp only; omega), dif_pos (by simp only; omega)]
  blk_ext

theorem piece2 (inb : ∀ a, ![0, 0, 1024] a + S1x128x2048.size a ≤ S1x128x10816.size a) (inb' : ∀ a, ![0, 0, 0] a + S1x128x2048.size a ≤ S1x128x6144.size a) (y : (Rect.unit (s := S1x128x6144) ![0, 0, 0] S1x128x2048.size inb').shape.Idx) :
    k0_pay2 (F := Ideal) (View.readAt (Elt Ideal) arg2.view (Rect.unit (s := S1x128x10816) ![0, 0, 1024] S1x128x2048.size inb).toLoadRect (harg2.unread x)) y
      = B2 x ((Rect.unit (s := S1x128x6144) ![0, 0, 0] S1x128x2048.size inb').emb y) := by
  rw [View.readAt_eq_ld, harg2.read_unread]
  idx_vars y
  rw [pay2_at]
  have e : (Rect.unit (s := S1x128x6144) ![0, 0, 0] S1x128x2048.size inb').emb (ix3 y0 y1 y2) = ix3 0 y1 ⟨0 + y2.val, by omega⟩ := by blk_ext
  rw [e]
  show x ((Rect.unit (s := S1x128x10816) ![0, 0, 1024] S1x128x2048.size inb).emb (ix3 0 y1 y2)) = secondColumns (fun k => x (ix3 0 y1 k)) ⟨0 + y2.val, _⟩
  rw [secondColumns, dif_pos (by simp only; omega)]
  blk_ext

theorem piece3 (inb : ∀ a, ![0, 0, 6688] a + S1x128x1024.size a ≤ S1x128x10816.size a) (inb' : ∀ a, ![0, 0, 2048] a + S1x128x1024.size a ≤ S1x128x6144.size a) (y : (Rect.unit (s := S1x128x6144) ![0, 0, 2048] S1x128x1024.size inb').shape.Idx) :
    k0_pay3 (F := Ideal) (View.readAt (Elt Ideal) arg2.view (Rect.unit (s := S1x128x10816) ![0, 0, 6688] S1x128x1024.size inb).toLoadRect (harg2.unread x)) y
      = B2 x ((Rect.unit (s := S1x128x6144) ![0, 0, 2048] S1x128x1024.size inb').emb y) := by
  rw [View.readAt_eq_ld, harg2.read_unread]
  idx_vars y
  rw [pay3_at]
  have e : (Rect.unit (s := S1x128x6144) ![0, 0, 2048] S1x128x1024.size inb').emb (ix3 y0 y1 y2) = ix3 0 y1 ⟨2048 + y2.val, by omega⟩ := by blk_ext
  rw [e]
  show x ((Rect.unit (s := S1x128x10816) ![0, 0, 6688] S1x128x1024.size inb).emb (ix3 0 y1 y2)) = secondColumns (fun k => x (ix3 0 y1 k)) ⟨2048 + y2.val, _⟩
  rw [secondColumns, dif_neg (by simp only; omega), dif_pos (by simp only; omega)]
  blk_ext

theorem piece4 (inb : ∀ a, ![0, 0, 7744] a + S1x128x3072.size a ≤ S1x128x10816.size a) (inb' : ∀ a, ![0, 0, 3072] a + S1x128x3072.size a ≤ S1x128x6144.size a) (y : (Rect.unit (s := S1x128x6144) ![0, 0, 3072] S1x128x3072.size inb').shape.Idx) :
    k0_pay4 (F := Ideal) (View.readAt (Elt Ideal) arg2.view (Rect.unit (s := S1x128x10816) ![0, 0, 7744] S1x128x3072.size inb).toLoadRect (harg2.unread x)) y
      = B2 x ((Rect.unit (s := S1x128x6144) ![0, 0, 3072] S1x128x3072.size inb').emb y) := by
  rw [View.readAt_eq_ld, harg2.read_unread]
  idx_vars y
  rw [pay4_at]
  have e : (Rect.unit (s := S1x128x6144) ![0, 0, 3072] S1x128x3072.size inb').emb (ix3 y0 y1 y2) = ix3 0 y1 ⟨3072 + y2.val, by omega⟩ := by blk_ext
  rw [e]
  show x ((Rect.unit (s := S1x128x10816) ![0, 0, 7744] S1x128x3072.size inb).emb (ix3 0 y1 y2)) = secondColumns (fun k => x (ix3 0 y1 k)) ⟨3072 + y2.val, _⟩
  rw [secondColumns, dif_neg (by simp only; omega), dif_neg (by simp only; omega)]
  blk_ext

theorem piece1 (inb : ∀ a, ![0, 0, 4608] a + S1x128x128.size a ≤ S1x128x10816.size a) (inc : ∀ a, ![0, 0, 7680] a + S1x128x128.size a ≤ S1x128x10816.size a) (inb' : ∀ a, ![0, 0, 4608] a + S1x128x128.size a ≤ S1x128x4736.size a) (y : (Rect.unit (s := S1x128x4736) ![0, 0, 4608] S1x128x128.size inb').shape.Idx) :
    k0_pay1 (F := Ideal) (k0_pay8 (View.readAt (Elt Ideal) arg2.view (Rect.unit (s := S1x128x10816) ![0, 0, 4608] S1x128x128.size inb).toLoadRect (harg2.unread x)))
        (k0_pay9 (View.readAt (Elt Ideal) arg2.view (Rect.unit (s := S1x128x10816) ![0, 0, 7680] S1x128x128.size inc).toLoadRect (harg2.unread x))) k0_pay10 k0_pay11 k0_pay12 y
      = B1 x ((Rect.unit (s := S1x128x4736) ![0, 0, 4608] S1x128x128.size inb').emb y) := by
  rw [View.readAt_eq_ld, View.readAt_eq_ld, harg2.read_unread]
  idx_vars y
  rw [pay1_at]
  have e : (Rect.unit (s := S1x128x4736) ![0, 0, 4608] S1x128x128.size inb').emb (ix3 y0 y1 y2) = ix3 0 y1 ⟨4608 + y2.val, by omega⟩ := by blk_ext
  rw [e]
  show (if y2.val < 32 then x ((Rect.unit (s := S1x128x10816) ![0, 0, 4608] S1x128x128.size inb).emb (ix3 0 y1 y2)) else if y2.val < 64 then x ((Rect.unit (s := S1x128x10816) ![0, 0, 7680] S1x128x128.size inc).emb (ix3 0 y1 y2)) else 0)
    = firstColumns (fun k => x (ix3 0 y1 k)) ⟨4608 + y2.val, _⟩
  rw [firstColumns, dif_neg (by simp only; omega), dif_neg (by simp only; omega), dif_neg (by simp only; omega)]
  by_cases h1 : y2.val < 32
  · rw [if_pos h1, dif_pos (by simp only; omega)]
    blk_ext
  · rw [if_neg h1, dif_neg (by simp only; omega)]
    by_cases h2 : y2.val < 64
    · rw [if_pos h2, dif_pos (by simp only; omega)]
      blk_ext
    · rw [if_neg h2, dif_neg (by simp only; omega)]

/-! ## The two output blocks -/

theorem agree_first (c : Dev nD) (i : grid0.Coords) (arg2 : Memref sig .tc .vmem S1x128x10816 .f32) (harg2 : arg2.IsWhole) (arg3 : Memref sig .tc .vmem S1x128x4736 .bf16) (harg3 : arg3.IsWhole) (arg4 : Memref sig .tc .vmem S1x128x6144 .bf16) (harg4 : arg4.IsWhole) (x : Vec Ideal S1x128x10816 .f32) :
    Agree (kernelRun0_A (F := Ideal) c i arg2 harg2 arg3 harg3 arg4 harg4 x).1 (B1 x) :=
  .cons _ _ (piece1 harg2 x inb_S1x128x10816_S1x128x128_0_0_4608 inb_S1x128x10816_S1x128x128_0_0_7680 inb_S1x128x4736_S1x128x128_0_0_4608) <|
  .cons _ _ (piece7 harg2 x inb_S1x128x10816_S1x128x2048_0_0_4640 inb_S1x128x4736_S1x128x2048_0_0_2560) <|
  .cons _ _ (piece6 harg2 x inb_S1x128x10816_S1x128x1536_0_0_3072 inb_S1x128x4736_S1x128x1536_0_0_1024) <|
  .cons _ _ (piece5 harg2 x inb_S1x128x10816_S1x128x1024_0_0_0 inb_S1x128x4736_S1x128x1024_0_0_0) <| .nil

theorem agree_second (c : Dev nD) (i : grid0.Coords) (arg2 : Memref sig .tc .vmem S1x128x10816 .f32) (harg2 : arg2.IsWhole) (arg3 : Memref sig .tc .vmem S1x128x4736 .bf16) (harg3 : arg3.IsWhole) (arg4 : Memref sig .tc .vmem S1x128x6144 .bf16) (harg4 : arg4.IsWhole) (x : Vec Ideal S1x128x10816 .f32) :
    Agree (kernelRun0_A (F := Ideal) c i arg2 harg2 arg3 harg3 arg4 harg4 x).2.1 (B2 x) :=
  .cons _ _ (piece4 harg2 x inb_S1x128x10816_S1x128x3072_0_0_7744 inb_S1x128x6144_S1x128x3072_0_0_3072) <|
  .cons _ _ (piece3 harg2 x inb_S1x128x10816_S1x128x1024_0_0_6688 inb_S1x128x6144_S1x128x1024_0_0_2048) <|
  .cons _ _ (piece2 harg2 x inb_S1x128x10816_S1x128x2048_0_0_1024 inb_S1x128x6144_S1x128x2048_0_0_0) <| .nil

theorem out_first (c : Dev nD) (i : grid0.Coords) (arg2 : Memref sig .tc .vmem S1x128x10816 .f32) (harg2 : arg2.IsWhole) (arg3 : Memref sig .tc .vmem S1x128x4736 .bf16) (harg3 : arg3.IsWhole) (arg4 : Memref sig .tc .vmem S1x128x6144 .bf16) (harg4 : arg4.IsWhole) (x : Vec Ideal S1x128x10816 .f32) : out0_A_1 (F := Ideal) c i arg2 harg2 arg3 harg3 arg4 harg4 x = B1 x := by
  unfold out0_A_1
  rw [View.read_writes_junk_eq_canon]
  exact funext fun y => (agree_first c i arg2 harg2 arg3 harg3 arg4 harg4 x).canon y (cover0_A_1 (F := Ideal) c i arg2 harg2 arg3 harg3 arg4 harg4 x y)

theorem out_second (c : Dev nD) (i : grid0.Coords) (arg2 : Memref sig .tc .vmem S1x128x10816 .f32) (harg2 : arg2.IsWhole) (arg3 : Memref sig .tc .vmem S1x128x4736 .bf16) (harg3 : arg3.IsWhole) (arg4 : Memref sig .tc .vmem S1x128x6144 .bf16) (harg4 : arg4.IsWhole) (x : Vec Ideal S1x128x10816 .f32) : out0_A_2 (F := Ideal) c i arg2 harg2 arg3 harg3 arg4 harg4 x = B2 x := by
  unfold out0_A_2
  rw [View.read_writes_junk_eq_canon]
  exact funext fun y => (agree_second c i arg2 harg2 arg3 harg3 arg4 harg4 x).canon y (cover0_A_2 (F := Ideal) c i arg2 harg2 arg3 harg3 arg4 harg4 x y)

end Cert.RelayoutIdeal.Value

end
-- ==== Proof.RelayoutReference.lean ====
/- The reference of the weights' rearrangement, read at an index. -/
module

public import proofs.«01_k».proof.Proof.Gen.RelayoutRefIdeal.Run
public import proofs.«01_k».proof.Proof.RelayoutMath
public import Idealize.ShloMosaic.Lib.Pipeline.ValueKit

@[expose] public section

set_option maxRecDepth 16384

noncomputable section

open Idealize.ShloMosaic Idealize.ShloMosaic.TcCoe Idealize.SL.Sem

namespace Cert.RelayoutRefIdeal.Value

open Cert.RelayoutRefIdeal Cert.RelayoutRefIdeal.Gen Cert.Layer

variable (a : FVec Ideal S2x1024x10816 .f32)

/-- The 64 zeros. -/
def zeros : FVec Ideal S2x1024x64 .f32 := broadcastInDim S2x1024x64 ![] bcast_S_S2x1024x64 (constant S_ .f32 0x00000000#32 : FVec Ideal S_ .f32)

theorem zeros_at (l : Fin 2) (r : Fin 1024) (j : Fin 64) : zeros (ix3 l r j) = 0 := by
  pointwise [zeros]

/-- The reference's first result, -/
def first : FVec Ideal S2x1024x4736 .bf16 := truncf .bf16 ((concatenate S2x1024x4736 2 [⟨S2x1024x1024, ((extractStridedSlice S2x1024x1024 ![0, 0, 0] a slices_S2x1024x10816_S2x1024x1024_0_0_0) : (⟨S2x1024x1024, .f32⟩ : BufTy).Contents (Elt Ideal))⟩, ⟨S2x1024x1536, ((extractStridedSlice S2x1024x1536 ![0, 0, 3072] a slices_S2x1024x10816_S2x1024x1536_0_0_3072) : (⟨S2x1024x1536, .f32⟩ : BufTy).Contents (Elt Ideal))⟩, ⟨S2x1024x2048, ((extractStridedSlice S2x1024x2048 ![0, 0, 4640] a slices_S2x1024x10816_S2x1024x2048_0_0_4640) : (⟨S2x1024x2048, .f32⟩ : BufTy).Contents (Elt Ideal))⟩, ⟨S2x1024x32, ((extractStridedSlice S2x1024x32 ![0, 0, 4608] a slices_S2x1024x10816_S2x1024x32_0_0_4608) : (⟨S2x1024x32, .f32⟩ : BufTy).Contents (Elt Ideal))⟩, ⟨S2x1024x32, ((extractStridedSlice S2x1024x32 ![0, 0, 7712] a slices_S2x1024x10816_S2x1024x32_0_0_7712) : (⟨S2x1024x32, .f32⟩ : BufTy).Contents (Elt Ideal))⟩, ⟨S2x1024x64, zeros⟩] concatenates_S2x1024x1024_S2x1024x1536_S2x1024x2048_S2x1024x32_S2x1024x32_S2x1024x64_S2x1024x4736_d2 : (⟨S2x1024x4736, .f32⟩ : BufTy).Contents (Elt Ideal))) bitsLt_bf16_f32

/-- and its second. -/
def second : FVec Ideal S2x1024x6144 .bf16 := truncf .bf16 ((concatenate S2x1024x6144 2 [⟨S2x1024x1024, ((extractStridedSlice S2x1024x1024 ![0, 0, 1024] a slices_S2x1024x10816_S2x1024x1024_0_0_1024) : (⟨S2x1024x1024, .f32⟩ : BufTy).Contents (Elt Ideal))⟩, ⟨S2x1024x1024, ((extractStridedSlice S2x1024x1024 ![0, 0, 2048] a slices_S2x1024x10816_S2x1024x1024_0_0_2048) : (⟨S2x1024x1024, .f32⟩ : BufTy).Contents (Elt Ideal))⟩, ⟨S2x1024x1024, ((extractStridedSlice S2x1024x1024 ![0, 0, 6688] a slices_S2x1024x10816_S2x1024x1024_0_0_6688) : (⟨S2x1024x1024, .f32⟩ : BufTy).Contents (Elt Ideal))⟩, ⟨S2x1024x3072, ((extractStridedSlice S2x1024x3072 ![0, 0, 7744] a slices_S2x1024x10816_S2x1024x3072_0_0_7744) : (⟨S2x1024x3072, .f32⟩ : BufTy).Contents (Elt Ideal))⟩] concatenates_S2x1024x1024_S2x1024x1024_S2x1024x1024_S2x1024x3072_S2x1024x6144_d2 : (⟨S2x1024x6144, .f32⟩ : BufTy).Contents (Elt Ideal))) bitsLt_bf16_f32

/-- The run's results are `first` and `second` of the argument array. -/
theorem first_eq (m : (ℓ : Loc nD τ sig) → Buf (Elt Ideal) ℓ) (c : Dev nD) :
    truncf .bf16 ((concatenate S2x1024x4736 2 [⟨S2x1024x1024, ((extractStridedSlice S2x1024x1024 ![0, 0, 0] (m ((c.tc : Thread nD τ).loc main_arg0)) slices_S2x1024x10816_S2x1024x1024_0_0_0) : (⟨S2x1024x1024, .f32⟩ : BufTy).Contents (Elt Ideal))⟩, ⟨S2x1024x1536, ((extractStridedSlice S2x1024x1536 ![0, 0, 3072] (m ((c.tc : Thread nD τ).loc main_arg0)) slices_S2x1024x10816_S2x1024x1536_0_0_3072) : (⟨S2x1024x1536, .f32⟩ : BufTy).Contents (Elt Ideal))⟩, ⟨S2x1024x2048, ((extractStridedSlice S2x1024x2048 ![0, 0, 4640] (m ((c.tc : Thread nD τ).loc main_arg0)) slices_S2x1024x10816_S2x1024x2048_0_0_4640) : (⟨S2x1024x2048, .f32⟩ : BufTy).Contents (Elt Ideal))⟩, ⟨S2x1024x32, ((extractStridedSlice S2x1024x32 ![0, 0, 4608] (m ((c.tc : Thread nD τ).loc main_arg0)) slices_S2x1024x10816_S2x1024x32_0_0_4608) : (⟨S2x1024x32, .f32⟩ : BufTy).Contents (Elt Ideal))⟩, ⟨S2x1024x32, ((extractStridedSlice S2x1024x32 ![0, 0, 7712] (m ((c.tc : Thread nD τ).loc main_arg0)) slices_S2x1024x10816_S2x1024x32_0_0_7712) : (⟨S2x1024x32, .f32⟩ : BufTy).Contents (Elt Ideal))⟩, ⟨S2x1024x64, zeros⟩] concatenates_S2x1024x1024_S2x1024x1536_S2x1024x2048_S2x1024x32_S2x1024x32_S2x1024x64_S2x1024x4736_d2 : (⟨S2x1024x4736, .f32⟩ : BufTy).Contents (Elt Ideal))) bitsLt_bf16_f32 = first (m ((c.tc : Thread nD τ).loc main_arg0)) := rfl

theorem second_eq (m : (ℓ : Loc nD τ sig) → Buf (Elt Ideal) ℓ) (c : Dev nD) :
    truncf .bf16 ((concatenate S2x1024x6144 2 [⟨S2x1024x1024, ((extractStridedSlice S2x1024x1024 ![0, 0, 1024] (m ((c.tc : Thread nD τ).loc main_arg0)) slices_S2x1024x10816_S2x1024x1024_0_0_1024) : (⟨S2x1024x1024, .f32⟩ : BufTy).Contents (Elt Ideal))⟩, ⟨S2x1024x1024, ((extractStridedSlice S2x1024x1024 ![0, 0, 2048] (m ((c.tc : Thread nD τ).loc main_arg0)) slices_S2x1024x10816_S2x1024x1024_0_0_2048) : (⟨S2x1024x1024, .f32⟩ : BufTy).Contents (Elt Ideal))⟩, ⟨S2x1024x1024, ((extractStridedSlice S2x1024x1024 ![0, 0, 6688] (m ((c.tc : Thread nD τ).loc main_arg0)) slices_S2x1024x10816_S2x1024x1024_0_0_6688) : (⟨S2x1024x1024, .f32⟩ : BufTy).Contents (Elt Ideal))⟩, ⟨S2x1024x3072, ((extractStridedSlice S2x1024x3072 ![0, 0, 7744] (m ((c.tc : Thread nD τ).loc main_arg0)) slices_S2x1024x10816_S2x1024x3072_0_0_7744) : (⟨S2x1024x3072, .f32⟩ : BufTy).Contents (Elt Ideal))⟩] concatenates_S2x1024x1024_S2x1024x1024_S2x1024x1024_S2x1024x3072_S2x1024x6144_d2 : (⟨S2x1024x6144, .f32⟩ : BufTy).Contents (Elt Ideal))) bitsLt_bf16_f32 = second (m ((c.tc : Thread nD τ).loc main_arg0)) := rfl

theorem first_at (l : Fin 2) (r : Fin 1024) (n : Fin 4736) : first a (ix3 l r n) = firstColumns (fun k => a (ix3 l r k)) n := by
  by_cases h1 : n.val < 1024
  · rw [firstColumns, dif_pos (by omega)]
    pointwise [first, zeros_at, h1]
  by_cases h2 : n.val - 1024 < 1536
  · rw [firstColumns, dif_neg (by omega), dif_pos (by omega)]
    pointwise [first, zeros_at, h1, h2]
    exact congrArg (fun k => a (ix3 l r k)) (Fin.ext (by show _ = _; simp only; omega))
  by_cases h3 : n.val - 1024 - 1536 < 2048
  · rw [firstColumns, dif_neg (by omega), dif_neg (by omega), dif_pos (by omega)]
    pointwise [first, zeros_at, h1, h2, h3]
    exact congrArg (fun k => a (ix3 l r k)) (Fin.ext (by show _ = _; simp only; omega))
  by_cases h4 : n.val - 1024 - 1536 - 2048 < 32
  · rw [firstColumns, dif_neg (by omega), dif_neg (by omega), dif_neg (by omega), dif_pos (by omega)]
    pointwise [first, zeros_at, h1, h2, h3, h4]
    exact congrArg (fun k => a (ix3 l r k)) (Fin.ext (by show _ = _; simp only; omega))
  by_cases h5 : n.val - 1024 - 1536 - 2048 - 32 < 32
  · rw [firstColumns, dif_neg (by omega), dif_neg (by omega), dif_neg (by omega), dif_neg (by omega), dif_pos (by omega)]
    pointwise [first, zeros_at, h1, h2, h3, h4, h5]
    exact congrArg (fun k => a (ix3 l r k)) (Fin.ext (by show _ = _; simp only; omega))
  · rw [firstColumns, dif_neg (by omega), dif_neg (by omega), dif_neg (by omega), dif_neg (by omega), dif_neg (by omega)]
    pointwise [first, zeros_at, h1, h2, h3, h4, h5]

theorem second_at (l : Fin 2) (r : Fin 1024) (n : Fin 6144) : second a (ix3 l r n) = secondColumns (fun k => a (ix3 l r k)) n := by
  by_cases h1 : n.val < 1024
  · rw [secondColumns, dif_pos (by omega)]
    pointwise [second, h1]
    exact congrArg (fun k => a (ix3 l r k)) (Fin.ext (by show _ = _; simp only; omega))
  by_cases h2 : n.val - 1024 < 1024
  · rw [secondColumns, dif_pos (by omega)]
    pointwise [second, h1, h2]
    exact congrArg (fun k => a (ix3 l r k)) (Fin.ext (by show _ = _; simp only; omega))
  by_cases h3 : n.val - 1024 - 1024 < 1024
  · rw [secondColumns, dif_neg (by omega), dif_pos (by omega)]
    pointwise [second, h1, h2, h3]
    exact congrArg (fun k => a (ix3 l r k)) (Fin.ext (by show _ = _; simp only; omega))
  · rw [secondColumns, dif_neg (by omega), dif_neg (by omega)]
    pointwise [second, h1, h2, h3]
    exact congrArg (fun k => a (ix3 l r k)) (Fin.ext (by show _ = _; simp only; omega))

end Cert.RelayoutRefIdeal.Value

end
-- ==== Proof.RelayoutFinal.lean ====
/- The rearranging kernel's result arrays after the run are the reference's results. -/
module

public import proofs.«01_k».proof.Proof.RelayoutKernel
public import proofs.«01_k».proof.Proof.RelayoutReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RelayoutIdeal.Value

open Cert.RelayoutIdeal Cert.RelayoutIdeal.Gen Cert.Layer

variable (m : (ℓ : Loc nD τ sig) → Buf (Elt Ideal) ℓ)

/-- The reference's results over the kernel's argument array. -/
abbrev REF1 (c : Dev nD) : FVec Ideal S2x1024x4736 .bf16 := Cert.RelayoutRefIdeal.Value.first (m ((c : Thread nD τ).loc main_arg0))

abbrev REF2 (c : Dev nD) : FVec Ideal S2x1024x6144 .bf16 := Cert.RelayoutRefIdeal.Value.second (m ((c : Thread nD τ).loc main_arg0))

/-- Every window's block index at every grid point (decided). -/
theorem idx : ∀ t : Fin cfg0.N, win0_0.index t = ![t.val / 8, t.val % 8, 0]
    ∧ win0_1.index t = ![t.val / 8, t.val % 8, 0]
    ∧ win0_2.index t = ![t.val / 8, t.val % 8, 0] :=
  (by decide +kernel : ∀ t : Fin grid0.N, _)

/-- The layer and the row of row `r` of block `t`. -/
def layer (t : Fin cfg0.N) : Fin 2 := ⟨t.val / 8, by have h : t.val < 16 := t.isLt; omega⟩

def rowAt (t : Fin cfg0.N) (r : Fin 128) : Fin 1024 := ⟨t.val % 8 * 128 + r.val, by omega⟩

theorem block0 (c : Dev nD) (t : Fin cfg0.N) (r : Fin 128) (k : Fin 10816) :
    iblk m c 0 t (ix3 0 r k) = m ((c : Thread nD τ).loc main_arg0) (ix3 (layer t) (rowAt t r) k) := by
  obtain ⟨e0, e1, e2⟩ := idx t
  blk_ext [iblk, V, e0, layer, rowAt]

/-- POINT: what the body stores at a row and a column of block `t` is the reference there. -/
theorem point_first (c : Dev nD) (t : Fin cfg0.N) (r : Fin 128) (n : Fin 4736) :
    (outsAt0 m c t).1 (ix3 0 r n) = REF1 m c (ix3 (layer t) (rowAt t r) n) := by
  dsimp only [outsAt0]
  rw [out_first, REF1, Cert.RelayoutRefIdeal.Value.first_at]
  show firstColumns (fun k => iblk m c 0 t (ix3 0 r k)) n = _
  simp only [block0]

/-- THE RESULT ARRAY after the run: the blocks tile it. -/
theorem final_first (c : Dev nD) : (dats m 0 c).arrAt 1 (cfgs 0).N = REF1 m c := by
  refine (dats m 0 c).arrAt_eq_of_covers 1 _ (by decide +kernel) fun t hf y => ?_
  idx_vars y
  obtain ⟨e0, e1, e2⟩ := idx t
  have hy : y0 = 0 := by omega
  subst hy
  have he : ((cfg0.win 1).blk t).view.emb (ix3 0 y1 y2) = ix3 (layer t) (rowAt t y1) y2 := by
    blk_ext [e1, layer, rowAt]
  rw [he]
  blk_simp; rw [after0_1]
  exact point_first m c t y1 y2

/-- POINT: what the body stores at a row and a column of block `t` is the reference there. -/
theorem point_second (c : Dev nD) (t : Fin cfg0.N) (r : Fin 128) (n : Fin 6144) :
    (outsAt0 m c t).2 (ix3 0 r n) = REF2 m c (ix3 (layer t) (rowAt t r) n) := by
  dsimp only [outsAt0]
  rw [out_second, REF2, Cert.RelayoutRefIdeal.Value.second_at]
  show secondColumns (fun k => iblk m c 0 t (ix3 0 r k)) n = _
  simp only [block0]

/-- THE RESULT ARRAY after the run: the blocks tile it. -/
theorem final_second (c : Dev nD) : (dats m 0 c).arrAt 2 (cfgs 0).N = REF2 m c := by
  refine (dats m 0 c).arrAt_eq_of_covers 2 _ (by decide +kernel) fun t hf y => ?_
  idx_vars y
  obtain ⟨e0, e1, e2⟩ := idx t
  have hy : y0 = 0 := by omega
  subst hy
  have he : ((cfg0.win 2).blk t).view.emb (ix3 0 y1 y2) = ix3 (layer t) (rowAt t y1) y2 := by
    blk_ext [e2, layer, rowAt]
  rw [he]
  blk_simp; rw [after0_2]
  exact point_second m c t y1 y2

end Cert.RelayoutIdeal.Value

end
-- ==== Proof.SplitIdealCopy.lean ====
/- When the split body of the kernel over the ideal numbers takes which branch, and the run of the branch that copies the rows. -/
module

public import proofs.«01_k».proof.Proof.Gen.SplitIdeal.Skeleton
public import proofs.«01_k».proof.Proof.Gen.SplitIdeal.Frame

@[expose] public section

set_option maxRecDepth 16384

noncomputable section

namespace Cert.SplitIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's first branch is taken: the rows are copied. -/
abbrev cond0_0 (i : grid0.Coords) : Prop := k0_cond1 i = 1#1
/-- It is at the points before point 8. -/
theorem hcond0_0 : ∀ t : Fin cfg0.N, cond0_0 (grid0.coords t) ↔ t.val < 8 :=
  (by decide +kernel : ∀ t : Fin grid0.N, cond0_0 (grid0.coords t) ↔ t.val < 8)

/-- The body's second branch is taken: every second group of 64 rows is reversed. -/
abbrev cond0_1 (i : grid0.Coords) : Prop := k0_cond2 i = 1#1
/-- It is at the points from point 8 on. -/
theorem hcond0_1 : ∀ t : Fin cfg0.N, cond0_1 (grid0.coords t) ↔ 8 ≤ t.val :=
  (by decide +kernel : ∀ t : Fin grid0.N, cond0_1 (grid0.coords t) ↔ 8 ≤ t.val)

/-! ## At which points the body stores into a window -/

/-- The input is read at every point. -/
theorem liveAt0_0 : ∀ t : Fin cfg0.N, cfg0.idle 0 (grid0.coords t) = false := fun _ => rfl
/-- The first output is stored before point 8. -/
theorem liveAt0_1_A : ∀ t : Fin cfg0.N, cond0_0 (grid0.coords t) → ¬cond0_1 (grid0.coords t) → cfg0.idle 1 (grid0.coords t) = false := by decide +kernel
/-- The first output is not stored from point 8 on. -/
theorem idleAt0_1_B : ∀ t : Fin cfg0.N, ¬cond0_0 (grid0.coords t) → cond0_1 (grid0.coords t) → cfg0.idle 1 (grid0.coords t) = true := by decide +kernel
/-- The second output is not stored before point 8, -/
theorem idleAt0_2_A : ∀ t : Fin cfg0.N, cond0_0 (grid0.coords t) → ¬cond0_1 (grid0.coords t) → cfg0.idle 2 (grid0.coords t) = true := by decide +kernel
/-- nor written back there. -/
theorem noFlush0_2_A : ∀ t : Fin cfg0.N, cond0_0 (grid0.coords t) → ¬cond0_1 (grid0.coords t) → (cfg0.win 2).flush t = false := by decide +kernel
/-- The second output is stored from point 8 on. -/
theorem liveAt0_2_B : ∀ t : Fin cfg0.N, ¬cond0_0 (grid0.coords t) → cond0_1 (grid0.coords t) → cfg0.idle 2 (grid0.coords t) = false := by decide +kernel

/-! ## The buffers at a point -/

/-- One buffer of the first output, to state its contents through. -/
abbrev VO0_1 : View sig .tc .vmem S1024x1024 .f32 := (Memref.whole cc0_stg1_0 : Memref sig .tc .vmem S1024x1024 .f32).view
/-- One buffer of the second output, to state its contents through. -/
abbrev VO0_2 : View sig .tc .vmem S1024x1024 .f32 := (Memref.whole cc0_stg2_0 : Memref sig .tc .vmem S1024x1024 .f32).view
/-- Each window's buffer at a point, and that it is a whole one. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

variable (m : (ℓ : Loc nD τ sig) → Buf (Elt F) ℓ) (ρ : Dev nD → PrngReg)

set_option maxHeartbeats 1000000 in
/-- What the copying branch leaves in the buffers, with its run: the input's buffer as it was, the first output's
    with the pieces the run finds, the second output's untouched. -/
noncomputable def kernelRun0_A (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : cond0_0 i) (hc1 : ¬cond0_1 i)
    (x0 : Vec F S1024x1024 .f32) :
    Σ' (L1 : List (View.Piece (Elt F) S1024x1024 .f32)), { L2 : List (View.Piece (Elt F) S1024x1024 .f32) //
      ∀ (xi2 : Vec F S1024x1024 .f32) (E : Set ℕ) (K : PUnit → sProp 𝕄),
        iprop(owns (c : Thread nD τ) arg1 fullShare x0 ∗ (∃ d, owns (c : Thread nD τ) arg2 fullShare d) ∗ owns (c : Thread nD τ) arg3 fullShare xi2
            ∗ (iprop(owns (c : Thread nD τ) arg1 fullShare x0 ∗ (∃ f, arg2.view.loc (c : Thread nD τ) ↦[arg2.view.set]{fullShare} arg2.view.writes (Elt F) f L1) ∗ owns (c : Thread nD τ) arg3 fullShare xi2) -∗ K ⟨⟩))
          ⊢ wp frame (wpE (defs₀ (F := F)) Variants.none c none) E (cc0_split_tokens i arg1 harg1 arg2 harg2 arg3 harg3) K } := by
  refine ⟨?_, [], fun xi2 E K => ?run⟩
  case run =>
    simp only [cc0_split_tokens_eq_skeleton]; unfold cc0_split_tokens_skel
    unfold owns
    iintro ⟨⟨%f0, %hf0, H0⟩, ⟨%d1, %f1, -, H1⟩, ⟨%f2, %hf2, H2⟩, Hk⟩
    obtain rfl := harg1.eq_unread hf0; obtain rfl := harg3.eq_unread hf2
    sl_exec (disch := first | sl_exact hc0 | sl_exact hc1)
    sl_step
    iapply Hk
    isplitl [H0]
    · iexists _; isplitr; · ipureintro; exact harg1.read_unread _
      iexact H0
    isplitl [H1]; · iexists _; iexact H1
    iexists _; isplitr; · ipureintro; exact harg3.read_unread _
    iexact H2

end Cert.SplitIdeal.Gen

end
-- ==== Proof.SplitIdealSnake.lean ====
/- The run of the branch of the split body of the kernel over the ideal numbers that reverses every second group of 64 rows. -/
module

public import proofs.«01_k».proof.Proof.SplitIdealCopy

@[expose] public section

set_option maxRecDepth 16384

noncomputable section

namespace Cert.SplitIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6884000 in
/-- What the reversing branch leaves in the buffers, with its run: the input's buffer as it was, the first output's
    untouched, the second output's with the pieces the run finds. -/
noncomputable def kernelRun0_B (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : ¬cond0_0 i) (hc1 : cond0_1 i)
    (x0 : Vec F S1024x1024 .f32) :
    Σ' (L1 : List (View.Piece (Elt F) S1024x1024 .f32)), { L2 : List (View.Piece (Elt F) S1024x1024 .f32) //
      ∀ (xi1 : Vec F S1024x1024 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f L2)) -∗ K ⟨⟩))
          ⊢ wp frame (wpE (defs₀ (F := F)) Variants.none c none) E (cc0_split_tokens i arg1 harg1 arg2 harg2 arg3 harg3) K } := by
  refine ⟨[], ?_, fun xi1 E K => ?run⟩
  case run =>
    simp only [cc0_split_tokens_eq_skeleton]; unfold cc0_split_tokens_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.SplitIdeal.Gen

end
-- ==== Proof.SplitIdealFrame.lean ====
/- The frame of the split call of the kernel over the ideal numbers: what each output buffer holds after each point, the obligation of the body, the
   run. The first output is stored at points 0 to 7 and its last block is held, unchanged, until the last point writes it. -/
module

public import proofs.«01_k».proof.Proof.SplitIdealSnake
public import Idealize.ShloMosaic.Lib.Pipeline.TableIdle
public import Idealize.ShloMosaic.Lib.Claim

@[expose] public section

set_option maxRecDepth 16384

noncomputable section

namespace Cert.SplitIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The copying branch fills the first output's buffer. -/
theorem cover0_A_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : cond0_0 i) (hc1 : ¬cond0_1 i)
    (x0 : Vec F S1024x1024 .f32) (y : S1024x1024.Idx) :
    ∃ pc ∈ (kernelRun0_A c i arg1 harg1 arg2 harg2 arg3 harg3 hc0 hc1 x0).1, y ∈ pc.1.set :=
  View.cover_of_tiledL (kernelRun0_A c i arg1 harg1 arg2 harg2 arg3 harg3 hc0 hc1 x0).1 S1024x1024.size (by sl_kernel_rfl) y

/-- What it leaves there. -/
def out0_A_1 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : cond0_0 i) (hc1 : ¬cond0_1 i)
    (x0 : Vec F S1024x1024 .f32) : Vec F S1024x1024 .f32 :=
  VO0_1.read (Elt F) (VO0_1.writes (Elt F) VO0_1.junk (kernelRun0_A c i arg1 harg1 arg2 harg2 arg3 harg3 hc0 hc1 x0).1)

/-- The reversing branch fills the second output's buffer. -/
theorem cover0_B_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : ¬cond0_0 i) (hc1 : cond0_1 i)
    (x0 : Vec F S1024x1024 .f32) (y : S1024x1024.Idx) :
    ∃ pc ∈ (kernelRun0_B c i arg1 harg1 arg2 harg2 arg3 harg3 hc0 hc1 x0).2.1, y ∈ pc.1.set :=
  View.cover_of_tiledBy (kernelRun0_B c i arg1 harg1 arg2 harg2 arg3 harg3 hc0 hc1 x0).2.1 ![1, 1024] (by sl_kernel_rfl) y

/-- What it leaves there. -/
def out0_B_2 (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .f32) (harg3 : arg3.IsWhole) (hc0 : ¬cond0_0 i) (hc1 : cond0_1 i)
    (x0 : Vec F S1024x1024 .f32) : Vec F S1024x1024 .f32 :=
  VO0_2.read (Elt F) (VO0_2.writes (Elt F) VO0_2.junk (kernelRun0_B c i arg1 harg1 arg2 harg2 arg3 harg3 hc0 hc1 x0).2.1)

/-! ## What the outputs hold after each point -/

/-- What the body leaves in the first output's buffer at a point that copies. -/
def copied (c : Dev nD) (t : Fin cfg0.N) (h : t.val < 8) : Vec F S1024x1024 .f32 :=
  out0_A_1 c (grid0.coords t) (ms0_0 t) (hs0_0 t) (ms0_1 t) (hs0_1 t) (ms0_2 t) (hs0_2 t) ((hcond0_0 t).mpr h) (fun h' => absurd ((hcond0_1 t).mp h') (by omega)) (iblk m c 0 t)

/-- What it leaves in the second output's buffer at a point that reverses. -/
def snaked (c : Dev nD) (t : Fin cfg0.N) (h : ¬t.val < 8) : Vec F S1024x1024 .f32 :=
  out0_B_2 c (grid0.coords t) (ms0_0 t) (hs0_0 t) (ms0_1 t) (hs0_1 t) (ms0_2 t) (hs0_2 t) (fun h' => h ((hcond0_0 t).mp h')) ((hcond0_1 t).mpr (by omega)) (iblk m c 0 t)

/-- The last point that copies. -/
abbrev seven : Fin cfg0.N := ⟨7, by rw [show cfg0.N = 16 from N_0]; omega⟩

/-- The first output's buffer after a point: what was copied, then what point 7 copied. -/
def held (c : Dev nD) (t : Fin cfg0.N) : Vec F S1024x1024 .f32 :=
  if h : t.val < 8 then copied m c t h else copied m c seven (by decide)

/-- The second output's buffer after a point: nothing in particular before point 8, then what was reversed. -/
def turned (c : Dev nD) (t : Fin cfg0.N) : Vec F S1024x1024 .f32 :=
  if h : t.val < 8 then VO0_2.read (Elt F) VO0_2.junk else snaked m c t h

/-! ## The pipeline's proof data -/

/-- The arrays as the region finds them; after the body at a point the input's buffer at its block, the outputs' at
    `held` and `turned`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => held m c t
    | ⟨2, _⟩ => turned m c t
  Φ _ := Pipeline.ΦA spec0 c
  q _ := fullShare
  owed _ := 0

/-- The arrays of the data. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = held m c t := by dsimp only [dats]
theorem after0_2 (c : Dev nD) (t : Fin cfg0.N) : (dats m 0 c).after 2 t = turned m c t := by dsimp only [dats]

/-- The input's buffer holds its block at every point. -/
theorem before0_0 (c : Dev nD) (t : Fin cfg0.N) (d) : (dats m 0 c).before 0 t d = iblk m c 0 t :=
  before0_0_of m (dats m 0 c) (A_eq m c 0) (after0_0 m c) t d

/-- From point 8 on the first output's buffer is not a fresh one. -/
theorem stale0_1 : ∀ t : Fin cfg0.N, ¬t.val < 8 → cfg0.fresh 1 t.val = false :=
  (by decide +kernel : ∀ t : Fin grid0.N, ¬t.val < 8 → cfg0.fresh 1 t.val = false)

/-- A point at which the first output is not stored is one from point 8 on. -/
theorem late0_1 : ∀ t : Fin cfg0.N, cfg0.idle 1 (grid0.coords t) = true → ¬t.val < 8 :=
  (by decide +kernel : ∀ t : Fin grid0.N, cfg0.idle 1 (grid0.coords t) = true → ¬t.val < 8)

/-- From point 7 on the first output's buffer holds what point 7 copied. -/
theorem held_late (c : Dev nD) (t : Fin cfg0.N) (h : 7 ≤ t.val) : held m c t = copied m c seven (by decide) := by
  unfold held
  by_cases h8 : t.val < 8
  · have e : t = seven := Fin.ext (by show t.val = 7; omega)
    subst e; rw [dif_pos h8]
  · rw [dif_neg h8]

/-- So from point 8 on the body finds in it what it leaves there. -/
theorem before0_1_late (c : Dev nD) (t : Fin cfg0.N) (h : ¬t.val < 8) (d) : (dats m 0 c).before 1 t d = held m c t := by
  refine (Dat.before_out_traj (dat := dats m 0 c) 1 rfl (fun _ _ => rfl) (fun u hu hi hf => ?_) t.val t rfl d).trans ?_
  · have hl := late0_1 u hi
    rw [after0_1, after0_1, held_late m c u (by omega), held_late m c _ (by show 7 ≤ u.val - 1; omega)]
  · rw [stale0_1 t h, if_neg Bool.false_ne_true, after0_1, held_late m c t (by omega), held_late m c _ (by show 7 ≤ t.val - 1; omega)]

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- From point 8 on, the first output's buffer with what point 7 copied is what the body has to return of it,
    whether the point writes it back or not. -/
theorem returns0_1 (c : Dev nD) (t : Fin cfg0.N) (h : ¬t.val < 8) :
    owns (c : Thread nD τ) (ms0_1 t) fullShare (held m c t) ⊢ (dats m 0 c).leavesExact 1 t := by
  have hi : cfg0.idle 1 (grid0.coords t) = true :=
    idleAt0_1_B t (fun h' => h ((hcond0_0 t).mp h')) ((hcond0_1 t).mpr (by omega))
  cases hf : (cfg0.win 1).flush t
  · rw [Dat.leavesExact_idle (dats m 0 c) 1 t hi hf]
    iintro H
    iexists (held m c t)
    rw [before0_1_late m c t h]
    iexact H
  · rw [show (dats m 0 c).leavesExact 1 t = owns (c : Thread nD τ) (ms0_1 t) fullShare ((dats m 0 c).after 1 t) from by
      unfold Dat.leavesExact; rw [hi, hf], after0_1]

set_option maxHeartbeats 800000 in
/-- The body at any point, by the branch it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl]
  by_cases h0 : t.val < 8
  · have h1 : ¬8 ≤ t.val := by omega
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1_A t ((hcond0_0 t).mpr h0) (fun h => h1 ((hcond0_1 t).mp h))], after0_1]
    rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
    rw [show held m c t = copied m c t h0 from dif_pos h0]
    unfold copied out0_A_1
    iintro ⟨HΦ, Ho, ⟨%d0, H0⟩, ⟨%d1, H1⟩, ⟨%d2, H2⟩⟩
    iapply ((kernelRun0_A c (grid0.coords t) _ _ _ _ _ _ ((hcond0_0 t).mpr h0) (fun h => h1 ((hcond0_1 t).mp h)) (iblk m c 0 t)).2.2 _ Set.univ _)
    isplitl [H0]; · iexact H0
    isplitl [H1]; · iexists _; iexact H1
    isplitl [H2]; · iexact H2
    iintro ⟨H0, ⟨%e1, H1⟩, H2⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _ _)
    iexists _; iexact H2
  · have h1 : 8 ≤ t.val := by omega
    simp only [before0_1_late m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 2 t = owns (c : Thread nD τ) (ms0_2 t) fullShare ((dats m 0 c).after 2 t) from by
      unfold Dat.leavesExact; rw [liveAt0_2_B t (fun h => h0 ((hcond0_0 t).mp h)) ((hcond0_1 t).mpr h1)], after0_2]
    rw [show turned m c t = snaked m c t h0 from dif_neg h0]
    unfold snaked out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) ((hcond0_1 t).mpr h1) (iblk m c 0 t)).2.2 _ Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iapply (returns0_1 m c t h0); iexact H1
    unfold owns; iexists _; isplitr
    swap; · iexact H2
    ipureintro; exact View.read_writes_of_cover _ _ _ _ _ (cover0_B_2 c _ _ _ _ _ _ _ _ _ _)

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array of the pipeline ends as the data say, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.SplitIdeal.Gen

end
-- ==== Proof.SplitMath.lean ====
/- Rows of 64 tokens, every second of them in reverse: where row r of the raster order lies in the snake order. -/
module

public import Idealize.ShloMosaic.Lib.Pipeline.ValueKit

@[expose] public section

namespace Cert.Layer

/-- The place of token r: its own in the even rows of 64, the mirrored one of its row in the odd rows. -/
def mirrored (r : ℕ) : ℕ := if r % 128 < 64 then r else r / 128 * 128 + (191 - r % 128)

theorem mirrored_lt {n r : ℕ} (hn : n % 128 = 0) (h : r < n) : mirrored r < n := by
  unfold mirrored
  split <;> omega

/-- Whole blocks of 1024 are kept in their place. -/
theorem mirrored_block (t r : ℕ) (h : r < 1024) : mirrored (t * 1024 + r) = t * 1024 + mirrored r := by
  unfold mirrored
  have e : (t * 1024 + r) % 128 = r % 128 := by omega
  rw [e]
  split
  · rfl
  · omega

end Cert.Layer

end
-- ==== Proof.SplitKernel.lean ====
/- What the split body leaves in its two output blocks: the block's rows as they are, or the odd rows of 64 reversed. -/
module

public import proofs.«01_k».proof.Proof.SplitIdealFrame
public import proofs.«01_k».proof.Proof.SplitMath
public import Idealize.ShloMosaic.Lib.Pipeline.ValueKit

@[expose] public section

set_option maxRecDepth 16384

noncomputable section

open Idealize.ShloMosaic Idealize.ShloMosaic.TcCoe Idealize.SL.Sem

namespace Cert.SplitIdeal.Value

open Cert.SplitIdeal Cert.SplitIdeal.Gen Cert.Layer

/-- The block with every second row of 64 tokens reversed. -/
def turnedBlock (x : Vec Ideal S1024x1024 .f32) (y : S1024x1024.Idx) : EReal :=
  x (ix2 ⟨mirrored (y 0).val, mirrored_lt (n := 1024) rfl (y 0).isLt⟩ (y 1))

/-- A list of stores that all put `G` in place, one store more. -/
theorem Placed.cons {L : List (View.Piece (Elt Ideal) S1024x1024 .f32)} {G : S1024x1024.Idx → EReal}
    (r : Rect S1024x1024) (w : r.shape.Idx → Elt Ideal .f32) (h : ∀ y, w y = G (r.emb y))
    (hL : ∀ p ∈ L, ∀ y : p.1.shape.Idx, p.2 y = G (p.1.emb y)) :
    ∀ p ∈ (⟨r, w⟩ :: L : List (View.Piece (Elt Ideal) S1024x1024 .f32)), ∀ y : p.1.shape.Idx, p.2 y = G (p.1.emb y) := by
  intro p hp
  rcases List.mem_cons.mp hp with rfl | hp
  · exact h
  · exact hL p hp

variable {arg1 : Memref sig .tc .vmem S1024x1024 .f32} (harg1 : arg1.IsWhole) (x : Vec Ideal S1024x1024 .f32)

/-- A row stored at its mirrored place. -/
theorem row {a b : ℕ} (h : mirrored a = b) (inb : ∀ k, ![b, 0] k + S1x1024.size k ≤ S1024x1024.size k)
    (inb' : ∀ k, ![a, 0] k + S1x1024.size k ≤ S1024x1024.size k) (y : (Rect.unit (s := S1024x1024) ![a, 0] S1x1024.size inb').shape.Idx) :
    View.readAt (Elt Ideal) arg1.view (Rect.unit (s := S1024x1024) ![b, 0] S1x1024.size inb).toLoadRect (harg1.unread x) y
      = turnedBlock x ((Rect.unit (s := S1024x1024) ![a, 0] S1x1024.size inb').emb y) := by
  rw [View.readAt_eq_ld, harg1.read_unread]
  have ha : a < 1024 := by have := inb' 0; simp at this; omega
  have hb : b < 1024 := h ▸ mirrored_lt (n := 1024) rfl ha
  idx_vars y
  have hy : y0 = 0 := by omega
  subst hy
  have e : (Rect.unit (s := S1024x1024) ![a, 0] S1x1024.size inb').emb (ix2 0 y1) = ix2 ⟨a, ha⟩ y1 := by blk_ext
  have e' : (Rect.unit (s := S1024x1024) ![b, 0] S1x1024.size inb).emb (ix2 0 y1) = ix2 ⟨b, hb⟩ y1 := by blk_ext
  rw [e]
  show x ((Rect.unit (s := S1024x1024) ![b, 0] S1x1024.size inb).emb (ix2 0 y1)) = x (ix2 ⟨mirrored a, _⟩ y1)
  rw [e']
  exact congrArg (fun r => x (ix2 r y1)) (Fin.ext h.symm)

/-- Sixty-four rows stored in their place. -/
theorem rows {a : ℕ} (h : a % 128 = 0) (inb : ∀ k, ![a, 0] k + S64x1024.size k ≤ S1024x1024.size k)
    (inb' : ∀ k, ![a, 0] k + S64x1024.size k ≤ S1024x1024.size k) (y : (Rect.unit (s := S1024x1024) ![a, 0] S64x1024.size inb').shape.Idx) :
    View.readAt (Elt Ideal) arg1.view (Rect.unit (s := S1024x1024) ![a, 0] S64x1024.size inb).toLoadRect (harg1.unread x) y
      = turnedBlock x ((Rect.unit (s := S1024x1024) ![a, 0] S64x1024.size inb').emb y) := by
  rw [View.readAt_eq_ld, harg1.read_unread]
  have ha : a + 64 ≤ 1024 := by have := inb' 0; simpa using this
  idx_vars y
  have e : (Rect.unit (s := S1024x1024) ![a, 0] S64x1024.size inb').emb (ix2 y0 y1) = ix2 ⟨a + y0.val, by omega⟩ y1 := by blk_ext
  rw [e]
  show x ((Rect.unit (s := S1024x1024) ![a, 0] S64x1024.size inb).emb (ix2 y0 y1)) = x (ix2 ⟨mirrored (a + y0.val), _⟩ y1)
  rw [show (Rect.unit (s := S1024x1024) ![a, 0] S64x1024.size inb).emb (ix2 y0 y1) = ix2 ⟨a + y0.val, by omega⟩ y1 from e]
  refine congrArg (fun r => x (ix2 r y1)) (Fin.ext ?_)
  show a + y0.val = mirrored (a + y0.val)
  rw [mirrored, if_pos (by omega)]

variable (c : Dev nD) (i : grid0.Coords) {arg2 : Memref sig .tc .vmem S1024x1024 .f32} (harg2 : arg2.IsWhole)
  {arg3 : Memref sig .tc .vmem S1024x1024 .f32} (harg3 : arg3.IsWhole)

set_option maxHeartbeats 4000000 in
/-- Every store of the reversing branch puts the reversed block's rows in place. -/
theorem stores (hc0 : ¬cond0_0 i) (hc1 : cond0_1 i) :
    ∀ p ∈ (kernelRun0_B c i arg1 harg1 arg2 harg2 arg3 harg3 hc0 hc1 x).2.1, ∀ y : p.1.shape.Idx, p.2 y = turnedBlock x (p.1.emb y) := by
  unfold kernelRun0_B
  dsimp only
  repeat first
    | exact List.forall_mem_nil _
    | refine Placed.cons _ _ (row harg1 x (by decide) _ _) ?_
    | refine Placed.cons _ _ (rows harg1 x (by decide) _ _) ?_

/-- So the branch leaves the reversed block. -/
theorem out_turned (hc0 : ¬cond0_0 i) (hc1 : cond0_1 i) :
    out0_B_2 c i arg1 harg1 arg2 harg2 arg3 harg3 hc0 hc1 x = turnedBlock x := by
  funext y
  rw [out0_B_2, View.read_writes_junk_eq_canon]
  exact View.canon_apply_of_pieces (Val := Elt Ideal) (turnedBlock x) _ (stores harg1 x c i harg2 harg3 hc0 hc1) y
    (cover0_B_2 c i arg1 harg1 arg2 harg2 arg3 harg3 hc0 hc1 x y)

/-- The copying branch leaves the block. -/
theorem out_copied (hc0 : cond0_0 i) (hc1 : ¬cond0_1 i) :
    out0_A_1 c i arg1 harg1 arg2 harg2 arg3 harg3 hc0 hc1 x = x := by
  funext y
  rw [out0_A_1, View.read_writes_junk_eq_canon]
  refine View.canon_apply_of_pieces (Val := Elt Ideal) x _ ?_ y (cover0_A_1 c i arg1 harg1 arg2 harg2 arg3 harg3 hc0 hc1 x y)
  unfold kernelRun0_A
  dsimp only
  refine List.forall_mem_cons.mpr ⟨fun z => ?_, List.forall_mem_nil _⟩
  rw [View.readAt_eq_ld, harg1.read_unread]
  rfl

end Cert.SplitIdeal.Value

end
-- ==== Proof.SplitReference.lean ====
/- The reference of the split call: its run, and its two results read at an index. -/
module

public import proofs.«01_k».proof.Proof.Gen.SplitRefIdeal
public import proofs.«01_k».proof.Proof.SplitMath
public import Idealize.ShloMosaic.Lib.StableHlo.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.SplitRefIdeal.Value

open Cert.SplitRefIdeal Cert.SplitRefIdeal.Gen Cert.Layer

section Run

variable {F : FTy → Type} [FloatOps F]

/-- The program's operations, in order. -/
abbrev ops : List (HloOp τ sig (Elt F)) :=
  [ unary main_arg0 main_v0 ((extractStridedSlice S8192x1024 ![0, 0] · slices_S16384x1024_S8192x1024_0_0) : (⟨S16384x1024, .f32⟩ : BufTy).Contents (Elt F) → (⟨S8192x1024, .f32⟩ : BufTy).Contents (Elt F)),
    unary main_arg0 main_v1 ((extractStridedSlice S8192x1024 ![8192, 0] · slices_S16384x1024_S8192x1024_8192_0) : (⟨S16384x1024, .f32⟩ : BufTy).Contents (Elt F) → (⟨S8192x1024, .f32⟩ : BufTy).Contents (Elt F)),
    StableHlo.reshape main_v1 main_v2 (rfl : (.f32 : EltTy) = .f32) shapeCasts_S8192x1024_S64x2x64x1024,
    unary main_v2 main_v3 ((extractStridedSlice S64x1x64x1024 ![0, 0, 0, 0] · slices_S64x2x64x1024_S64x1x64x1024_0_0_0_0) : (⟨S64x2x64x1024, .f32⟩ : BufTy).Contents (Elt F) → (⟨S64x1x64x1024, .f32⟩ : BufTy).Contents (Elt F)),
    unary main_v2 main_v4 ((extractStridedSlice S64x1x64x1024 ![0, 1, 0, 0] · slices_S64x2x64x1024_S64x1x64x1024_0_1_0_0) : (⟨S64x2x64x1024, .f32⟩ : BufTy).Contents (Elt F) → (⟨S64x1x64x1024, .f32⟩ : BufTy).Contents (Elt F)),
    unary main_v4 main_v5 (Host.reverse [2] : (⟨S64x1x64x1024, .f32⟩ : BufTy).Contents (Elt F) → (⟨S64x1x64x1024, .f32⟩ : BufTy).Contents (Elt F)),
    binary main_v3 main_v5 main_v6 ((fun a b => concatenate S64x2x64x1024 1 [⟨S64x1x64x1024, a⟩, ⟨S64x1x64x1024, b⟩] concatenates_S64x1x64x1024_S64x1x64x1024_S64x2x64x1024_d1) : (⟨S64x1x64x1024, .f32⟩ : BufTy).Contents (Elt F) → (⟨S64x1x64x1024, .f32⟩ : BufTy).Contents (Elt F) → (⟨S64x2x64x1024, .f32⟩ : BufTy).Contents (Elt F)),
    StableHlo.reshape main_v6 main_v7 (rfl : (.f32 : EltTy) = .f32) shapeCasts_S64x2x64x1024_S8192x1024 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., reshape_bufs_sub .., unary_bufs_sub .., unary_bufs_sub .., unary_bufs_sub .., binary_bufs_sub .., reshape_bufs_sub ..⟩

/-- The first result: the first 8192 rows. -/
def prompts (a : FVec F S16384x1024 .f32) : FVec F S8192x1024 .f32 :=
  extractStridedSlice S8192x1024 ![0, 0] a slices_S16384x1024_S8192x1024_0_0

/-- The other rows, as 64 pairs of rows of 64 tokens. -/
def pairs (a : FVec F S16384x1024 .f32) : FVec F S64x2x64x1024 .f32 :=
  shapeCast S64x2x64x1024 (extractStridedSlice S8192x1024 ![8192, 0] a slices_S16384x1024_S8192x1024_8192_0 : FVec F S8192x1024 .f32) shapeCasts_S8192x1024_S64x2x64x1024

/-- Rows of 64 tokens from their last to their first. -/
def reversed (b : FVec F S64x1x64x1024 .f32) : FVec F S64x1x64x1024 .f32 := Host.reverse [2] b

/-- The second result: the second row of each pair reversed. -/
def samples (a : FVec F S16384x1024 .f32) : FVec F S8192x1024 .f32 :=
  shapeCast S8192x1024 (concatenate S64x2x64x1024 1
    [⟨S64x1x64x1024, (extractStridedSlice S64x1x64x1024 ![0, 0, 0, 0] (pairs a) slices_S64x2x64x1024_S64x1x64x1024_0_0_0_0 : FVec F S64x1x64x1024 .f32)⟩,
     ⟨S64x1x64x1024, reversed (extractStridedSlice S64x1x64x1024 ![0, 1, 0, 0] (pairs a) slices_S64x2x64x1024_S64x1x64x1024_0_1_0_0 : FVec F S64x1x64x1024 .f32)⟩]
    concatenates_S64x1x64x1024_S64x1x64x1024_S64x2x64x1024_d1 : FVec F S64x2x64x1024 .f32) shapeCasts_S64x2x64x1024_S8192x1024

set_option maxHeartbeats 1500000 in
/-- Every execution ends with the two results of the argument array, which it leaves alone. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = prompts (m ((c.tc : Thread nD τ).loc main_arg0))
      ∧ r.2.mem ((c.tc : Thread nD τ).loc main_v7) = samples (m ((c.tc : Thread nD τ).loc main_arg0))
      ∧ r.2.mem ((c.tc : Thread nD τ).loc main_arg0) = m ((c.tc : Thread nD τ).loc main_arg0) :=
  (θ_run defs _ _).mono (fun _ h c => ⟨(h c main_v0).trans (by after_results <;> rfl),
      (h c main_v7).trans (by after_results <;> rfl),
      (h c main_arg0).trans (by after_results <;> rfl)⟩)
    (run_seq scopedRefs_eq scopedSems_eq defs main (fun _ => ops) main_eq (fun _ => ops_sub) m ρ)

end Run

variable (a : FVec Ideal S16384x1024 .f32)

theorem prompts_at (r : Fin 8192) (k : Fin 1024) : prompts a (ix2 r k) = a (ix2 ⟨r.val, by omega⟩ k) := by
  pointwise [prompts]

theorem pairs_at (g : Fin 64) (p : Fin 2) (s : Fin 64) (k : Fin 1024) :
    pairs a (ix4 g p s k) = a (ix2 ⟨8192 + (128 * g.val + 64 * p.val + s.val), by omega⟩ k) := by
  pointwise [pairs]
  exact congrArg (fun r => a (ix2 r k)) (Fin.ext (by simp only; omega))

theorem reversed_at (b : FVec Ideal S64x1x64x1024 .f32) (g : Fin 64) (p : Fin 1) (s : Fin 64) (k : Fin 1024) :
    reversed b (ix4 g p s k) = b (ix4 g p ⟨63 - s.val, by omega⟩ k) := by
  show b (fun a => if a ∈ ([2] : List (Fin 4)) then _ else _) = _
  refine congrArg b (funext fun a => ?_)
  fin_cases a
  · exact if_neg (by decide)
  · exact if_neg (by decide)
  · exact (if_pos (by decide)).trans (Fin.ext (by show 64 - (s.val + 1) = 63 - s.val; omega))
  · exact if_neg (by decide)

theorem samples_at (r : Fin 8192) (k : Fin 1024) :
    samples a (ix2 r k) = a (ix2 ⟨8192 + mirrored r.val, by have := mirrored_lt (n := 8192) rfl r.isLt; omega⟩ k) := by
  by_cases h : r.val % 128 < 64
  · have h' : r.val / 64 % 2 = 0 := by omega
    pointwise [samples, pairs_at, reversed_at, h']
    refine congrArg (fun r => a (ix2 r k)) (Fin.ext ?_)
    simp only [mirrored, if_pos h]; omega
  · have h' : r.val / 64 % 2 = 1 := by omega
    pointwise [samples, pairs_at, reversed_at, h']
    refine congrArg (fun r => a (ix2 r k)) (Fin.ext ?_)
    simp only [mirrored, if_neg h]; omega

end Cert.SplitRefIdeal.Value

end
-- ==== Proof.SplitFinal.lean ====
/- The split kernel's two result arrays after the run are the reference's results. -/
module

public import proofs.«01_k».proof.Proof.SplitKernel
public import proofs.«01_k».proof.Proof.SplitReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SplitIdeal.Value

open Cert.SplitIdeal Cert.SplitIdeal.Gen Cert.Layer

variable (m : (ℓ : Loc nD τ sig) → Buf (Elt Ideal) ℓ)

/-- The reference's results over the kernel's argument array. -/
abbrev REF1 (c : Dev nD) : FVec Ideal S8192x1024 .f32 := Cert.SplitRefIdeal.Value.prompts (m ((c : Thread nD τ).loc main_arg0))

abbrev REF2 (c : Dev nD) : FVec Ideal S8192x1024 .f32 := Cert.SplitRefIdeal.Value.samples (m ((c : Thread nD τ).loc main_arg0))

/-- Every window's block at every point. -/
theorem idx : ∀ t : Fin cfg0.N, win0_0.index t = ![t.val, 0]
    ∧ win0_1.index t = ![min t.val 7, 0]
    ∧ win0_2.index t = ![t.val - 8, 0] :=
  (by decide +kernel : ∀ t : Fin grid0.N, _)

theorem block0 (c : Dev nD) (t : Fin cfg0.N) (r k : Fin 1024) :
    iblk m c 0 t (ix2 r k) = m ((c : Thread nD τ).loc main_arg0) (ix2 ⟨t.val * 1024 + r.val, by have h : t.val < 16 := t.isLt; omega⟩ k) := by
  obtain ⟨e0, e1, e2⟩ := idx t
  blk_ext [iblk, V, e0]

/-- A point that copies leaves its block of the first result. -/
theorem point_first (c : Dev nD) (t : Fin cfg0.N) (h : t.val < 8) (r k : Fin 1024) :
    copied m c t h (ix2 r k) = REF1 m c (ix2 ⟨t.val * 1024 + r.val, by omega⟩ k) := by
  rw [copied, out_copied, REF1, Cert.SplitRefIdeal.Value.prompts_at, block0]

/-- A point that reverses leaves its block of the second result. -/
theorem point_second (c : Dev nD) (t : Fin cfg0.N) (h : ¬t.val < 8) (r k : Fin 1024) :
    snaked m c t h (ix2 r k) = REF2 m c (ix2 ⟨(t.val - 8) * 1024 + r.val, by have h : t.val < 16 := t.isLt; omega⟩ k) := by
  rw [snaked, out_turned, REF2, Cert.SplitRefIdeal.Value.samples_at]
  show iblk m c 0 t (ix2 ⟨mirrored r.val, _⟩ k) = _
  rw [block0]
  refine congrArg (fun r => m ((c : Thread nD τ).loc main_arg0) (ix2 r k)) (Fin.ext ?_)
  simp only [mirrored_block _ _ r.isLt]
  omega

/-- The first output is written back at points 0 to 6 and at point 15. -/
theorem flush1 : ∀ t : Fin cfg0.N, (cfg0.win 1).flush t = true → t.val < 8 ∨ t.val = 15 :=
  (by decide +kernel : ∀ t : Fin grid0.N, (cfg0.win 1).flush t = true → t.val < 8 ∨ t.val = 15)

/-- The second output is written back from point 8 on. -/
theorem flush2 : ∀ t : Fin cfg0.N, (cfg0.win 2).flush t = true → ¬t.val < 8 :=
  (by decide +kernel : ∀ t : Fin grid0.N, (cfg0.win 2).flush t = true → ¬t.val < 8)

/-- The first result array after the run: the blocks tile it. -/
theorem final_first (c : Dev nD) : (dats m 0 c).arrAt 1 (cfgs 0).N = REF1 m c := by
  refine (dats m 0 c).arrAt_eq_of_covers 1 _ (by decide +kernel) fun t hf y => ?_
  idx_vars y
  obtain ⟨e0, e1, e2⟩ := idx t
  have he : ((cfg0.win 1).blk t).view.emb (ix2 y0 y1) = ix2 ⟨min t.val 7 * 1024 + y0.val, by omega⟩ y1 := by
    blk_ext [e1]
  rw [he]
  blk_simp; rw [after0_1]
  by_cases h : t.val < 8
  · rw [show held m c t = copied m c t h from dif_pos h]
    refine (point_first m c t h y0 y1).trans (congrArg (fun r => REF1 m c (ix2 r y1)) (Fin.ext ?_))
    show t.val * 1024 + y0.val = min t.val 7 * 1024 + y0.val
    rw [Nat.min_eq_left (by omega)]
  · rw [held_late m c t (by omega)]
    refine (point_first m c seven (by decide) y0 y1).trans (congrArg (fun r => REF1 m c (ix2 r y1)) (Fin.ext ?_))
    show 7 * 1024 + y0.val = min t.val 7 * 1024 + y0.val
    rw [Nat.min_eq_right (by omega)]

/-- The second result array after the run: the blocks tile it. -/
theorem final_second (c : Dev nD) : (dats m 0 c).arrAt 2 (cfgs 0).N = REF2 m c := by
  refine (dats m 0 c).arrAt_eq_of_covers 2 _ (by decide +kernel) fun t hf y => ?_
  idx_vars y
  obtain ⟨e0, e1, e2⟩ := idx t
  have ht : t.val < 16 := t.isLt
  have he : ((cfg0.win 2).blk t).view.emb (ix2 y0 y1) = ix2 ⟨(t.val - 8) * 1024 + y0.val, by omega⟩ y1 := by
    blk_ext [e2]
  rw [he]
  blk_simp; rw [after0_2]
  rw [show turned m c t = snaked m c t (flush2 t hf) from dif_neg (flush2 t hf)]
  exact point_second m c t (flush2 t hf) y0 y1

end Cert.SplitIdeal.Value

end
-- ==== Proof.AssembleKernel.lean ====
/- What the assembling body leaves in its output block: the first group's rows as they are, or the second group's with the
   odd rows of 64 reversed. -/
module

public import proofs.«01_k».proof.Proof.Gen.AssembleIdeal.Frame
public import proofs.«01_k».proof.Proof.SplitMath
public import Idealize.ShloMosaic.Lib.Pipeline.ValueKit

@[expose] public section

set_option maxRecDepth 16384

noncomputable section

open Idealize.ShloMosaic Idealize.ShloMosaic.TcCoe Idealize.SL.Sem

namespace Cert.AssembleIdeal.Value

open Cert.AssembleIdeal Cert.AssembleIdeal.Gen Cert.Layer

/-- The block with every second row of 64 tokens reversed. -/
def turnedBlock (x : Vec Ideal S1024x1024 .f32) (y : S1024x1024.Idx) : EReal :=
  x (ix2 ⟨mirrored (y 0).val, mirrored_lt (n := 1024) rfl (y 0).isLt⟩ (y 1))

/-- A list of stores that all put `G` in place, one store more. -/
theorem Placed.cons {L : List (View.Piece (Elt Ideal) S1024x1024 .f32)} {G : S1024x1024.Idx → EReal}
    (r : Rect S1024x1024) (w : r.shape.Idx → Elt Ideal .f32) (h : ∀ y, w y = G (r.emb y))
    (hL : ∀ p ∈ L, ∀ y : p.1.shape.Idx, p.2 y = G (p.1.emb y)) :
    ∀ p ∈ (⟨r, w⟩ :: L : List (View.Piece (Elt Ideal) S1024x1024 .f32)), ∀ y : p.1.shape.Idx, p.2 y = G (p.1.emb y) := by
  intro p hp
  rcases List.mem_cons.mp hp with rfl | hp
  · exact h
  · exact hL p hp

variable {arg2 : Memref sig .tc .vmem S1024x1024 .f32} (harg2 : arg2.IsWhole) (x : Vec Ideal S1024x1024 .f32)

/-- A row stored at its mirrored place. -/
theorem row {a b : ℕ} (h : mirrored a = b) (inb : ∀ k, ![b, 0] k + S1x1024.size k ≤ S1024x1024.size k)
    (inb' : ∀ k, ![a, 0] k + S1x1024.size k ≤ S1024x1024.size k) (y : (Rect.unit (s := S1024x1024) ![a, 0] S1x1024.size inb').shape.Idx) :
    View.readAt (Elt Ideal) arg2.view (Rect.unit (s := S1024x1024) ![b, 0] S1x1024.size inb).toLoadRect (harg2.unread x) y
      = turnedBlock x ((Rect.unit (s := S1024x1024) ![a, 0] S1x1024.size inb').emb y) := by
  rw [View.readAt_eq_ld, harg2.read_unread]
  have ha : a < 1024 := by have := inb' 0; simp at this; omega
  have hb : b < 1024 := h ▸ mirrored_lt (n := 1024) rfl ha
  idx_vars y
  have hy : y0 = 0 := by omega
  subst hy
  have e : (Rect.unit (s := S1024x1024) ![a, 0] S1x1024.size inb').emb (ix2 0 y1) = ix2 ⟨a, ha⟩ y1 := by blk_ext
  have e' : (Rect.unit (s := S1024x1024) ![b, 0] S1x1024.size inb).emb (ix2 0 y1) = ix2 ⟨b, hb⟩ y1 := by blk_ext
  rw [e]
  show x ((Rect.unit (s := S1024x1024) ![b, 0] S1x1024.size inb).emb (ix2 0 y1)) = x (ix2 ⟨mirrored a, _⟩ y1)
  rw [e']
  exact congrArg (fun r => x (ix2 r y1)) (Fin.ext h.symm)

/-- Sixty-four rows stored in their place. -/
theorem rows {a : ℕ} (h : a % 128 = 0) (inb : ∀ k, ![a, 0] k + S64x1024.size k ≤ S1024x1024.size k)
    (inb' : ∀ k, ![a, 0] k + S64x1024.size k ≤ S1024x1024.size k) (y : (Rect.unit (s := S1024x1024) ![a, 0] S64x1024.size inb').shape.Idx) :
    View.readAt (Elt Ideal) arg2.view (Rect.unit (s := S1024x1024) ![a, 0] S64x1024.size inb).toLoadRect (harg2.unread x) y
      = turnedBlock x ((Rect.unit (s := S1024x1024) ![a, 0] S64x1024.size inb').emb y) := by
  rw [View.readAt_eq_ld, harg2.read_unread]
  have ha : a + 64 ≤ 1024 := by have := inb' 0; simpa using this
  idx_vars y
  have e : (Rect.unit (s := S1024x1024) ![a, 0] S64x1024.size inb').emb (ix2 y0 y1) = ix2 ⟨a + y0.val, by omega⟩ y1 := by blk_ext
  rw [e]
  show x ((Rect.unit (s := S1024x1024) ![a, 0] S64x1024.size inb).emb (ix2 y0 y1)) = x (ix2 ⟨mirrored (a + y0.val), _⟩ y1)
  rw [show (Rect.unit (s := S1024x1024) ![a, 0] S64x1024.size inb).emb (ix2 y0 y1) = ix2 ⟨a + y0.val, by omega⟩ y1 from e]
  refine congrArg (fun r => x (ix2 r y1)) (Fin.ext ?_)
  show a + y0.val = mirrored (a + y0.val)
  rw [mirrored, if_pos (by omega)]

variable (z : Vec Ideal S1024x1024 .f32) (c : Dev nD) (i : grid0.Coords) {arg1 : Memref sig .tc .vmem S1024x1024 .f32} (harg1 : arg1.IsWhole)
  {arg3 : Memref sig .tc .vmem S1024x1024 .f32} (harg3 : arg3.IsWhole)

set_option maxHeartbeats 4000000 in
/-- Every store of the reversing branch puts the reversed block's rows in place. -/
theorem stores (hc0 : ¬cond0_0 i) (hc1 : cond0_1 i) :
    ∀ p ∈ (kernelRun0_B c i arg1 harg1 arg2 harg2 arg3 harg3 hc0 hc1 z x).1, ∀ y : p.1.shape.Idx, p.2 y = turnedBlock x (p.1.emb y) := by
  unfold kernelRun0_B
  dsimp only
  repeat first
    | exact List.forall_mem_nil _
    | refine Placed.cons _ _ (row harg2 x (by decide) _ _) ?_
    | refine Placed.cons _ _ (rows harg2 x (by decide) _ _) ?_

/-- So the branch leaves the reversed block of the second group. -/
theorem out_turned (hc0 : ¬cond0_0 i) (hc1 : cond0_1 i) :
    out0_B_2 c i arg1 harg1 arg2 harg2 arg3 harg3 hc0 hc1 z x = turnedBlock x := by
  funext y
  rw [out0_B_2, View.read_writes_junk_eq_canon]
  exact View.canon_apply_of_pieces (Val := Elt Ideal) (turnedBlock x) _ (stores harg2 x z c i harg1 harg3 hc0 hc1) y
    (cover0_B_2 c i arg1 harg1 arg2 harg2 arg3 harg3 hc0 hc1 z x y)

/-- The copying branch leaves the block of the first group. -/
theorem out_copied (hc0 : cond0_0 i) (hc1 : ¬cond0_1 i) :
    out0_A_2 c i arg1 harg1 arg2 harg2 arg3 harg3 hc0 hc1 z x = z := by
  funext y
  rw [out0_A_2, View.read_writes_junk_eq_canon]
  refine View.canon_apply_of_pieces (Val := Elt Ideal) z _ ?_ y (cover0_A_2 c i arg1 harg1 arg2 harg2 arg3 harg3 hc0 hc1 z x y)
  unfold kernelRun0_A
  dsimp only
  refine List.forall_mem_cons.mpr ⟨fun y => ?_, List.forall_mem_nil _⟩
  rw [View.readAt_eq_ld, harg1.read_unread]
  rfl

end Cert.AssembleIdeal.Value

end
-- ==== Proof.AssembleReference.lean ====
/- The reference of the assembling call, read at a token and a column. -/
module

public import proofs.«01_k».proof.Proof.Gen.AssembleRefIdeal.Run
public import proofs.«01_k».proof.Proof.SplitMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.AssembleRefIdeal.Value

open Cert.AssembleRefIdeal Cert.AssembleRefIdeal.Gen Cert.Layer

variable (a0 a1 : FVec Ideal S8192x1024 .f32)

/-- The second group's rows, as 64 pairs of rows of 64 tokens. -/
def pairs : FVec Ideal S64x2x64x1024 .f32 := shapeCast S64x2x64x1024 a1 shapeCasts_S8192x1024_S64x2x64x1024

/-- Rows of 64 tokens from their last to their first. -/
def reversed (b : FVec Ideal S64x1x64x1024 .f32) : FVec Ideal S64x1x64x1024 .f32 := Host.reverse [2] b

/-- The second group's rows in snake order: the second row of each pair reversed. -/
def snake : FVec Ideal S8192x1024 .f32 :=
  shapeCast S8192x1024 (concatenate S64x2x64x1024 1
    [⟨S64x1x64x1024, (extractStridedSlice S64x1x64x1024 ![0, 0, 0, 0] (pairs a1) slices_S64x2x64x1024_S64x1x64x1024_0_0_0_0 : FVec Ideal S64x1x64x1024 .f32)⟩,
     ⟨S64x1x64x1024, reversed (extractStridedSlice S64x1x64x1024 ![0, 1, 0, 0] (pairs a1) slices_S64x2x64x1024_S64x1x64x1024_0_1_0_0 : FVec Ideal S64x1x64x1024 .f32)⟩]
    concatenates_S64x1x64x1024_S64x1x64x1024_S64x2x64x1024_d1 : FVec Ideal S64x2x64x1024 .f32) shapeCasts_S64x2x64x1024_S8192x1024

/-- The reference's result. -/
def result : FVec Ideal S16384x1024 .f32 :=
  concatenate S16384x1024 0 [⟨S8192x1024, a0⟩, ⟨S8192x1024, snake a1⟩] concatenates_S8192x1024_S8192x1024_S16384x1024_d0

/-- Every execution ends with `result` of the argument arrays, which it leaves alone. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  run m ρ

theorem pairs_at (g : Fin 64) (p : Fin 2) (s : Fin 64) (k : Fin 1024) :
    pairs a1 (ix4 g p s k) = a1 (ix2 ⟨128 * g.val + 64 * p.val + s.val, by omega⟩ k) := by
  pointwise [pairs]
  exact congrArg (fun r => a1 (ix2 r k)) (Fin.ext (by simp only; omega))

theorem reversed_at (b : FVec Ideal S64x1x64x1024 .f32) (g : Fin 64) (p : Fin 1) (s : Fin 64) (k : Fin 1024) :
    reversed b (ix4 g p s k) = b (ix4 g p ⟨63 - s.val, by omega⟩ k) := by
  show b (fun a => if a ∈ ([2] : List (Fin 4)) then _ else _) = _
  refine congrArg b (funext fun a => ?_)
  fin_cases a
  · exact if_neg (by decide)
  · exact if_neg (by decide)
  · exact (if_pos (by decide)).trans (Fin.ext (by show 64 - (s.val + 1) = 63 - s.val; omega))
  · exact if_neg (by decide)

theorem snake_at (r : Fin 8192) (k : Fin 1024) :
    snake a1 (ix2 r k) = a1 (ix2 ⟨mirrored r.val, mirrored_lt (n := 8192) rfl r.isLt⟩ k) := by
  by_cases h : r.val % 128 < 64
  · have h' : r.val / 64 % 2 = 0 := by omega
    pointwise [snake, pairs_at, reversed_at, h']
    refine congrArg (fun r => a1 (ix2 r k)) (Fin.ext ?_)
    simp only [mirrored, if_pos h]; omega
  · have h' : r.val / 64 % 2 = 1 := by omega
    pointwise [snake, pairs_at, reversed_at, h']
    refine congrArg (fun r => a1 (ix2 r k)) (Fin.ext ?_)
    simp only [mirrored, if_neg h]; omega

/-- The first 8192 rows are the first group's. -/
theorem result_first (R : Fin 8192) (k : Fin 1024) : result a0 a1 (ix2 ⟨R.val, by omega⟩ k) = a0 (ix2 R k) := by
  have h : R.val < 8192 := R.isLt
  pointwise [result, h]

/-- The others are the second group's in snake order. -/
theorem result_second (R : Fin 8192) (k : Fin 1024) :
    result a0 a1 (ix2 ⟨8192 + R.val, by omega⟩ k) = a1 (ix2 ⟨mirrored R.val, mirrored_lt (n := 8192) rfl R.isLt⟩ k) := by
  have h : ¬8192 + R.val < 8192 := by omega
  pointwise [result, h, snake_at]

end Cert.AssembleRefIdeal.Value

end
-- ==== Proof.AssembleFinal.lean ====
/- The assembling kernel's result array after the run is the reference's result. -/
module

public import proofs.«01_k».proof.Proof.AssembleKernel
public import proofs.«01_k».proof.Proof.AssembleReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.AssembleIdeal.Value

open Cert.AssembleIdeal Cert.AssembleIdeal.Gen Cert.Layer

variable (m : (ℓ : Loc nD τ sig) → Buf (Elt Ideal) ℓ)

/-- The reference's result over the kernel's argument arrays. -/
abbrev REF (c : Dev nD) : FVec Ideal S16384x1024 .f32 :=
  Cert.AssembleRefIdeal.Value.result (m ((c : Thread nD τ).loc main_arg0)) (m ((c : Thread nD τ).loc main_arg1))

/-- Every window's block at every point. -/
theorem idx : ∀ t : Fin cfg0.N, win0_0.index t = ![min t.val 7, 0]
    ∧ win0_1.index t = ![t.val - 8, 0]
    ∧ win0_2.index t = ![t.val, 0] :=
  (by decide +kernel : ∀ t : Fin grid0.N, _)

theorem block0 (c : Dev nD) (t : Fin cfg0.N) (h : t.val < 8) (r k : Fin 1024) :
    iblk m c 0 t (ix2 r k) = m ((c : Thread nD τ).loc main_arg0) (ix2 ⟨t.val * 1024 + r.val, by omega⟩ k) := by
  obtain ⟨e0, e1, e2⟩ := idx t
  rw [Nat.min_eq_left (by omega)] at e0
  blk_ext [iblk, V, e0]

theorem block1 (c : Dev nD) (t : Fin cfg0.N) (r k : Fin 1024) :
    iblk m c 1 t (ix2 r k) = m ((c : Thread nD τ).loc main_arg1) (ix2 ⟨(t.val - 8) * 1024 + r.val, by have h : t.val < 16 := t.isLt; omega⟩ k) := by
  obtain ⟨e0, e1, e2⟩ := idx t
  blk_ext [iblk, V, e1]

/-- A point that copies leaves its block of the result. -/
theorem point_first (c : Dev nD) (t : Fin cfg0.N) (h : t.val < 8) (r k : Fin 1024) :
    outsAt0 m c t.val t.isLt (ix2 r k) = REF m c (ix2 ⟨t.val * 1024 + r.val, by omega⟩ k) := by
  rw [outsAt0_A m c t h (by omega), out_copied, block0 m c t h]
  exact (Cert.AssembleRefIdeal.Value.result_first _ _ ⟨t.val * 1024 + r.val, by omega⟩ k).symm

/-- A point that reverses leaves its block of the result. -/
theorem point_second (c : Dev nD) (t : Fin cfg0.N) (h : ¬t.val < 8) (r k : Fin 1024) :
    outsAt0 m c t.val t.isLt (ix2 r k) = REF m c (ix2 ⟨t.val * 1024 + r.val, by have h : t.val < 16 := t.isLt; omega⟩ k) := by
  have ht : t.val < 16 := t.isLt
  rw [outsAt0_B m c t h (by omega), out_turned]
  show iblk m c 1 t (ix2 ⟨mirrored r.val, _⟩ k) = _
  rw [block1]
  have e : (⟨t.val * 1024 + r.val, by omega⟩ : Fin 16384) = ⟨8192 + ((t.val - 8) * 1024 + r.val), by omega⟩ := Fin.ext (by simp only; omega)
  rw [e]
  refine Eq.trans ?_ (Cert.AssembleRefIdeal.Value.result_second _ _ ⟨(t.val - 8) * 1024 + r.val, by omega⟩ k).symm
  refine congrArg (fun r => m ((c : Thread nD τ).loc main_arg1) (ix2 r k)) (Fin.ext ?_)
  simp only [mirrored_block _ _ r.isLt]

/-- The result array after the run: the blocks tile it. -/
theorem final (c : Dev nD) : (dats m 0 c).arrAt 2 (cfgs 0).N = REF m c := by
  refine (dats m 0 c).arrAt_eq_of_covers 2 _ (by decide +kernel) fun t hf y => ?_
  idx_vars y
  obtain ⟨e0, e1, e2⟩ := idx t
  have ht : t.val < 16 := t.isLt
  have he : ((cfg0.win 2).blk t).view.emb (ix2 y0 y1) = ix2 ⟨t.val * 1024 + y0.val, by omega⟩ y1 := by
    blk_ext [e2]
  rw [he]
  blk_simp; rw [after0_2]
  by_cases h : t.val < 8
  · exact point_first m c t h y0 y1
  · exact point_second m c t h y0 y1

end Cert.AssembleIdeal.Value

end
-- ==== Proof.ModulationReference.lean ====
/- The reference of the conditioning rows, read at a layer, a row and a column. -/
module

public import proofs.«01_k».proof.Proof.Gen.ModulationRefIdeal.Run
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open scoped BigOperators

namespace Cert.Layer

/-- A conditioning row: `silu` of the condition times the weights, and the bias. -/
def conditioned (x : Fin 1024 → EReal) (w : Fin 1024 → EReal) (b : EReal) : EReal :=
  (∑ k, x k * Ideal.div 1 (1 + Ideal.exp (-x k)) * w k) + b

end Cert.Layer

namespace Cert.ModulationRefIdeal.Value

open Cert.ModulationRefIdeal Cert.ModulationRefIdeal.Gen Cert.Layer

variable (a0 : FVec Ideal S8x1024 .f32) (a1 : FVec Ideal S2x1024x6144 .f32) (a2 : FVec Ideal S2x6144 .f32)

/-- The conditions under `silu`. -/
def act : FVec Ideal S8x1024 .f32 :=
  mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))

/-- The rows of the first layer. -/
def rows0 : FVec Ideal S8x6144 .f32 :=
  addf (Host.dotGeneral dot_S8x1024_S1024x6144_S8x6144_1_0_0_1_n_n none (act a0) (shapeCast _ (extractStridedSlice S1x1024x6144 ![0, 0, 0] a1 slices_S2x1024x6144_S1x1024x6144_0_0_0) shapeCasts_S1x1024x6144_S1024x6144 : FVec Ideal S1024x6144 .f32)) (broadcastInDim S8x6144 ![0, 1] bcast_S1x6144_S8x6144_0_1 (broadcastInDim S1x6144 ![1] bcast_S6144_S1x6144_1 (shapeCast _ (extractStridedSlice S1x6144 ![0, 0] a2 slices_S2x6144_S1x6144_0_0) shapeCasts_S1x6144_S6144)))

/-- The rows of the second layer. -/
def rows1 : FVec Ideal S8x6144 .f32 :=
  addf (Host.dotGeneral dot_S8x1024_S1024x6144_S8x6144_1_0_0_1_n_n none (act a0) (shapeCast _ (extractStridedSlice S1x1024x6144 ![1, 0, 0] a1 slices_S2x1024x6144_S1x1024x6144_1_0_0) shapeCasts_S1x1024x6144_S1024x6144 : FVec Ideal S1024x6144 .f32)) (broadcastInDim S8x6144 ![0, 1] bcast_S1x6144_S8x6144_0_1 (broadcastInDim S1x6144 ![1] bcast_S6144_S1x6144_1 (shapeCast _ (extractStridedSlice S1x6144 ![1, 0] a2 slices_S2x6144_S1x6144_1_0) shapeCasts_S1x6144_S6144)))

/-- The reference's result. -/
def result : FVec Ideal S2x8x6144 .f32 :=
  concatenate S2x8x6144 0 [⟨S1x8x6144, (broadcastInDim S1x8x6144 ![1, 2] bcast_S8x6144_S1x8x6144_1_2 (rows0 a0 a1 a2))⟩, ⟨S1x8x6144, (broadcastInDim S1x8x6144 ![1, 2] bcast_S8x6144_S1x8x6144_1_2 (rows1 a0 a1 a2))⟩] concatenates_S1x8x6144_S1x8x6144_S2x8x6144_d0

/-- Every execution ends with `result` of the argument arrays, which it leaves alone. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

theorem act_at (r : Fin 8) (k : Fin 1024) : act a0 (ix2 r k) = a0 (ix2 r k) * Ideal.div 1 (1 + Ideal.exp (-a0 (ix2 r k))) := by
  pointwise [act]

theorem rows0_at (r : Fin 8) (n : Fin 6144) :
    rows0 a0 a1 a2 (ix2 r n) = conditioned (fun k => a0 (ix2 r k)) (fun k => a1 (ix3 0 k n)) (a2 (ix2 0 n)) := by
  pointwise [rows0, conditioned, act_at]

theorem rows1_at (r : Fin 8) (n : Fin 6144) :
    rows1 a0 a1 a2 (ix2 r n) = conditioned (fun k => a0 (ix2 r k)) (fun k => a1 (ix3 1 k n)) (a2 (ix2 1 n)) := by
  pointwise [rows1, conditioned, act_at]

theorem result_at (l : Fin 2) (r : Fin 8) (n : Fin 6144) :
    result a0 a1 a2 (ix3 l r n) = conditioned (fun k => a0 (ix2 r k)) (fun k => a1 (ix3 l k n)) (a2 (ix2 l n)) := by
  rcases (by omega : l = 0 ∨ l = 1) with rfl | rfl
  · pointwise [result, rows0_at]
  · pointwise [result, rows1_at]

end Cert.ModulationRefIdeal.Value

end
-- ==== Proof.ModulationFinal.lean ====
/- The conditioning rows' kernel: what its body stores, and that its result array after the run is the reference's result. -/
module

public import proofs.«01_k».proof.Proof.Gen.ModulationIdeal.Frame
public import proofs.«01_k».proof.Proof.ModulationReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.ModulationIdeal.Value

open Cert.ModulationIdeal Cert.ModulationIdeal.Gen Cert.Layer

/-- What the body stores at a row and a column of the block. -/
theorem stored_at (x : Vec Ideal S8x1024 .f32) (w : Vec Ideal S1x1024x1024 .f32) (b : Vec Ideal S1x1x1024 .f32) (r : Fin 8) (n : Fin 1024) :
    k0_pay1 (F := Ideal) x w b (ix3 0 r n) = conditioned (fun k => x (ix2 r k)) (fun k => w (ix3 0 k n)) (b (ix3 0 0 n)) := by
  pointwise [k0_pay1, conditioned, half_tanh]

theorem out_at (x : Vec Ideal S8x1024 .f32) (w : Vec Ideal S1x1024x1024 .f32) (b : Vec Ideal S1x1x1024 .f32) (r : Fin 8) (n : Fin 1024) :
    out0_3 x w b (ix3 0 r n) = conditioned (fun k => x (ix2 r k)) (fun k => w (ix3 0 k n)) (b (ix3 0 0 n)) := by
  rw [← stored_at]
  unfold out0_3
  frame_out

variable (m : (ℓ : Loc nD τ sig) → Buf (Elt Ideal) ℓ)

/-- The reference's result over the kernel's argument arrays. -/
abbrev REF (c : Dev nD) : FVec Ideal S2x8x6144 .f32 :=
  Cert.ModulationRefIdeal.Value.result (m ((c : Thread nD τ).loc main_arg0)) (m ((c : Thread nD τ).loc main_arg1))
    (m ((c : Thread nD τ).loc main_arg2))

/-- Every window's block at every point. -/
theorem idx : ∀ t : Fin cfg0.N, win0_0.index t = ![0, 0]
    ∧ win0_1.index t = ![t.val / 6, 0, t.val % 6]
    ∧ win0_2.index t = ![t.val / 6, 0, t.val % 6]
    ∧ win0_3.index t = ![t.val / 6, 0, t.val % 6] :=
  (by decide +kernel : ∀ t : Fin grid0.N, _)

/-- The layer of a point. -/
def layer (t : Fin cfg0.N) : Fin 2 := ⟨t.val / 6, by have h : t.val < 12 := t.isLt; omega⟩

/-- The column of a point's column n. -/
def column (t : Fin cfg0.N) (n : Fin 1024) : Fin 6144 := ⟨t.val % 6 * 1024 + n.val, by omega⟩

theorem block0 (c : Dev nD) (t : Fin cfg0.N) (r : Fin 8) (k : Fin 1024) :
    iblk m c 0 t (ix2 r k) = m ((c : Thread nD τ).loc main_arg0) (ix2 r k) := by
  obtain ⟨e0, e1, e2, e3⟩ := idx t
  blk_ext [iblk, V, e0]

theorem block1 (c : Dev nD) (t : Fin cfg0.N) (k n : Fin 1024) :
    iblk m c 1 t (ix3 0 k n) = m ((c : Thread nD τ).loc main_arg1) (ix3 (layer t) k (column t n)) := by
  obtain ⟨e0, e1, e2, e3⟩ := idx t
  blk_ext [iblk, V, e1, layer, column]

/-- The bias as the host hands it over. -/
theorem entry2 (c : Dev nD) (l : Fin 2) (n : Fin 6144) :
    V m c main_v0 (ix3 l 0 n) = m ((c : Thread nD τ).loc main_arg2) (ix2 l n) := by
  entry_read
  pointwise

theorem block2 (c : Dev nD) (t : Fin cfg0.N) (n : Fin 1024) :
    iblk m c 2 t (ix3 0 0 n) = m ((c : Thread nD τ).loc main_arg2) (ix2 (layer t) (column t n)) := by
  obtain ⟨e0, e1, e2, e3⟩ := idx t
  exact (congrArg (V m c main_v0) (by blk_ext [e2, layer, column] : ((cfg0.win 2).blk t).view.emb (ix3 0 0 n) = ix3 (layer t) 0 (column t n))).trans (entry2 m c _ _)

/-- What the body stores at a row and a column of block `t` is the reference there. -/
theorem point (c : Dev nD) (t : Fin cfg0.N) (r : Fin 8) (n : Fin 1024) :
    out0_3 (iblk m c 0 t) (iblk m c 1 t) (iblk m c 2 t) (ix3 0 r n) = REF m c (ix3 (layer t) r (column t n)) := by
  rw [out_at, REF, Cert.ModulationRefIdeal.Value.result_at]
  simp only [block0, block1, block2]

/-- The result array after the run: the blocks tile it. -/
theorem final (c : Dev nD) : (dats m 0 c).arrAt 3 (cfgs 0).N = REF m c := by
  refine (dats m 0 c).arrAt_eq_of_covers 3 _ (by decide +kernel) fun t hf y => ?_
  idx_vars y
  obtain ⟨e0, e1, e2, e3⟩ := idx t
  have hy : y0 = 0 := by omega
  subst hy
  have he : ((cfg0.win 3).blk t).view.emb (ix3 0 y1 y2) = ix3 (layer t) y1 (column t y2) := by
    blk_ext [e3, layer, column]
  rw [he]
  blk_simp; rw [after0_3]
  exact point m c t y1 y2

end Cert.ModulationIdeal.Value

end
-- ==== Proof.FfnFirstKernel.lean ====
/- What the body of the first layer's feed-forward stores, which has no final norm, read at a row and a column of the block: the layer of that row. -/
module

public import proofs.«01_k».proof.Proof.Gen.FfnFirstIdeal.Frame
public import proofs.«01_k».proof.Proof.FfnMath
public import Idealize.ShloMosaic.Lib.Pipeline.ValueKit

@[expose] public section

set_option maxRecDepth 16384

noncomputable section

open Idealize.ShloMosaic Idealize.ShloMosaic.TcCoe Idealize.SL.Sem
open scoped BigOperators

namespace Cert.FfnFirstIdeal.Value

open Cert.FfnFirstIdeal Cert.FfnFirstIdeal.Gen Cert.Layer

/-- One of the products of the normalised rows with 256 columns of the first weights. -/
def columns (h : FVec Ideal S512x1024 .bf16) (w : Vec Ideal S1x1024x256 .bf16) : FVec Ideal S512x256 .f32 :=
  matmul dot_S512x1024_S1024x256_S512x256_1_0_0_1_n_n none h
    (shapeCast S1024x256 w shapeCasts_S1x1024x256_S1024x256 : FVec Ideal S1024x256 .bf16)
    (constant S512x256 .f32 0x00000000#32)

/-- The gated product of two such blocks of columns. -/
def gated (a b : FVec Ideal S512x256 .f32) : FVec Ideal S512x256 .bf16 :=
  truncf .bf16 (mulf (mulf a (mulf (broadcast S512x256 (Scalar.ofBits .f32 0x3F000000#32))
    (addf (broadcast S512x256 (Scalar.ofBits .f32 0x3F800000#32))
      (tanh (mulf (broadcast S512x256 (Scalar.ofBits .f32 0x3F000000#32)) a))))) b) bitsLt_bf16_f32

/-- The contribution of 256 hidden columns to the output. -/
def chunk (h : FVec Ideal S512x1024 .bf16) (wg wu : Vec Ideal S1x1024x256 .bf16) (wo : Vec Ideal S1x256x1024 .bf16) :
    FVec Ideal S512x1024 .f32 :=
  matmul dot_S512x256_S256x1024_S512x1024_1_0_0_1_n_n none (gated (columns h wg) (columns h wu))
    (shapeCast S256x1024 wo shapeCasts_S1x256x1024_S256x1024 : FVec Ideal S256x1024 .bf16) (constant S512x1024 .f32 0x00000000#32)

/-- The eleven contributions, added one after another to zero. -/
def accumulated (h : FVec Ideal S512x1024 .bf16) (x3 : Vec Ideal S1x1024x5632 .bf16) (x4 : Vec Ideal S1x2816x1024 .bf16) :
    FVec Ideal S512x1024 .f32 :=
  (addf (addf (addf (addf (addf (addf (addf (addf (addf (addf (addf (broadcast S512x1024 (Scalar.ofBits .f32 0x00000000#32))
    (chunk h (View.ld x3 r0_4) (View.ld x3 r0_5) (View.ld x4 r0_6)))
    (chunk h (View.ld x3 r0_7) (View.ld x3 r0_8) (View.ld x4 r0_9)))
    (chunk h (View.ld x3 r0_10) (View.ld x3 r0_11) (View.ld x4 r0_12)))
    (chunk h (View.ld x3 r0_13) (View.ld x3 r0_14) (View.ld x4 r0_15)))
    (chunk h (View.ld x3 r0_16) (View.ld x3 r0_17) (View.ld x4 r0_18)))
    (chunk h (View.ld x3 r0_19) (View.ld x3 r0_20) (View.ld x4 r0_21)))
    (chunk h (View.ld x3 r0_22) (View.ld x3 r0_23) (View.ld x4 r0_24)))
    (chunk h (View.ld x3 r0_25) (View.ld x3 r0_26) (View.ld x4 r0_27)))
    (chunk h (View.ld x3 r0_28) (View.ld x3 r0_29) (View.ld x4 r0_30)))
    (chunk h (View.ld x3 r0_31) (View.ld x3 r0_32) (View.ld x4 r0_33)))
    (chunk h (View.ld x3 r0_34) (View.ld x3 r0_35) (View.ld x4 r0_36)))

/-- The residual stream after the layer, of the block's 512 rows. -/
def added (x0 : Vec Ideal S512x1024 .f32) (x1 : Vec Ideal S1x1x6144 .f32) (acc : FVec Ideal S512x1024 .f32) : FVec Ideal S512x1024 .f32 :=
  addf x0 (mulf (broadcastTo S512x1024 (shapeCast S1x1024 (View.ld x1 r0_37) shapeCasts_S1x1x1024_S1x1024) broadcasts_S1x1024_S512x1024) acc)

/-- The block the body stores, of the blocks it reads. -/
def stored (x0 : Vec Ideal S512x1024 .f32) (x1 : Vec Ideal S1x1x6144 .f32) (x2 : Vec Ideal S1x1024 .f32)
    (x3 : Vec Ideal S1x1024x5632 .bf16) (x4 : Vec Ideal S1x2816x1024 .bf16) : FVec Ideal S512x1024 .f32 :=
  added x0 x1 (accumulated (k0_pay2 x0 x2 (View.ld x1 r0_2) (View.ld x1 r0_3)) x3 x4)

variable (x0 : Vec Ideal S512x1024 .f32) (x1 : Vec Ideal S1x1x6144 .f32) (x2 : Vec Ideal S1x1024 .f32)
variable (x3 : Vec Ideal S1x1024x5632 .bf16) (x4 : Vec Ideal S1x2816x1024 .bf16) (x5 : Vec Ideal S1x1024 .f32)

/-- The normalised rows at a row and a column. -/
theorem hidden_at (r : Fin 512) (k : Fin 1024) :
    k0_pay2 x0 x2 (View.ld x1 r0_2) (View.ld x1 r0_3) (ix2 r k)
      = modulated (fun l => x0 (ix2 r l)) (fun l => x2 (ix2 0 l))
          (fun l => x1 (ix3 0 0 ⟨4096 + l, by omega⟩)) (fun l => x1 (ix3 0 0 ⟨3072 + l, by omega⟩)) k := by
  pointwise [k0_pay2, modulated, rmsFactor]

theorem columns_at (h : FVec Ideal S512x1024 .bf16) (w : Vec Ideal S1x1024x256 .bf16) (r : Fin 512) (f : Fin 256) :
    columns h w (ix2 r f) = ∑ k : Fin 1024, h (ix2 r k) * w (ix3 0 k f) := by
  pointwise! [columns]

theorem chunk_at (h : FVec Ideal S512x1024 .bf16) (wg wu : Vec Ideal S1x1024x256 .bf16) (wo : Vec Ideal S1x256x1024 .bf16)
    (r : Fin 512) (n : Fin 1024) :
    chunk h wg wu wo (ix2 r n) = ∑ f : Fin 256, swiglu (∑ k : Fin 1024, h (ix2 r k) * wg (ix3 0 k f))
      (∑ k : Fin 1024, h (ix2 r k) * wu (ix3 0 k f)) * wo (ix3 0 f n) := by
  pointwise [chunk, gated, swiglu, columns_at, half_tanh]

/-- Eleven terms added one after another to zero are their sum. -/
theorem sum_eleven (T : Fin 11 → EReal) :
    ∑ j, T j = 0 + T 0 + T 1 + T 2 + T 3 + T 4 + T 5 + T 6 + T 7 + T 8 + T 9 + T 10 := by
  rw [Fin.sum_univ_castSucc, Fin.sum_univ_castSucc, Fin.sum_univ_castSucc, Fin.sum_univ_eight, zero_add]
  rfl

theorem accumulated_at (h : FVec Ideal S512x1024 .bf16) (r : Fin 512) (n : Fin 1024) :
    accumulated h x3 x4 (ix2 r n) = ffnRow (fun k => h (ix2 r k)) (fun k f => x3 (ix3 0 k f)) (fun f n => x4 (ix3 0 f n)) n := by
  rw [ffnRow, Fin.sum_univ_tiles 11 256 rfl, sum_eleven]
  pointwise [accumulated, chunk_at]
  simp only [← Nat.add_assoc, Nat.reduceAdd]

/-- WHAT THE BODY STORES at a row and a column is the layer of that row. -/
theorem stored_at (r : Fin 512) (n : Fin 1024) :
    stored x0 x1 x2 x3 x4 (ix2 r n)
      = ffnResidual (fun l => x0 (ix2 r l)) (fun l => x2 (ix2 0 l)) (fun l => x1 (ix3 0 0 ⟨4096 + l, by omega⟩))
          (fun l => x1 (ix3 0 0 ⟨3072 + l, by omega⟩)) (fun l => x1 (ix3 0 0 ⟨5120 + l, by omega⟩))
          (fun k f => x3 (ix3 0 k f)) (fun f n => x4 (ix3 0 f n)) n := by
  have hh : (fun k => k0_pay2 x0 x2 (View.ld x1 r0_2) (View.ld x1 r0_3) (ix2 r k)) = _ := funext fun k => hidden_at x0 x1 x2 r k
  pointwise [stored, added, ffnResidual, accumulated_at, hh]

/-- The body's result, as printed, is `stored` of the blocks. -/
theorem out_eq (r : Fin 512) (n : Fin 1024) : out0_6 x0 x1 x2 x3 x4 x5 (ix2 r n) = stored x0 x1 x2 x3 x4 (ix2 r n) := by
  have h22 : k0_pay22 x0 x1 x2 x3 x4 x5 = k0_pay2 x0 x2 (View.ld x1 r0_2) (View.ld x1 r0_3) := by
    unfold k0_pay22
    simp (disch := decide) only [View.ld_unit_lit']
  have h4 : ∀ v0 v1 v15 v21 w, k0_pay4 (F := Ideal) v0 v1 v15 v21 w = columns (k0_pay2 v0 v1 v15 v21) w := fun _ _ _ _ _ => rfl
  have h5 : ∀ v0 v1 v15 v21 w, k0_pay5 (F := Ideal) v0 v1 v15 v21 w = columns (k0_pay2 v0 v1 v15 v21) w := fun _ _ _ _ _ => rfl
  have h6 : ∀ v0 v1 v15 v21 w, k0_pay6 (F := Ideal) v0 v1 v15 v21 w
      = mulf (broadcast S512x256 (Scalar.ofBits .f32 0x3F000000#32)) (columns (k0_pay2 v0 v1 v15 v21) w) := fun _ _ _ _ _ => rfl
  unfold out0_6
  frame_out
  rw [h22, h4, h5, h6, stored, accumulated]
  generalize k0_pay2 x0 x2 (View.ld x1 r0_2) (View.ld x1 r0_3) = h
  rfl

end Cert.FfnFirstIdeal.Value

end
-- ==== Proof.FfnFirstReference.lean ====
/- The reference of the feed-forward of the first layer, which has no final norm, read at a token and a column: the layer of that token's row. -/
module

public import proofs.«01_k».proof.Proof.Gen.FfnFirstRefIdeal.Run
public import proofs.«01_k».proof.Proof.FfnReference
public import Idealize.ShloMosaic.Lib.Pipeline.ValueKit

@[expose] public section

set_option maxRecDepth 16384

noncomputable section

open Idealize.ShloMosaic Idealize.ShloMosaic.TcCoe Idealize.SL.Sem
open scoped BigOperators

namespace Cert.FfnFirstRefIdeal.Value

open Cert.FfnFirstRefIdeal Cert.FfnFirstRefIdeal.Gen Cert.Layer

variable (a0 : FVec Ideal S16384x1024 .f32) (a1 : FVec Ideal S2x8x6144 .f32) (a2 : FVec Ideal S2x1024 .f32)
variable (a3 : FVec Ideal S2x1024x5632 .f32) (a4 : FVec Ideal S2x2816x1024 .f32)

/-- Every token's modulation row. -/
def modRows : FVec Ideal S16384x6144 .f32 :=
  concatenate S16384x6144 0 [⟨S8192x6144, (broadcastInDim S8192x6144 ![0, 1] bcast_S1x6144_S8192x6144_0_1 (extractStridedSlice S1x6144 ![0, 0] (shapeCast _ (extractStridedSlice S1x8x6144 ![0, 0, 0] a1 slices_S2x8x6144_S1x8x6144_0_0_0) shapeCasts_S1x8x6144_S8x6144) slices_S8x6144_S1x6144_0_0))⟩, ⟨S8192x6144, (shapeCast _ (broadcastInDim S4x2048x6144 ![0, 1, 2] bcast_S4x1x6144_S4x2048x6144_0_1_2 (broadcastInDim S4x1x6144 ![0, 2] bcast_S4x6144_S4x1x6144_0_2 (extractStridedSlice S4x6144 ![1, 0] (shapeCast _ (extractStridedSlice S1x8x6144 ![0, 0, 0] a1 slices_S2x8x6144_S1x8x6144_0_0_0) shapeCasts_S1x8x6144_S8x6144) slices_S8x6144_S4x6144_1_0))) shapeCasts_S4x2048x6144_S8192x6144)⟩] concatenates_S8192x6144_S8192x6144_S16384x6144_d0

/-- A row times its root-mean-square factor. -/
def scaled (x : FVec Ideal S16384x1024 .f32) : FVec Ideal S16384x1024 .f32 :=
  mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))

/-- The normalised and modulated rows. -/
def hidden : FVec Ideal S16384x1024 .f32 :=
  addf (mulf (mulf (scaled a0) (broadcastInDim S16384x1024 ![0, 1] bcast_S1x1024_S16384x1024_0_1 (broadcastInDim S1x1024 ![1] bcast_S1024_S1x1024_1 (shapeCast _ (extractStridedSlice S1x1024 ![0, 0] a2 slices_S2x1024_S1x1024_0_0) shapeCasts_S1x1024_S1024)))) (addf (broadcastInDim S16384x1024 ![] bcast_S_S16384x1024 (constant S_ .f32 0x3F800000#32)) (extractStridedSlice S16384x1024 ![0, 4096] (modRows a1) slices_S16384x6144_S16384x1024_0_4096))) (extractStridedSlice S16384x1024 ![0, 3072] (modRows a1) slices_S16384x6144_S16384x1024_0_3072)

/-- Both halves of the hidden layer. -/
def halves (h : FVec Ideal S16384x1024 .f32) : FVec Ideal S16384x5632 .f32 :=
  Host.dotGeneral dot_S16384x1024_S1024x5632_S16384x5632_1_0_0_1_n_n none h (shapeCast _ (extractStridedSlice S1x1024x5632 ![0, 0, 0] a3 slices_S2x1024x5632_S1x1024x5632_0_0_0) shapeCasts_S1x1024x5632_S1024x5632 : FVec Ideal S1024x5632 .f32)

/-- The gated hidden layer. -/
def gated (gu : FVec Ideal S16384x5632 .f32) : FVec Ideal S16384x2816 .f32 :=
  mulf (mulf (extractStridedSlice S16384x2816 ![0, 0] gu slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] gu slices_S16384x5632_S16384x2816_0_0)))))) (extractStridedSlice S16384x2816 ![0, 2816] gu slices_S16384x5632_S16384x2816_0_2816)

/-- The residual stream after the layer. -/
def added (act : FVec Ideal S16384x2816 .f32) : FVec Ideal S16384x1024 .f32 :=
  addf a0 (mulf (extractStridedSlice S16384x1024 ![0, 5120] (modRows a1) slices_S16384x6144_S16384x1024_0_5120) (Host.dotGeneral dot_S16384x2816_S2816x1024_S16384x1024_1_0_0_1_n_n none act (shapeCast _ (extractStridedSlice S1x2816x1024 ![0, 0, 0] a4 slices_S2x2816x1024_S1x2816x1024_0_0_0) shapeCasts_S1x2816x1024_S2816x1024 : FVec Ideal S2816x1024 .f32)))

/-- The reference's result. -/
def result : FVec Ideal S16384x1024 .f32 := added a0 a1 a4 (gated (halves a3 (hidden a0 a1 a2)))

/-- The run's result is `result` of the argument arrays. -/
theorem res_eq (m : (ℓ : Loc nD τ sig) → Buf (Elt Ideal) ℓ) (c : Dev nD) :
    res_main_v48 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- A token's modulation row is the row `rowOf` says. -/
theorem modRows_at (R : Fin 16384) (k : Fin 6144) : modRows a1 (ix2 R k) = a1 (ix3 0 (rowOf R) k) := by
  by_cases h : R.val < 8192
  · pointwise [modRows, rowOf, h]
  · pointwise [modRows, rowOf, h]

theorem scaled_at (x : FVec Ideal S16384x1024 .f32) (R : Fin 16384) (k : Fin 1024) :
    scaled x (ix2 R k) = x (ix2 R k) * rmsFactor (fun l => x (ix2 R l)) := by
  pointwise [scaled, rmsFactor]

theorem hidden_at (R : Fin 16384) (k : Fin 1024) :
    hidden a0 a1 a2 (ix2 R k) = modulated (fun l => a0 (ix2 R l)) (fun l => a2 (ix2 0 l))
      (fun l => a1 (ix3 0 (rowOf R) ⟨4096 + l, by omega⟩)) (fun l => a1 (ix3 0 (rowOf R) ⟨3072 + l, by omega⟩)) k := by
  pointwise [hidden, modulated, scaled_at, modRows_at]

theorem halves_at (h : FVec Ideal S16384x1024 .f32) (R : Fin 16384) (f : Fin 5632) :
    halves a3 h (ix2 R f) = ∑ k : Fin 1024, h (ix2 R k) * a3 (ix3 0 k f) := by
  pointwise [halves]

theorem added_at (gu : FVec Ideal S16384x5632 .f32) (R : Fin 16384) (n : Fin 1024) :
    added a0 a1 a4 (gated gu) (ix2 R n) = a0 (ix2 R n) + a1 (ix3 0 (rowOf R) ⟨5120 + n, by omega⟩)
      * ∑ f : Fin 2816, swiglu (gu (ix2 R ⟨f, by omega⟩)) (gu (ix2 R ⟨2816 + f, by omega⟩)) * a4 (ix3 0 f n) := by
  pointwise [added, gated, swiglu, modRows_at]

/-- THE REFERENCE'S RESULT at a token and a column is the layer of that token's row. -/
theorem result_at (R : Fin 16384) (n : Fin 1024) :
    result a0 a1 a2 a3 a4 (ix2 R n)
      = ffnResidual (fun l => a0 (ix2 R l)) (fun l => a2 (ix2 0 l)) (fun l => a1 (ix3 0 (rowOf R) ⟨4096 + l, by omega⟩))
          (fun l => a1 (ix3 0 (rowOf R) ⟨3072 + l, by omega⟩)) (fun l => a1 (ix3 0 (rowOf R) ⟨5120 + l, by omega⟩))
          (fun k f => a3 (ix3 0 k f)) (fun f n => a4 (ix3 0 f n)) n := by
  rw [result, added_at, ffnResidual, ffnRow]
  simp only [halves_at, hidden_at]

end Cert.FfnFirstRefIdeal.Value

end
-- ==== Proof.FfnFirstFinal.lean ====
/- The result array of the first layer's feed-forward after the run is the reference's result. -/
module

public import proofs.«01_k».proof.Proof.FfnFirstKernel
public import proofs.«01_k».proof.Proof.FfnFirstReference
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnFirstIdeal.Value

open Cert.FfnFirstIdeal Cert.FfnFirstIdeal.Gen Cert.Layer

variable (m : (ℓ : Loc nD τ sig) → Buf (Elt Ideal) ℓ)

/-- The reference's result over the kernel's argument arrays. -/
abbrev REF (c : Dev nD) : FVec Ideal S16384x1024 .f32 :=
  Cert.FfnFirstRefIdeal.Value.result (m ((c : Thread nD τ).loc main_arg0)) (m ((c : Thread nD τ).loc main_arg1))
    (m ((c : Thread nD τ).loc main_arg2)) (m ((c : Thread nD τ).loc main_arg3)) (m ((c : Thread nD τ).loc main_arg4))

/-- Every window's block index at every grid point (decided). -/
theorem idx : ∀ t : Fin cfg0.N, win0_0.index t = ![t.val, 0]
    ∧ win0_1.index t = ![if t.val < 16 then 0 else 1 + (t.val - 16) / 4, 0, 0]
    ∧ win0_2.index t = ![0, 0]
    ∧ win0_3.index t = ![0, 0, 0]
    ∧ win0_4.index t = ![0, 0, 0]
    ∧ win0_5.index t = ![0, 0]
    ∧ win0_6.index t = ![t.val, 0] :=
  (by decide +kernel : ∀ t : Fin grid0.N, _)

/-- The token of row `r` of block `t`. -/
def token (t : Fin cfg0.N) (r : Fin 512) : Fin 16384 := ⟨t.val * 512 + r.val, by have h : t.val < 32 := t.isLt; omega⟩

theorem block0 (c : Dev nD) (t : Fin cfg0.N) (r : Fin 512) (l : Fin 1024) :
    iblk m c 0 t (ix2 r l) = m ((c : Thread nD τ).loc main_arg0) (ix2 (token t r) l) := by
  obtain ⟨e0, e1, e2, e3, e4, e5, e6⟩ := idx t
  blk_ext [iblk, V, e0, token]

/-- The arrays the host code prepares, read at an index. -/
theorem entry1 (c : Dev nD) (b : Fin 8) (l : Fin 6144) :
    V m c main_v7 (ix3 b 0 l) = m ((c : Thread nD τ).loc main_arg1) (ix3 0 b l) := by
  entry_read
  pointwise

theorem entry2 (c : Dev nD) (l : Fin 1024) :
    V m c main_v2 (ix2 0 l) = m ((c : Thread nD τ).loc main_arg2) (ix2 0 l) := by
  entry_read
  pointwise

theorem entry3 (c : Dev nD) (k : Fin 1024) (f : Fin 5632) :
    V m c main_v3 (ix3 0 k f) = m ((c : Thread nD τ).loc main_arg3) (ix3 0 k f) := by
  entry_read
  pointwise

theorem entry4 (c : Dev nD) (k : Fin 2816) (f : Fin 1024) :
    V m c main_v4 (ix3 0 k f) = m ((c : Thread nD τ).loc main_arg4) (ix3 0 k f) := by
  entry_read
  pointwise

theorem block1 (c : Dev nD) (t : Fin cfg0.N) (r : Fin 512) (l : Fin 6144) :
    iblk m c 1 t (ix3 0 0 l) = m ((c : Thread nD τ).loc main_arg1) (ix3 0 (rowOf (token t r)) l) := by
  obtain ⟨e0, e1, e2, e3, e4, e5, e6⟩ := idx t
  have h32 : t.val < 32 := t.isLt
  refine (congrArg (V m c main_v7) (?_ : ((cfg0.win 1).blk t).view.emb (ix3 0 0 l) = ix3 (rowOf (token t r)) 0 l)).trans (entry1 m c _ l)
  by_cases h : t.val < 16
  · have : rowOf (token t r) = 0 := by rw [rowOf, dif_pos (by simp only [token]; omega)]
    rw [this]
    rw [if_pos h] at e1
    blk_ext [e1]
  · have : (rowOf (token t r)).val = 1 + (t.val - 16) / 4 := by
      rw [rowOf, dif_neg (by simp only [token]; omega)]; simp only [token]; omega
    rw [if_neg h] at e1
    blk_ext [e1]

theorem block2 (c : Dev nD) (t : Fin cfg0.N) (l : Fin 1024) :
    iblk m c 2 t (ix2 0 l) = m ((c : Thread nD τ).loc main_arg2) (ix2 0 l) := by
  obtain ⟨e0, e1, e2, e3, e4, e5, e6⟩ := idx t
  exact (congrArg (V m c main_v2) (by blk_ext [e2] : ((cfg0.win 2).blk t).view.emb (ix2 0 l) = ix2 0 l)).trans (entry2 m c l)

theorem block3 (c : Dev nD) (t : Fin cfg0.N) (k : Fin 1024) (f : Fin 5632) :
    iblk m c 3 t (ix3 0 k f) = m ((c : Thread nD τ).loc main_arg3) (ix3 0 k f) := by
  obtain ⟨e0, e1, e2, e3, e4, e5, e6⟩ := idx t
  exact (congrArg (V m c main_v3) (by blk_ext [e3] : ((cfg0.win 3).blk t).view.emb (ix3 0 k f) = ix3 0 k f)).trans (entry3 m c k f)

theorem block4 (c : Dev nD) (t : Fin cfg0.N) (k : Fin 2816) (f : Fin 1024) :
    iblk m c 4 t (ix3 0 k f) = m ((c : Thread nD τ).loc main_arg4) (ix3 0 k f) := by
  obtain ⟨e0, e1, e2, e3, e4, e5, e6⟩ := idx t
  exact (congrArg (V m c main_v4) (by blk_ext [e4] : ((cfg0.win 4).blk t).view.emb (ix3 0 k f) = ix3 0 k f)).trans (entry4 m c k f)

/-- POINT: what the body stores at a row and a column of block `t` is the reference there. -/
theorem point (c : Dev nD) (t : Fin cfg0.N) (r : Fin 512) (n : Fin 1024) :
    out0_6 (iblk m c 0 t) (iblk m c 1 t) (iblk m c 2 t) (iblk m c 3 t) (iblk m c 4 t) (iblk m c 5 t) (ix2 r n)
      = REF m c (ix2 (token t r) n) := by
  rw [out_eq, stored_at, REF, Cert.FfnFirstRefIdeal.Value.result_at]
  simp only [block0, block1 m c t r, block2, block3, block4]

/-- THE RESULT ARRAY after the run: the blocks tile it. -/
theorem final (c : Dev nD) : (dats m 0 c).arrAt 6 (cfgs 0).N = REF m c := by
  refine (dats m 0 c).arrAt_eq_of_covers 6 _ (by decide +kernel) fun t hf y => ?_
  idx_vars y
  obtain ⟨e0, e1, e2, e3, e4, e5, e6⟩ := idx t
  have he : ((cfg0.win 6).blk t).view.emb (ix2 y0 y1) = ix2 (token t y0) y1 := by
    blk_ext [e6, token]
  rw [he]
  blk_simp; rw [after0_6]
  exact point m c t y0 y1

end Cert.FfnFirstIdeal.Value

end
-- ==== Proof.lean ====
/- The claims of this certificate, each taken from the run of its program. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.Relayout
public import proofs.«01_k».proof.Proof.Gen.Relayout.Skeleton
public import proofs.«01_k».proof.Proof.Gen.Relayout.Launch
public import proofs.«01_k».proof.Proof.Gen.Relayout.Points
public import proofs.«01_k».proof.Proof.Gen.Relayout.Frame
public import proofs.«01_k».proof.Proof.Gen.RelayoutIdeal
public import proofs.«01_k».proof.Proof.Gen.RelayoutIdeal.Skeleton
public import proofs.«01_k».proof.Proof.Gen.RelayoutIdeal.Launch
public import proofs.«01_k».proof.Proof.Gen.RelayoutIdeal.Points
public import proofs.«01_k».proof.Proof.Gen.RelayoutIdeal.Frame
public import proofs.«01_k».proof.Proof.Gen.RelayoutRefIdeal
public import proofs.«01_k».proof.Proof.Gen.Split
public import proofs.«01_k».proof.Proof.Gen.Split.Skeleton
public import proofs.«01_k».proof.Proof.Gen.Split.Launch
public import proofs.«01_k».proof.Proof.Gen.Split.Points
public import proofs.«01_k».proof.Proof.Gen.Split.Frame
public import proofs.«01_k».proof.Proof.Gen.SplitIdeal
public import proofs.«01_k».proof.Proof.Gen.SplitIdeal.Skeleton
public import proofs.«01_k».proof.Proof.Gen.SplitIdeal.Launch
public import proofs.«01_k».proof.Proof.Gen.SplitIdeal.Points
public import proofs.«01_k».proof.Proof.Gen.SplitIdeal.Frame
public import proofs.«01_k».proof.Proof.Gen.SplitRefIdeal
public import proofs.«01_k».proof.Proof.Gen.Assemble
public import proofs.«01_k».proof.Proof.Gen.Assemble.Skeleton
public import proofs.«01_k».proof.Proof.Gen.Assemble.Launch
public import proofs.«01_k».proof.Proof.Gen.Assemble.Points
public import proofs.«01_k».proof.Proof.Gen.Assemble.Frame
public import proofs.«01_k».proof.Proof.Gen.AssembleIdeal
public import proofs.«01_k».proof.Proof.Gen.AssembleIdeal.Skeleton
public import proofs.«01_k».proof.Proof.Gen.AssembleIdeal.Launch
public import proofs.«01_k».proof.Proof.Gen.AssembleIdeal.Points
public import proofs.«01_k».proof.Proof.Gen.AssembleIdeal.Frame
public import proofs.«01_k».proof.Proof.Gen.AssembleRefIdeal
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationRefIdeal
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstRefIdeal
public import proofs.«01_k».proof.Proof.Gen.FfnIdeal.Value
public import proofs.«01_k».proof.Proof.Gen.FfnRefIdeal.Run
public import proofs.«01_k».proof.Proof.Gen.InprojIdeal.Value
public import proofs.«01_k».proof.Proof.Gen.InprojRefIdeal.Run
public import proofs.«01_k».proof.Proof.Gen.PostIdeal.Value
public import proofs.«01_k».proof.Proof.Gen.PostRefIdeal.Run
public import proofs.«01_k».proof.Proof.Gen.RelayoutIdeal.Value
public import proofs.«01_k».proof.Proof.Gen.RelayoutRefIdeal.Run
public import proofs.«01_k».proof.Proof.Gen.AssembleIdeal.Value
public import proofs.«01_k».proof.Proof.Gen.AssembleRefIdeal.Run
public import proofs.«01_k».proof.Proof.Gen.ModulationIdeal.Value
public import proofs.«01_k».proof.Proof.Gen.ModulationRefIdeal.Run
public import proofs.«01_k».proof.Proof.Gen.FfnFirstIdeal.Value
public import proofs.«01_k».proof.Proof.Gen.FfnFirstRefIdeal.Run
public import proofs.«01_k».proof.Proof.FfnFinal
public import proofs.«01_k».proof.Proof.InprojFinal
public import proofs.«01_k».proof.Proof.PostFinal
public import proofs.«01_k».proof.Proof.RelayoutFinal
public import proofs.«01_k».proof.Proof.SplitFrame
public import proofs.«01_k».proof.Proof.SplitFinal
public import proofs.«01_k».proof.Proof.AssembleFinal
public import proofs.«01_k».proof.Proof.ModulationFinal
public import proofs.«01_k».proof.Proof.FfnFirstFinal
public import Idealize.ShloMosaic.Lib.Claim
public import Idealize.ShloMosaic.Adequacy
public import Idealize.ShloMosaic.Init

@[expose] public section

set_option maxRecDepth 16384

noncomputable section

-- The claims about the programs also say that every semaphore counter ends at zero; the proof shows that too.

namespace Cert.Proof

open Idealize.ShloMosaic Idealize.SL.Sem Cert.Kernel

/-- The reference of the feed-forward call runs, leaves its arguments alone and ends with no semaphore raised. -/
theorem frame_ffnRef : Cert.quiescent_FfnRefIdeal (hFfnRefIdeal := Cert.FfnRefIdeal.Gen.facts) := fun m ρ _ =>
  (θ_run Cert.FfnRefIdeal.defs _ _).mono
    (fun r h => ⟨fun c => (h c).2, sem_eq_zero_of_no_sems (by decide) r.2⟩) (Cert.FfnRefIdeal.Value.run m ρ)

/-- The reference of the input projection runs, leaves its arguments alone and ends with no semaphore raised. -/
theorem frame_inprojRef : Cert.quiescent_InprojRefIdeal (hInprojRefIdeal := Cert.InprojRefIdeal.Gen.facts) := fun m ρ _ =>
  (θ_run Cert.InprojRefIdeal.defs _ _).mono
    (fun r h => ⟨fun c => (h c).2.2, sem_eq_zero_of_no_sems (by decide) r.2⟩) (Cert.InprojRefIdeal.Value.run m ρ)

/-- The reference of the merge call runs, leaves its arguments alone and ends with no semaphore raised. -/
theorem frame_postRef : Cert.quiescent_PostRefIdeal (hPostRefIdeal := Cert.PostRefIdeal.Gen.facts) := fun m ρ _ =>
  (θ_run Cert.PostRefIdeal.defs _ _).mono
    (fun r h => ⟨fun c => (h c).2, sem_eq_zero_of_no_sems (by decide) r.2⟩) (Cert.PostRefIdeal.Value.run m ρ)

/-- The reference of the call that sorts the weights' columns runs, leaves its arguments alone and ends with no semaphore raised. -/
theorem frame_relayoutRef : Cert.quiescent_RelayoutRefIdeal (hRelayoutRefIdeal := Cert.RelayoutRefIdeal.Gen.facts) := fun m ρ _ =>
  (θ_run Cert.RelayoutRefIdeal.defs _ _).mono
    (fun r h => ⟨fun c => (h c).2.2, sem_eq_zero_of_no_sems (by decide) r.2⟩) (Cert.RelayoutRefIdeal.Value.run m ρ)

/-- The reference of the split call runs, leaves its arguments alone and ends with no semaphore raised. -/
theorem frame_splitRef : Cert.quiescent_SplitRefIdeal (hSplitRefIdeal := Cert.SplitRefIdeal.Gen.facts) := fun m ρ _ =>
  (θ_run Cert.SplitRefIdeal.defs _ _).mono
    (fun r h => ⟨fun c => (h c).2.2, sem_eq_zero_of_no_sems (by decide) r.2⟩) (Cert.SplitRefIdeal.Value.run m ρ)

/-- The reference of the assembling call runs, leaves its arguments alone and ends with no semaphore raised. -/
theorem frame_assembleRef : Cert.quiescent_AssembleRefIdeal (hAssembleRefIdeal := Cert.AssembleRefIdeal.Gen.facts) := fun m ρ _ =>
  (θ_run Cert.AssembleRefIdeal.defs _ _).mono
    (fun r h => ⟨fun c => (h c).2, sem_eq_zero_of_no_sems (by decide) r.2⟩) (Cert.AssembleRefIdeal.Value.run m ρ)

/-- The reference of the call that makes the conditioning rows runs, leaves its arguments alone and ends with no semaphore raised. -/
theorem frame_modulationRef : Cert.quiescent_ModulationRefIdeal (hModulationRefIdeal := Cert.ModulationRefIdeal.Gen.facts) := fun m ρ _ =>
  (θ_run Cert.ModulationRefIdeal.defs _ _).mono
    (fun r h => ⟨fun c => (h c).2, sem_eq_zero_of_no_sems (by decide) r.2⟩) (Cert.ModulationRefIdeal.Value.run m ρ)

/-- The reference of the first layer's feed-forward call runs, leaves its arguments alone and ends with no semaphore raised. -/
theorem frame_ffnfirstRef : Cert.quiescent_FfnFirstRefIdeal (hFfnFirstRefIdeal := Cert.FfnFirstRefIdeal.Gen.facts) := fun m ρ _ =>
  (θ_run Cert.FfnFirstRefIdeal.defs _ _).mono
    (fun r h => ⟨fun c => (h c).2, sem_eq_zero_of_no_sems (by decide) r.2⟩) (Cert.FfnFirstRefIdeal.Value.run m ρ)

/-- The feed-forward call and its reference end with the same array. -/
theorem algebraic_ffn : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    rw [Cert.FfnIdeal.Value.final m c, Cert.FfnRefIdeal.Value.res_eq m' c]
    obtain ⟨h0, h1, h2, h3, h4, h5⟩ := hagree c
    rw [h0, h1, h2, h3, h4, h5]

/-- The input projection and its reference end with the same arrays. -/
theorem algebraic_inproj : Cert.algebraic_InprojIdeal_InprojRefIdeal (hInprojIdeal := Cert.InprojIdeal.Gen.facts)
    (hInprojRefIdeal := Cert.InprojRefIdeal.Gen.facts) := by
  pair_intro
  · run_from Cert.InprojIdeal.Gen.run_main m g
  · run_from Cert.InprojRefIdeal.Value.run m' g'
    · rw [Cert.InprojIdeal.Value.final_first m c]
      refine (Cert.InprojRefIdeal.Value.first_eq m' c).trans ?_
      obtain ⟨h0, h1, h2, h3, h4, h5, h6, h7, h8⟩ := hagree c
      rw [h0, h1, h2, h3, h5, h6, h7, h8]
    · rw [Cert.InprojIdeal.Value.final_second m c]
      obtain ⟨h0, h1, h2, h3, h4, h5, h6, h7, h8⟩ := hagree c
      rw [← h4]
      refine (Cert.InprojRefIdeal.Value.second_eq m' c).trans ?_
      rw [h0, h1, h2, h4]

/-- The merge call and its reference end with the same array. -/
theorem algebraic_post : Cert.algebraic_PostIdeal_PostRefIdeal (hPostIdeal := Cert.PostIdeal.Gen.facts)
    (hPostRefIdeal := Cert.PostRefIdeal.Gen.facts) := by
  pair_intro
  · run_from Cert.PostIdeal.Gen.run_main m g
  · run_from Cert.PostRefIdeal.Value.run m' g'
    rw [Cert.PostIdeal.Value.final m c, Cert.PostRefIdeal.Value.res_eq m' c]
    obtain ⟨h0, h1, h2, h3, h4, h5, h6, h7, h8, h9, h10⟩ := hagree c
    rw [h0, h1, h2, h3, h4, h5, h6, h7, h8, h9, h10]

/-- The call that sorts the weights' columns and its reference end with the same arrays. -/
theorem algebraic_relayout : Cert.algebraic_RelayoutIdeal_RelayoutRefIdeal (hRelayoutIdeal := Cert.RelayoutIdeal.Gen.facts)
    (hRelayoutRefIdeal := Cert.RelayoutRefIdeal.Gen.facts) := by
  pair_intro
  · run_from Cert.RelayoutIdeal.Gen.run_main m g
  · run_from Cert.RelayoutRefIdeal.Value.run m' g'
    · rw [Cert.RelayoutIdeal.Value.final_first m c]
      refine (Cert.RelayoutRefIdeal.Value.first_eq m' c).trans ?_
      rw [hagree c]
    · rw [Cert.RelayoutIdeal.Value.final_second m c]
      refine (Cert.RelayoutRefIdeal.Value.second_eq m' c).trans ?_
      rw [hagree c]

/-- The split call and its reference end with the same arrays. -/
theorem algebraic_split : Cert.algebraic_SplitIdeal_SplitRefIdeal (hSplitIdeal := Cert.SplitIdeal.Gen.facts)
    (hSplitRefIdeal := Cert.SplitRefIdeal.Gen.facts) := by
  pair_intro
  · run_from Cert.SplitIdeal.Gen.run_main m g
  · run_from Cert.SplitRefIdeal.Value.run m' g'
    · rw [Cert.SplitIdeal.Value.final_first m c]
    · rw [Cert.SplitIdeal.Value.final_second m c]

/-- The assembling call and its reference end with the same array. -/
theorem algebraic_assemble : Cert.algebraic_AssembleIdeal_AssembleRefIdeal (hAssembleIdeal := Cert.AssembleIdeal.Gen.facts)
    (hAssembleRefIdeal := Cert.AssembleRefIdeal.Gen.facts) := by
  pair_intro
  · run_from Cert.AssembleIdeal.Gen.run_main m g
  · run_from Cert.AssembleRefIdeal.Value.run_result m' g'
    rw [Cert.AssembleIdeal.Value.final m c]

/-- The call that makes the conditioning rows and its reference end with the same array. -/
theorem algebraic_modulation : Cert.algebraic_ModulationIdeal_ModulationRefIdeal (hModulationIdeal := Cert.ModulationIdeal.Gen.facts)
    (hModulationRefIdeal := Cert.ModulationRefIdeal.Gen.facts) := by
  pair_intro
  · run_from Cert.ModulationIdeal.Gen.run_main m g
  · run_from Cert.ModulationRefIdeal.Value.run_result m' g'
    rw [Cert.ModulationIdeal.Value.final m c]

/-- The first layer's feed-forward call and its reference end with the same array. -/
theorem algebraic_ffnfirst : Cert.algebraic_FfnFirstIdeal_FfnFirstRefIdeal (hFfnFirstIdeal := Cert.FfnFirstIdeal.Gen.facts)
    (hFfnFirstRefIdeal := Cert.FfnFirstRefIdeal.Gen.facts) := by
  pair_intro
  · run_from Cert.FfnFirstIdeal.Gen.run_main m g
  · run_from Cert.FfnFirstRefIdeal.Value.run m' g'
    rw [Cert.FfnFirstIdeal.Value.final m c, Cert.FfnFirstRefIdeal.Value.res_eq m' c]
    obtain ⟨h0, h1, h2, h3, h4, h5⟩ := hagree c
    rw [h0, h1, h2, h3, h4]

theorem claim : Cert.Claim := ⟨Cert.Kernel.Gen.facts, Cert.KernelIdeal.Gen.facts, Cert.Ffn.Gen.facts, Cert.FfnIdeal.Gen.facts, Cert.FfnRefIdeal.Gen.facts, Cert.Inproj.Gen.facts, Cert.InprojIdeal.Gen.facts, Cert.InprojRefIdeal.Gen.facts, Cert.Post.Gen.facts, Cert.PostIdeal.Gen.facts, Cert.PostRefIdeal.Gen.facts, Cert.Relayout.Gen.facts, Cert.RelayoutIdeal.Gen.facts, Cert.RelayoutRefIdeal.Gen.facts, Cert.Split.Gen.facts, Cert.SplitIdeal.Gen.facts, Cert.SplitRefIdeal.Gen.facts, Cert.Assemble.Gen.facts, Cert.AssembleIdeal.Gen.facts, Cert.AssembleRefIdeal.Gen.facts, Cert.Modulation.Gen.facts, Cert.ModulationIdeal.Gen.facts, Cert.ModulationRefIdeal.Gen.facts, Cert.FfnFirst.Gen.facts, Cert.FfnFirstIdeal.Gen.facts, Cert.FfnFirstRefIdeal.Gen.facts,
  fun m ρ _ => Cert.Kernel.Gen.frame m ρ,
  fun m ρ _ => Cert.KernelIdeal.Gen.frame m ρ,
  fun m ρ _ => Cert.Ffn.Gen.frame m ρ,
  fun m ρ _ => Cert.FfnIdeal.Gen.frame m ρ,
  frame_ffnRef,
  fun m ρ _ => Cert.Inproj.Gen.frame m ρ,
  fun m ρ _ => Cert.InprojIdeal.Gen.frame m ρ,
  frame_inprojRef,
  fun m ρ _ => Cert.Post.Gen.frame m ρ,
  fun m ρ _ => Cert.PostIdeal.Gen.frame m ρ,
  frame_postRef,
  fun m ρ _ => Cert.Relayout.Gen.frame m ρ,
  fun m ρ _ => Cert.RelayoutIdeal.Gen.frame m ρ,
  frame_relayoutRef,
  fun m ρ _ => Cert.Split.Gen.frame m ρ,
  fun m ρ _ => Cert.SplitIdeal.Gen.frame m ρ,
  frame_splitRef,
  fun m ρ _ => Cert.Assemble.Gen.frame m ρ,
  fun m ρ _ => Cert.AssembleIdeal.Gen.frame m ρ,
  frame_assembleRef,
  fun m ρ _ => Cert.Modulation.Gen.frame m ρ,
  fun m ρ _ => Cert.ModulationIdeal.Gen.frame m ρ,
  frame_modulationRef,
  fun m ρ _ => Cert.FfnFirst.Gen.frame m ρ,
  fun m ρ _ => Cert.FfnFirstIdeal.Gen.frame m ρ,
  frame_ffnfirstRef,
  trivial,
  trivial,
  algebraic_ffn,
  trivial,
  algebraic_inproj,
  trivial,
  algebraic_post,
  trivial,
  algebraic_relayout,
  trivial,
  algebraic_split,
  trivial,
  algebraic_assemble,
  trivial,
  algebraic_modulation,
  trivial,
  algebraic_ffnfirst⟩

end Cert.Proof

end
